-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_general_position [hPre_general_position : Cert.Pre_general_position.Facts] (m : (ℓ : Loc Cert.KernelIdeal.nD Cert.KernelIdeal.τ Cert.KernelIdeal.sig) → Buf (Elt Ideal) ℓ) : Prop :=
  ∀ c : Dev Cert.KernelIdeal.nD,
    (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_general_position [hPre_general_position : Cert.Pre_general_position.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_general_position [hKernelIdeal : Cert.KernelIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_general_position m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_general_position [hReferenceIdeal : Cert.ReferenceIdeal.Facts] [hPre_general_position : Cert.Pre_general_position.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_general_position m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_general_position [hKernelIdeal : Cert.KernelIdeal.Facts] [hReferenceIdeal : Cert.ReferenceIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_general_position m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_general_position : Cert.Pre_general_position.Facts),
    quiescent_Kernel (hKernel := hKernel)
    ∧ quiescent_KernelIdeal (hKernelIdeal := hKernelIdeal)
    ∧ quiescent_KernelIdeal_pre_general_position (hKernelIdeal := hKernelIdeal) (hPre_general_position := hPre_general_position)
    ∧ quiescent_ReferenceIdeal (hReferenceIdeal := hReferenceIdeal)
    ∧ quiescent_ReferenceIdeal_pre_general_position (hReferenceIdeal := hReferenceIdeal) (hPre_general_position := hPre_general_position)
    ∧ preserves_Kernel_KernelIdeal
    ∧ algebraic_KernelIdeal_ReferenceIdeal_pre_general_position (hKernelIdeal := hKernelIdeal) (hReferenceIdeal := hReferenceIdeal) (hPre_general_position := hPre_general_position)
-- ==== Pre_general_position.lean ====
abbrev S262144x8x2 : Shape := ⟨3, ![262144, 8, 2]⟩
abbrev S262144x8x1 : Shape := ⟨3, ![262144, 8, 1]⟩
abbrev S262144x8 : Shape := ⟨2, ![262144, 8]⟩
abbrev S1x8x8 : Shape := ⟨3, ![1, 8, 8]⟩
abbrev S_ : Shape := ⟨0, ![]⟩
abbrev S262144x7 : Shape := ⟨2, ![262144, 7]⟩
abbrev S262144x1 : Shape := ⟨2, ![262144, 1]⟩
abbrev S262144x1x8 : Shape := ⟨3, ![262144, 1, 8]⟩
abbrev S262144x8x8 : Shape := ⟨3, ![262144, 8, 8]⟩
abbrev S262144x16 : Shape := ⟨2, ![262144, 16]⟩
abbrev S262144x1x16 : Shape := ⟨3, ![262144, 1, 16]⟩
abbrev S262144x16x1 : Shape := ⟨3, ![262144, 16, 1]⟩
abbrev S262144x16x16 : Shape := ⟨3, ![262144, 16, 16]⟩
abbrev S1x16x16 : Shape := ⟨3, ![1, 16, 16]⟩

class Facts : Prop where
  slices_S262144x8x2_S262144x8x1_0_0_0 : S262144x8x2.Slices ![0, 0, 0] S262144x8x1
  shapeCasts_S262144x8x1_S262144x8 : S262144x8x1.ShapeCasts S262144x8
  slices_S262144x8x2_S262144x8x1_0_0_1 : S262144x8x2.Slices ![0, 0, 1] S262144x8x1
  bcast_S_S1x8x8 : S_.BroadcastsInDim S1x8x8 (![] : Fin 0 → Fin S1x8x8.rank)
  slices_S262144x8_S262144x7_0_1 : S262144x8.Slices ![0, 1] S262144x7
  slices_S262144x8_S262144x1_0_0 : S262144x8.Slices ![0, 0] S262144x1
  concatenates_S262144x7_S262144x1_S262144x8_d1 : Shape.Concatenates [S262144x7, S262144x1] S262144x8 1
  bcast_S262144x8_S262144x8x1_0_1 : S262144x8.BroadcastsInDim S262144x8x1 (![0, 1] : Fin 2 → Fin S262144x8x1.rank)
  bcast_S262144x8_S262144x1x8_0_2 : S262144x8.BroadcastsInDim S262144x1x8 (![0, 2] : Fin 2 → Fin S262144x1x8.rank)
  bcast_S262144x8x1_S262144x8x8_0_1_2 : S262144x8x1.BroadcastsInDim S262144x8x8 (![0, 1, 2] : Fin 3 → Fin S262144x8x8.rank)
  bcast_S262144x1x8_S262144x8x8_0_1_2 : S262144x1x8.BroadcastsInDim S262144x8x8 (![0, 1, 2] : Fin 3 → Fin S262144x8x8.rank)
  concatenates_S262144x8_S262144x8_S262144x16_d1 : Shape.Concatenates [S262144x8, S262144x8] S262144x16 1
  bcast_S262144x16_S262144x1x16_0_2 : S262144x16.BroadcastsInDim S262144x1x16 (![0, 2] : Fin 2 → Fin S262144x1x16.rank)
  bcast_S262144x16_S262144x16x1_0_1 : S262144x16.BroadcastsInDim S262144x16x1 (![0, 1] : Fin 2 → Fin S262144x16x1.rank)
  bcast_S262144x1x16_S262144x16x16_0_1_2 : S262144x1x16.BroadcastsInDim S262144x16x16 (![0, 1, 2] : Fin 3 → Fin S262144x16x16.rank)
  bcast_S262144x16x1_S262144x16x16_0_1_2 : S262144x16x1.BroadcastsInDim S262144x16x16 (![0, 1, 2] : Fin 3 → Fin S262144x16x16.rank)
  bcast_S_S262144x8x2 : S_.BroadcastsInDim S262144x8x2 (![] : Fin 0 → Fin S262144x8x2.rank)
  bcast_S_S262144x8x8 : S_.BroadcastsInDim S262144x8x8 (![] : Fin 0 → Fin S262144x8x8.rank)
  bcast_S1x8x8_S262144x8x8_0_1_2 : S1x8x8.BroadcastsInDim S262144x8x8 (![0, 1, 2] : Fin 3 → Fin S262144x8x8.rank)
  bcast_S_S262144x16x16 : S_.BroadcastsInDim S262144x16x16 (![] : Fin 0 → Fin S262144x16x16.rank)
  bcast_S1x16x16_S262144x16x16_0_1_2 : S1x16x16.BroadcastsInDim S262144x16x16 (![0, 1, 2] : Fin 3 → Fin S262144x16x16.rank)

variable [Facts]

def fn_roll_static {F : FTy → Type} [FloatOps F] (arg0 : FVec F S262144x8 .f32) : FVec F S262144x8 .f32 :=
  let v0 : FVec F S262144x7 .f32 := (extractStridedSlice S262144x7 ![0, 1] · slices_S262144x8_S262144x7_0_1) arg0
  let v1 : FVec F S262144x1 .f32 := (extractStridedSlice S262144x1 ![0, 0] · slices_S262144x8_S262144x1_0_0) arg0
  let v2 : FVec F S262144x8 .f32 := (fun a b => concatenate S262144x8 1 [⟨S262144x7, a⟩, ⟨S262144x1, b⟩] concatenates_S262144x7_S262144x1_S262144x8_d1) v0 v1
  v2

def fn_part7 {F : FTy → Type} [FloatOps F] (main_v37 : FVec F S262144x8x8 .f32) (main_v44 : FVec F S262144x16x16 .f32) (main_v49 : FVec F S262144x16x16 .f32) (main_v50 : IVec S1x16x16 32) (main_v51 : IVec S1x16x16 32) (main_v54 : IVec S262144x8x2 1) (main_v57 : IVec S262144x8x2 1) (main_v82 : IVec S262144x8x8 1) (main_v107 : IVec S262144x8x8 1) (main_v133 : IVec S262144x8x8 1) (main_v154 : FVec F S262144x8x8 .f32) (main_v156 : IVec S262144x8x8 1) (main_v157 : FVec F S262144x8x8 .f32) : IVec S262144x8x2 1 × IVec S262144x8x2 1 × IVec S262144x8x8 1 × IVec S262144x8x8 1 × IVec S262144x8x8 1 × IVec S262144x8x8 1 × IVec S262144x8x8 1 × IVec S262144x16x16 1 :=
  let main_v158 : IVec S262144x8x8 1 := cmpf .olt main_v154 main_v157
  let main_v159 : IVec S262144x8x8 1 := ori main_v156 main_v158
  let main_v160 : FVec F S262144x8x8 .f32 := Host.absf main_v37
  let main_cst_8 : FVec F S_ .f32 := constant S_ .f32 0x3089705F#32
  let main_v161 : FVec F S262144x8x8 .f32 := broadcastInDim S262144x8x8 ![] bcast_S_S262144x8x8 main_cst_8
  let main_v162 : IVec S262144x8x8 1 := cmpf .oge main_v160 main_v161
  let main_v163 : FVec F S262144x16x16 .f32 := mulf main_v44 main_v44
  let main_v164 : FVec F S262144x16x16 .f32 := mulf main_v49 main_v49
  let main_v165 : FVec F S262144x16x16 .f32 := addf main_v163 main_v164
  let main_cst_9 : FVec F S_ .f32 := constant S_ .f32 0x24E69595#32
  let main_v166 : FVec F S262144x16x16 .f32 := broadcastInDim S262144x16x16 ![] bcast_S_S262144x16x16 main_cst_9
  let main_v167 : IVec S262144x16x16 1 := cmpf .oge main_v165 main_v166
  let main_v168 : IVec S1x16x16 1 := cmpi .eq main_v50 main_v51
  let main_v169 : IVec S262144x16x16 1 := broadcastInDim S262144x16x16 ![0, 1, 2] bcast_S1x16x16_S262144x16x16_0_1_2 main_v168
  let main_v170 : IVec S262144x16x16 1 := ori main_v167 main_v169
  (main_v54, main_v57, main_v82, main_v107, main_v133, main_v159, main_v162, main_v170)

def fn_part6 {F : FTy → Type} [FloatOps F] (main_v1 : FVec F S262144x8 .f32) (main_v3 : FVec F S262144x8 .f32) (main_v5 : FVec F S262144x8 .f32) (main_v7 : FVec F S262144x8 .f32) (main_v37 : FVec F S262144x8x8 .f32) (main_v44 : FVec F S262144x16x16 .f32) (main_v49 : FVec F S262144x16x16 .f32) (main_v50 : IVec S1x16x16 32) (main_v51 : IVec S1x16x16 32) (main_v54 : IVec S262144x8x2 1) (main_v57 : IVec S262144x8x2 1) (main_v82 : IVec S262144x8x8 1) (main_v107 : IVec S262144x8x8 1) (main_v133 : IVec S262144x8x8 1) (main_v135 : FVec F S262144x8 .f32) : IVec S262144x8x2 1 × IVec S262144x8x2 1 × IVec S262144x8x8 1 × IVec S262144x8x8 1 × IVec S262144x8x8 1 × IVec S262144x8x8 1 × IVec S262144x8x8 1 × IVec S262144x16x16 1 :=
  let main_v136 : FVec F S262144x8 .f32 := fn_roll_static (F := F) main_v7
  let main_v137 : FVec F S262144x8 .f32 := subf main_v136 main_v7
  let main_v138 : FVec F S262144x1x8 .f32 := broadcastInDim S262144x1x8 ![0, 2] bcast_S262144x8_S262144x1x8_0_2 main_v1
  let main_v139 : FVec F S262144x8x1 .f32 := broadcastInDim S262144x8x1 ![0, 1] bcast_S262144x8_S262144x8x1_0_1 main_v5
  let main_v140 : FVec F S262144x8x8 .f32 := broadcastInDim S262144x8x8 ![0, 1, 2] bcast_S262144x1x8_S262144x8x8_0_1_2 main_v138
  let main_v141 : FVec F S262144x8x8 .f32 := broadcastInDim S262144x8x8 ![0, 1, 2] bcast_S262144x8x1_S262144x8x8_0_1_2 main_v139
  let main_v142 : FVec F S262144x8x8 .f32 := subf main_v140 main_v141
  let main_v143 : FVec F S262144x1x8 .f32 := broadcastInDim S262144x1x8 ![0, 2] bcast_S262144x8_S262144x1x8_0_2 main_v3
  let main_v144 : FVec F S262144x8x1 .f32 := broadcastInDim S262144x8x1 ![0, 1] bcast_S262144x8_S262144x8x1_0_1 main_v7
  let main_v145 : FVec F S262144x8x8 .f32 := broadcastInDim S262144x8x8 ![0, 1, 2] bcast_S262144x1x8_S262144x8x8_0_1_2 main_v143
  let main_v146 : FVec F S262144x8x8 .f32 := broadcastInDim S262144x8x8 ![0, 1, 2] bcast_S262144x8x1_S262144x8x8_0_1_2 main_v144
  let main_v147 : FVec F S262144x8x8 .f32 := subf main_v145 main_v146
  let main_v148 : FVec F S262144x8x1 .f32 := broadcastInDim S262144x8x1 ![0, 1] bcast_S262144x8_S262144x8x1_0_1 main_v135
  let main_v149 : FVec F S262144x8x8 .f32 := broadcastInDim S262144x8x8 ![0, 1, 2] bcast_S262144x8x1_S262144x8x8_0_1_2 main_v148
  let main_v150 : FVec F S262144x8x8 .f32 := mulf main_v149 main_v147
  let main_v151 : FVec F S262144x8x1 .f32 := broadcastInDim S262144x8x1 ![0, 1] bcast_S262144x8_S262144x8x1_0_1 main_v137
  let main_v152 : FVec F S262144x8x8 .f32 := broadcastInDim S262144x8x8 ![0, 1, 2] bcast_S262144x8x1_S262144x8x8_0_1_2 main_v151
  let main_v153 : FVec F S262144x8x8 .f32 := mulf main_v152 main_v142
  let main_v154 : FVec F S262144x8x8 .f32 := subf main_v150 main_v153
  let main_cst_6 : FVec F S_ .f32 := constant S_ .f32 0x00000000#32
  let main_v155 : FVec F S262144x8x8 .f32 := broadcastInDim S262144x8x8 ![] bcast_S_S262144x8x8 main_cst_6
  let main_v156 : IVec S262144x8x8 1 := cmpf .ogt main_v154 main_v155
  let main_cst_7 : FVec F S_ .f32 := constant S_ .f32 0xB58637BD#32
  let main_v157 : FVec F S262144x8x8 .f32 := broadcastInDim S262144x8x8 ![] bcast_S_S262144x8x8 main_cst_7
  fn_part7 (F := F) main_v37 main_v44 main_v49 main_v50 main_v51 main_v54 main_v57 main_v82 main_v107 main_v133 main_v154 main_v156 main_v157

def fn_part5 {F : FTy → Type} [FloatOps F] (main_v1 : FVec F S262144x8 .f32) (main_v3 : FVec F S262144x8 .f32) (main_v5 : FVec F S262144x8 .f32) (main_v7 : FVec F S262144x8 .f32) (main_v37 : FVec F S262144x8x8 .f32) (main_v44 : FVec F S262144x16x16 .f32) (main_v49 : FVec F S262144x16x16 .f32) (main_v50 : IVec S1x16x16 32) (main_v51 : IVec S1x16x16 32) (main_v54 : IVec S262144x8x2 1) (main_v57 : IVec S262144x8x2 1) (main_v82 : IVec S262144x8x8 1) (main_v107 : IVec S262144x8x8 1) (main_v109 : FVec F S262144x8 .f32) (main_v111 : FVec F S262144x8 .f32) (main_v112 : FVec F S262144x1x8 .f32) (main_v113 : FVec F S262144x8x1 .f32) : IVec S262144x8x2 1 × IVec S262144x8x2 1 × IVec S262144x8x8 1 × IVec S262144x8x8 1 × IVec S262144x8x8 1 × IVec S262144x8x8 1 × IVec S262144x8x8 1 × IVec S262144x16x16 1 :=
  let main_v114 : FVec F S262144x8x8 .f32 := broadcastInDim S262144x8x8 ![0, 1, 2] bcast_S262144x1x8_S262144x8x8_0_1_2 main_v112
  let main_v115 : FVec F S262144x8x8 .f32 := broadcastInDim S262144x8x8 ![0, 1, 2] bcast_S262144x8x1_S262144x8x8_0_1_2 main_v113
  let main_v116 : FVec F S262144x8x8 .f32 := subf main_v114 main_v115
  let main_v117 : FVec F S262144x1x8 .f32 := broadcastInDim S262144x1x8 ![0, 2] bcast_S262144x8_S262144x1x8_0_2 main_v7
  let main_v118 : FVec F S262144x8x1 .f32 := broadcastInDim S262144x8x1 ![0, 1] bcast_S262144x8_S262144x8x1_0_1 main_v3
  let main_v119 : FVec F S262144x8x8 .f32 := broadcastInDim S262144x8x8 ![0, 1, 2] bcast_S262144x1x8_S262144x8x8_0_1_2 main_v117
  let main_v120 : FVec F S262144x8x8 .f32 := broadcastInDim S262144x8x8 ![0, 1, 2] bcast_S262144x8x1_S262144x8x8_0_1_2 main_v118
  let main_v121 : FVec F S262144x8x8 .f32 := subf main_v119 main_v120
  let main_v122 : FVec F S262144x8x1 .f32 := broadcastInDim S262144x8x1 ![0, 1] bcast_S262144x8_S262144x8x1_0_1 main_v109
  let main_v123 : FVec F S262144x8x8 .f32 := broadcastInDim S262144x8x8 ![0, 1, 2] bcast_S262144x8x1_S262144x8x8_0_1_2 main_v122
  let main_v124 : FVec F S262144x8x8 .f32 := mulf main_v123 main_v121
  let main_v125 : FVec F S262144x8x1 .f32 := broadcastInDim S262144x8x1 ![0, 1] bcast_S262144x8_S262144x8x1_0_1 main_v111
  let main_v126 : FVec F S262144x8x8 .f32 := broadcastInDim S262144x8x8 ![0, 1, 2] bcast_S262144x8x1_S262144x8x8_0_1_2 main_v125
  let main_v127 : FVec F S262144x8x8 .f32 := mulf main_v126 main_v116
  let main_v128 : FVec F S262144x8x8 .f32 := subf main_v124 main_v127
  let main_cst_4 : FVec F S_ .f32 := constant S_ .f32 0x00000000#32
  let main_v129 : FVec F S262144x8x8 .f32 := broadcastInDim S262144x8x8 ![] bcast_S_S262144x8x8 main_cst_4
  let main_v130 : IVec S262144x8x8 1 := cmpf .ogt main_v128 main_v129
  let main_cst_5 : FVec F S_ .f32 := constant S_ .f32 0xB58637BD#32
  let main_v131 : FVec F S262144x8x8 .f32 := broadcastInDim S262144x8x8 ![] bcast_S_S262144x8x8 main_cst_5
  let main_v132 : IVec S262144x8x8 1 := cmpf .olt main_v128 main_v131
  let main_v133 : IVec S262144x8x8 1 := ori main_v130 main_v132
  let main_v134 : FVec F S262144x8 .f32 := fn_roll_static (F := F) main_v5
  let main_v135 : FVec F S262144x8 .f32 := subf main_v134 main_v5
  fn_part6 (F := F) main_v1 main_v3 main_v5 main_v7 main_v37 main_v44 main_v49 main_v50 main_v51 main_v54 main_v57 main_v82 main_v107 main_v133 main_v135

def fn_part4 {F : FTy → Type} [FloatOps F] (main_v1 : FVec F S262144x8 .f32) (main_v3 : FVec F S262144x8 .f32) (main_v5 : FVec F S262144x8 .f32) (main_v7 : FVec F S262144x8 .f32) (main_v18 : IVec S1x8x8 1) (main_v37 : FVec F S262144x8x8 .f32) (main_v44 : FVec F S262144x16x16 .f32) (main_v49 : FVec F S262144x16x16 .f32) (main_v50 : IVec S1x16x16 32) (main_v51 : IVec S1x16x16 32) (main_v54 : IVec S262144x8x2 1) (main_v57 : IVec S262144x8x2 1) (main_v82 : IVec S262144x8x8 1) (main_v84 : FVec F S262144x8 .f32) (main_v86 : FVec F S262144x8 .f32) (main_v89 : FVec F S262144x8x8 .f32) (main_v90 : FVec F S262144x8x8 .f32) : IVec S262144x8x2 1 × IVec S262144x8x2 1 × IVec S262144x8x8 1 × IVec S262144x8x8 1 × IVec S262144x8x8 1 × IVec S262144x8x8 1 × IVec S262144x8x8 1 × IVec S262144x16x16 1 :=
  let main_v91 : FVec F S262144x8x8 .f32 := subf main_v89 main_v90
  let main_v92 : FVec F S262144x1x8 .f32 := broadcastInDim S262144x1x8 ![0, 2] bcast_S262144x8_S262144x1x8_0_2 main_v7
  let main_v93 : FVec F S262144x8x1 .f32 := broadcastInDim S262144x8x1 ![0, 1] bcast_S262144x8_S262144x8x1_0_1 main_v7
  let main_v94 : FVec F S262144x8x8 .f32 := broadcastInDim S262144x8x8 ![0, 1, 2] bcast_S262144x1x8_S262144x8x8_0_1_2 main_v92
  let main_v95 : FVec F S262144x8x8 .f32 := broadcastInDim S262144x8x8 ![0, 1, 2] bcast_S262144x8x1_S262144x8x8_0_1_2 main_v93
  let main_v96 : FVec F S262144x8x8 .f32 := subf main_v94 main_v95
  let main_v97 : FVec F S262144x8x1 .f32 := broadcastInDim S262144x8x1 ![0, 1] bcast_S262144x8_S262144x8x1_0_1 main_v84
  let main_v98 : FVec F S262144x8x8 .f32 := broadcastInDim S262144x8x8 ![0, 1, 2] bcast_S262144x8x1_S262144x8x8_0_1_2 main_v97
  let main_v99 : FVec F S262144x8x8 .f32 := mulf main_v98 main_v96
  let main_v100 : FVec F S262144x8x1 .f32 := broadcastInDim S262144x8x1 ![0, 1] bcast_S262144x8_S262144x8x1_0_1 main_v86
  let main_v101 : FVec F S262144x8x8 .f32 := broadcastInDim S262144x8x8 ![0, 1, 2] bcast_S262144x8x1_S262144x8x8_0_1_2 main_v100
  let main_v102 : FVec F S262144x8x8 .f32 := mulf main_v101 main_v91
  let main_v103 : FVec F S262144x8x8 .f32 := subf main_v99 main_v102
  let main_cst_3 : FVec F S_ .f32 := constant S_ .f32 0x00000000#32
  let main_v104 : FVec F S262144x8x8 .f32 := broadcastInDim S262144x8x8 ![] bcast_S_S262144x8x8 main_cst_3
  let main_v105 : IVec S262144x8x8 1 := cmpf .ogt main_v103 main_v104
  let main_v106 : IVec S262144x8x8 1 := broadcastInDim S262144x8x8 ![0, 1, 2] bcast_S1x8x8_S262144x8x8_0_1_2 main_v18
  let main_v107 : IVec S262144x8x8 1 := ori main_v105 main_v106
  let main_v108 : FVec F S262144x8 .f32 := fn_roll_static (F := F) main_v1
  let main_v109 : FVec F S262144x8 .f32 := subf main_v108 main_v1
  let main_v110 : FVec F S262144x8 .f32 := fn_roll_static (F := F) main_v3
  let main_v111 : FVec F S262144x8 .f32 := subf main_v110 main_v3
  let main_v112 : FVec F S262144x1x8 .f32 := broadcastInDim S262144x1x8 ![0, 2] bcast_S262144x8_S262144x1x8_0_2 main_v5
  let main_v113 : FVec F S262144x8x1 .f32 := broadcastInDim S262144x8x1 ![0, 1] bcast_S262144x8_S262144x8x1_0_1 main_v1
  fn_part5 (F := F) main_v1 main_v3 main_v5 main_v7 main_v37 main_v44 main_v49 main_v50 main_v51 main_v54 main_v57 main_v82 main_v107 main_v109 main_v111 main_v112 main_v113

def fn_part3 {F : FTy → Type} [FloatOps F] (main_v1 : FVec F S262144x8 .f32) (main_v3 : FVec F S262144x8 .f32) (main_v5 : FVec F S262144x8 .f32) (main_v7 : FVec F S262144x8 .f32) (main_v18 : IVec S1x8x8 1) (main_v37 : FVec F S262144x8x8 .f32) (main_v44 : FVec F S262144x16x16 .f32) (main_v49 : FVec F S262144x16x16 .f32) (main_v50 : IVec S1x16x16 32) (main_v51 : IVec S1x16x16 32) (main_v54 : IVec S262144x8x2 1) (main_v57 : IVec S262144x8x2 1) (main_v59 : FVec F S262144x8 .f32) (main_v61 : FVec F S262144x8 .f32) (main_v66 : FVec F S262144x8x8 .f32) (main_v67 : FVec F S262144x1x8 .f32) : IVec S262144x8x2 1 × IVec S262144x8x2 1 × IVec S262144x8x8 1 × IVec S262144x8x8 1 × IVec S262144x8x8 1 × IVec S262144x8x8 1 × IVec S262144x8x8 1 × IVec S262144x16x16 1 :=
  let main_v68 : FVec F S262144x8x1 .f32 := broadcastInDim S262144x8x1 ![0, 1] bcast_S262144x8_S262144x8x1_0_1 main_v3
  let main_v69 : FVec F S262144x8x8 .f32 := broadcastInDim S262144x8x8 ![0, 1, 2] bcast_S262144x1x8_S262144x8x8_0_1_2 main_v67
  let main_v70 : FVec F S262144x8x8 .f32 := broadcastInDim S262144x8x8 ![0, 1, 2] bcast_S262144x8x1_S262144x8x8_0_1_2 main_v68
  let main_v71 : FVec F S262144x8x8 .f32 := subf main_v69 main_v70
  let main_v72 : FVec F S262144x8x1 .f32 := broadcastInDim S262144x8x1 ![0, 1] bcast_S262144x8_S262144x8x1_0_1 main_v59
  let main_v73 : FVec F S262144x8x8 .f32 := broadcastInDim S262144x8x8 ![0, 1, 2] bcast_S262144x8x1_S262144x8x8_0_1_2 main_v72
  let main_v74 : FVec F S262144x8x8 .f32 := mulf main_v73 main_v71
  let main_v75 : FVec F S262144x8x1 .f32 := broadcastInDim S262144x8x1 ![0, 1] bcast_S262144x8_S262144x8x1_0_1 main_v61
  let main_v76 : FVec F S262144x8x8 .f32 := broadcastInDim S262144x8x8 ![0, 1, 2] bcast_S262144x8x1_S262144x8x8_0_1_2 main_v75
  let main_v77 : FVec F S262144x8x8 .f32 := mulf main_v76 main_v66
  let main_v78 : FVec F S262144x8x8 .f32 := subf main_v74 main_v77
  let main_cst_2 : FVec F S_ .f32 := constant S_ .f32 0x00000000#32
  let main_v79 : FVec F S262144x8x8 .f32 := broadcastInDim S262144x8x8 ![] bcast_S_S262144x8x8 main_cst_2
  let main_v80 : IVec S262144x8x8 1 := cmpf .ogt main_v78 main_v79
  let main_v81 : IVec S262144x8x8 1 := broadcastInDim S262144x8x8 ![0, 1, 2] bcast_S1x8x8_S262144x8x8_0_1_2 main_v18
  let main_v82 : IVec S262144x8x8 1 := ori main_v80 main_v81
  let main_v83 : FVec F S262144x8 .f32 := fn_roll_static (F := F) main_v5
  let main_v84 : FVec F S262144x8 .f32 := subf main_v83 main_v5
  let main_v85 : FVec F S262144x8 .f32 := fn_roll_static (F := F) main_v7
  let main_v86 : FVec F S262144x8 .f32 := subf main_v85 main_v7
  let main_v87 : FVec F S262144x1x8 .f32 := broadcastInDim S262144x1x8 ![0, 2] bcast_S262144x8_S262144x1x8_0_2 main_v5
  let main_v88 : FVec F S262144x8x1 .f32 := broadcastInDim S262144x8x1 ![0, 1] bcast_S262144x8_S262144x8x1_0_1 main_v5
  let main_v89 : FVec F S262144x8x8 .f32 := broadcastInDim S262144x8x8 ![0, 1, 2] bcast_S262144x1x8_S262144x8x8_0_1_2 main_v87
  let main_v90 : FVec F S262144x8x8 .f32 := broadcastInDim S262144x8x8 ![0, 1, 2] bcast_S262144x8x1_S262144x8x8_0_1_2 main_v88
  fn_part4 (F := F) main_v1 main_v3 main_v5 main_v7 main_v18 main_v37 main_v44 main_v49 main_v50 main_v51 main_v54 main_v57 main_v82 main_v84 main_v86 main_v89 main_v90

def fn_part2 {F : FTy → Type} [FloatOps F] (main_arg0 : FVec F S262144x8x2 .f32) (main_arg1 : FVec F S262144x8x2 .f32) (main_v1 : FVec F S262144x8 .f32) (main_v3 : FVec F S262144x8 .f32) (main_v5 : FVec F S262144x8 .f32) (main_v7 : FVec F S262144x8 .f32) (main_v18 : IVec S1x8x8 1) (main_v37 : FVec F S262144x8x8 .f32) (main_v39 : FVec F S262144x16 .f32) (main_v44 : FVec F S262144x16x16 .f32) (main_v45 : FVec F S262144x1x16 .f32) : IVec S262144x8x2 1 × IVec S262144x8x2 1 × IVec S262144x8x8 1 × IVec S262144x8x8 1 × IVec S262144x8x8 1 × IVec S262144x8x8 1 × IVec S262144x8x8 1 × IVec S262144x16x16 1 :=
  let main_v46 : FVec F S262144x16x1 .f32 := broadcastInDim S262144x16x1 ![0, 1] bcast_S262144x16_S262144x16x1_0_1 main_v39
  let main_v47 : FVec F S262144x16x16 .f32 := broadcastInDim S262144x16x16 ![0, 1, 2] bcast_S262144x1x16_S262144x16x16_0_1_2 main_v45
  let main_v48 : FVec F S262144x16x16 .f32 := broadcastInDim S262144x16x16 ![0, 1, 2] bcast_S262144x16x1_S262144x16x16_0_1_2 main_v46
  let main_v49 : FVec F S262144x16x16 .f32 := subf main_v47 main_v48
  let main_v50 : IVec S1x16x16 32 := iotaInDim S1x16x16 32 1
  let main_v51 : IVec S1x16x16 32 := iotaInDim S1x16x16 32 2
  let main_v52 : FVec F S262144x8x2 .f32 := Host.absf main_arg0
  let main_cst : FVec F S_ .f32 := constant S_ .f32 0x7F800000#32
  let main_v53 : FVec F S262144x8x2 .f32 := broadcastInDim S262144x8x2 ![] bcast_S_S262144x8x2 main_cst
  let main_v54 : IVec S262144x8x2 1 := cmpf .olt main_v52 main_v53
  let main_v55 : FVec F S262144x8x2 .f32 := Host.absf main_arg1
  let main_cst_1 : FVec F S_ .f32 := constant S_ .f32 0x7F800000#32
  let main_v56 : FVec F S262144x8x2 .f32 := broadcastInDim S262144x8x2 ![] bcast_S_S262144x8x2 main_cst_1
  let main_v57 : IVec S262144x8x2 1 := cmpf .olt main_v55 main_v56
  let main_v58 : FVec F S262144x8 .f32 := fn_roll_static (F := F) main_v1
  let main_v59 : FVec F S262144x8 .f32 := subf main_v58 main_v1
  let main_v60 : FVec F S262144x8 .f32 := fn_roll_static (F := F) main_v3
  let main_v61 : FVec F S262144x8 .f32 := subf main_v60 main_v3
  let main_v62 : FVec F S262144x1x8 .f32 := broadcastInDim S262144x1x8 ![0, 2] bcast_S262144x8_S262144x1x8_0_2 main_v1
  let main_v63 : FVec F S262144x8x1 .f32 := broadcastInDim S262144x8x1 ![0, 1] bcast_S262144x8_S262144x8x1_0_1 main_v1
  let main_v64 : FVec F S262144x8x8 .f32 := broadcastInDim S262144x8x8 ![0, 1, 2] bcast_S262144x1x8_S262144x8x8_0_1_2 main_v62
  let main_v65 : FVec F S262144x8x8 .f32 := broadcastInDim S262144x8x8 ![0, 1, 2] bcast_S262144x8x1_S262144x8x8_0_1_2 main_v63
  let main_v66 : FVec F S262144x8x8 .f32 := subf main_v64 main_v65
  let main_v67 : FVec F S262144x1x8 .f32 := broadcastInDim S262144x1x8 ![0, 2] bcast_S262144x8_S262144x1x8_0_2 main_v3
  fn_part3 (F := F) main_v1 main_v3 main_v5 main_v7 main_v18 main_v37 main_v44 main_v49 main_v50 main_v51 main_v54 main_v57 main_v59 main_v61 main_v66 main_v67

def fn_part1 {F : FTy → Type} [FloatOps F] (main_arg0 : FVec F S262144x8x2 .f32) (main_arg1 : FVec F S262144x8x2 .f32) (main_v1 : FVec F S262144x8 .f32) (main_v3 : FVec F S262144x8 .f32) (main_v5 : FVec F S262144x8 .f32) (main_v7 : FVec F S262144x8 .f32) (main_v18 : IVec S1x8x8 1) (main_v20 : FVec F S262144x8 .f32) (main_v21 : FVec F S262144x8 .f32) : IVec S262144x8x2 1 × IVec S262144x8x2 1 × IVec S262144x8x8 1 × IVec S262144x8x8 1 × IVec S262144x8x8 1 × IVec S262144x8x8 1 × IVec S262144x8x8 1 × IVec S262144x16x16 1 :=
  let main_v22 : FVec F S262144x8 .f32 := subf main_v21 main_v3
  let main_v23 : FVec F S262144x8 .f32 := fn_roll_static (F := F) main_v5
  let main_v24 : FVec F S262144x8 .f32 := subf main_v23 main_v5
  let main_v25 : FVec F S262144x8 .f32 := fn_roll_static (F := F) main_v7
  let main_v26 : FVec F S262144x8 .f32 := subf main_v25 main_v7
  let main_v27 : FVec F S262144x8x1 .f32 := broadcastInDim S262144x8x1 ![0, 1] bcast_S262144x8_S262144x8x1_0_1 main_v20
  let main_v28 : FVec F S262144x1x8 .f32 := broadcastInDim S262144x1x8 ![0, 2] bcast_S262144x8_S262144x1x8_0_2 main_v26
  let main_v29 : FVec F S262144x8x8 .f32 := broadcastInDim S262144x8x8 ![0, 1, 2] bcast_S262144x8x1_S262144x8x8_0_1_2 main_v27
  let main_v30 : FVec F S262144x8x8 .f32 := broadcastInDim S262144x8x8 ![0, 1, 2] bcast_S262144x1x8_S262144x8x8_0_1_2 main_v28
  let main_v31 : FVec F S262144x8x8 .f32 := mulf main_v29 main_v30
  let main_v32 : FVec F S262144x8x1 .f32 := broadcastInDim S262144x8x1 ![0, 1] bcast_S262144x8_S262144x8x1_0_1 main_v22
  let main_v33 : FVec F S262144x1x8 .f32 := broadcastInDim S262144x1x8 ![0, 2] bcast_S262144x8_S262144x1x8_0_2 main_v24
  let main_v34 : FVec F S262144x8x8 .f32 := broadcastInDim S262144x8x8 ![0, 1, 2] bcast_S262144x8x1_S262144x8x8_0_1_2 main_v32
  let main_v35 : FVec F S262144x8x8 .f32 := broadcastInDim S262144x8x8 ![0, 1, 2] bcast_S262144x1x8_S262144x8x8_0_1_2 main_v33
  let main_v36 : FVec F S262144x8x8 .f32 := mulf main_v34 main_v35
  let main_v37 : FVec F S262144x8x8 .f32 := subf main_v31 main_v36
  let main_v38 : FVec F S262144x16 .f32 := (fun a b => concatenate S262144x16 1 [⟨S262144x8, a⟩, ⟨S262144x8, b⟩] concatenates_S262144x8_S262144x8_S262144x16_d1) main_v1 main_v5
  let main_v39 : FVec F S262144x16 .f32 := (fun a b => concatenate S262144x16 1 [⟨S262144x8, a⟩, ⟨S262144x8, b⟩] concatenates_S262144x8_S262144x8_S262144x16_d1) main_v3 main_v7
  let main_v40 : FVec F S262144x1x16 .f32 := broadcastInDim S262144x1x16 ![0, 2] bcast_S262144x16_S262144x1x16_0_2 main_v38
  let main_v41 : FVec F S262144x16x1 .f32 := broadcastInDim S262144x16x1 ![0, 1] bcast_S262144x16_S262144x16x1_0_1 main_v38
  let main_v42 : FVec F S262144x16x16 .f32 := broadcastInDim S262144x16x16 ![0, 1, 2] bcast_S262144x1x16_S262144x16x16_0_1_2 main_v40
  let main_v43 : FVec F S262144x16x16 .f32 := broadcastInDim S262144x16x16 ![0, 1, 2] bcast_S262144x16x1_S262144x16x16_0_1_2 main_v41
  let main_v44 : FVec F S262144x16x16 .f32 := subf main_v42 main_v43
  let main_v45 : FVec F S262144x1x16 .f32 := broadcastInDim S262144x1x16 ![0, 2] bcast_S262144x16_S262144x1x16_0_2 main_v39
  fn_part2 (F := F) main_arg0 main_arg1 main_v1 main_v3 main_v5 main_v7 main_v18 main_v37 main_v39 main_v44 main_v45

def fn {F : FTy → Type} [FloatOps F] (main_arg0 : FVec F S262144x8x2 .f32) (main_arg1 : FVec F S262144x8x2 .f32) : IVec S262144x8x2 1 × IVec S262144x8x2 1 × IVec S262144x8x8 1 × IVec S262144x8x8 1 × IVec S262144x8x8 1 × IVec S262144x8x8 1 × IVec S262144x8x8 1 × IVec S262144x16x16 1 :=
  let main_v0 : FVec F S262144x8x1 .f32 := (extractStridedSlice S262144x8x1 ![0, 0, 0] · slices_S262144x8x2_S262144x8x1_0_0_0) main_arg0
  let main_v1 : FVec F S262144x8 .f32 := shapeCast S262144x8 main_v0 shapeCasts_S262144x8x1_S262144x8
  let main_v2 : FVec F S262144x8x1 .f32 := (extractStridedSlice S262144x8x1 ![0, 0, 1] · slices_S262144x8x2_S262144x8x1_0_0_1) main_arg0
  let main_v3 : FVec F S262144x8 .f32 := shapeCast S262144x8 main_v2 shapeCasts_S262144x8x1_S262144x8
  let main_v4 : FVec F S262144x8x1 .f32 := (extractStridedSlice S262144x8x1 ![0, 0, 0] · slices_S262144x8x2_S262144x8x1_0_0_0) main_arg1
  let main_v5 : FVec F S262144x8 .f32 := shapeCast S262144x8 main_v4 shapeCasts_S262144x8x1_S262144x8
  let main_v6 : FVec F S262144x8x1 .f32 := (extractStridedSlice S262144x8x1 ![0, 0, 1] · slices_S262144x8x2_S262144x8x1_0_0_1) main_arg1
  let main_v7 : FVec F S262144x8 .f32 := shapeCast S262144x8 main_v6 shapeCasts_S262144x8x1_S262144x8
  let main_v8 : IVec S1x8x8 32 := iotaInDim S1x8x8 32 1
  let main_v9 : IVec S1x8x8 32 := iotaInDim S1x8x8 32 2
  let main_v10 : IVec S1x8x8 1 := cmpi .eq main_v9 main_v8
  let main_c : IVec S_ 32 := constantI S_ 32 1#32
  let main_v11 : IVec S1x8x8 32 := broadcastInDim S1x8x8 ![] bcast_S_S1x8x8 main_c
  let main_v12 : IVec S1x8x8 32 := addi main_v8 main_v11
  let main_v13 : IVec S1x8x8 1 := cmpi .eq main_v9 main_v12
  let main_v14 : IVec S1x8x8 1 := ori main_v10 main_v13
  let main_c_0 : IVec S_ 32 := constantI S_ 32 7#32
  let main_v15 : IVec S1x8x8 32 := broadcastInDim S1x8x8 ![] bcast_S_S1x8x8 main_c_0
  let main_v16 : IVec S1x8x8 32 := addi main_v9 main_v15
  let main_v17 : IVec S1x8x8 1 := cmpi .eq main_v16 main_v8
  let main_v18 : IVec S1x8x8 1 := ori main_v14 main_v17
  let main_v19 : FVec F S262144x8 .f32 := fn_roll_static (F := F) main_v1
  let main_v20 : FVec F S262144x8 .f32 := subf main_v19 main_v1
  let main_v21 : FVec F S262144x8 .f32 := fn_roll_static (F := F) main_v3
  fn_part1 (F := F) main_arg0 main_arg1 main_v1 main_v3 main_v5 main_v7 main_v18 main_v20 main_v21
-- ==== Kernel.lean ====
abbrev S262144x8x2 : Shape := ⟨3, ![262144, 8, 2]⟩
abbrev S262144x16x2 : Shape := ⟨3, ![262144, 16, 2]⟩
abbrev S262144x16x1 : Shape := ⟨3, ![262144, 16, 1]⟩
abbrev S262144x16 : Shape := ⟨2, ![262144, 16]⟩
abbrev S16x262144 : Shape := ⟨2, ![16, 262144]⟩
abbrev S1x262144 : Shape := ⟨2, ![1, 262144]⟩
abbrev S16x8192 : Shape := ⟨2, ![16, 8192]⟩
abbrev S1x8192 : Shape := ⟨2, ![1, 8192]⟩
abbrev S8x8192 : Shape := ⟨2, ![8, 8192]⟩
abbrev S7x8192 : Shape := ⟨2, ![7, 8192]⟩
abbrev S8192 : Shape := ⟨1, ![8192]⟩
abbrev S_ : Shape := ⟨0, ![]⟩

abbrev nBuf : Space → Nat
  | .hbm => 14
  | .vmem => 6
  | .smem => 0
  | _ => 0

abbrev bufTy : (tb : Table) → Fin (tcTables nBuf tb) → BufTy
  | .hbm, ⟨0, _⟩ => ⟨S262144x8x2, .f32⟩
  | .hbm, ⟨1, _⟩ => ⟨S262144x8x2, .f32⟩
  | .hbm, ⟨2, _⟩ => ⟨S262144x16x2, .f32⟩
  | .hbm, ⟨3, _⟩ => ⟨S262144x16x1, .f32⟩
  | .hbm, ⟨4, _⟩ => ⟨S262144x16, .f32⟩
  | .hbm, ⟨5, _⟩ => ⟨S16x262144, .f32⟩
  | .hbm, ⟨6, _⟩ => ⟨S262144x16x1, .f32⟩
  | .hbm, ⟨7, _⟩ => ⟨S262144x16, .f32⟩
  | .hbm, ⟨8, _⟩ => ⟨S16x262144, .f32⟩
  | .hbm, ⟨9, _⟩ => ⟨S1x262144, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S16x8192, .f32⟩
  | .local _ .vmem, ⟨4, _⟩ => ⟨S1x8192, .f32⟩
  | .local _ .vmem, ⟨5, _⟩ => ⟨S1x8192, .f32⟩
  | _, _ => ⟨S262144x8x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S262144x8x2 : Shape := ⟨3, ![262144, 8, 2]⟩
abbrev S262144x8x1 : Shape := ⟨3, ![262144, 8, 1]⟩
abbrev S262144x8 : Shape := ⟨2, ![262144, 8]⟩
abbrev S_ : Shape := ⟨0, ![]⟩
abbrev S262144 : Shape := ⟨1, ![262144]⟩
abbrev S262144x1 : Shape := ⟨2, ![262144, 1]⟩
abbrev S262144x7 : Shape := ⟨2, ![262144, 7]⟩
abbrev S262144x1x8 : Shape := ⟨3, ![262144, 1, 8]⟩
abbrev S262144x8x8 : Shape := ⟨3, ![262144, 8, 8]⟩
abbrev S262144x64 : Shape := ⟨2, ![262144, 64]⟩
abbrev S262144x80 : Shape := ⟨2, ![262144, 80]⟩
abbrev S262144x79 : Shape := ⟨2, ![262144, 79]⟩
abbrev S262144x16 : Shape := ⟨2, ![262144, 16]⟩

abbrev nBuf : Space → Nat
  | .hbm => 460
  | .vmem => 0
  | .smem => 0
  | _ => 0

abbrev hbmTy0_0 (i : Nat) : BufTy := match i % 128 with
  | 0 => ⟨S262144x8x2, .f32⟩
  | 1 => ⟨S262144x8x2, .f32⟩
  | 2 => ⟨S262144x8x1, .f32⟩
  | 3 => ⟨S262144x8, .f32⟩
  | 4 => ⟨S262144x8x1, .f32⟩
  | 5 => ⟨S262144x8, .f32⟩
  | 6 => ⟨S_, .f32⟩
  | 7 => ⟨S262144, .f32⟩
  | 8 => ⟨S262144x1, .f32⟩
  | 9 => ⟨S_, .f32⟩
  | 10 => ⟨S262144x1, .f32⟩
  | 11 => ⟨S262144x1, .f32⟩
  | 12 => ⟨S262144x8, .f32⟩
  | 13 => ⟨S262144x8, .f32⟩
  | 14 => ⟨S_, .f32⟩
  | 15 => ⟨S262144, .f32⟩
  | 16 => ⟨S262144x1, .f32⟩
  | 17 => ⟨S_, .f32⟩
  | 18 => ⟨S262144x1, .f32⟩
  | 19 => ⟨S262144x1, .f32⟩
  | 20 => ⟨S262144x8, .f32⟩
  | 21 => ⟨S262144x8, .f32⟩
  | 22 => ⟨S262144x8, .f32⟩
  | 23 => ⟨S262144x8, .f32⟩
  | 24 => ⟨S262144x8, .f32⟩
  | 25 => ⟨S262144x8, .f32⟩
  | 26 => ⟨S262144x8x1, .f32⟩
  | 27 => ⟨S262144x8, .f32⟩
  | 28 => ⟨S262144x8x1, .f32⟩
  | 29 => ⟨S262144x8, .f32⟩
  | 30 => ⟨S_, .f32⟩
  | 31 => ⟨S262144, .f32⟩
  | 32 => ⟨S262144x1, .f32⟩
  | 33 => ⟨S_, .f32⟩
  | 34 => ⟨S262144x1, .f32⟩
  | 35 => ⟨S262144x1, .f32⟩
  | 36 => ⟨S262144x8, .f32⟩
  | 37 => ⟨S262144x8, .f32⟩
  | 38 => ⟨S_, .f32⟩
  | 39 => ⟨S262144, .f32⟩
  | 40 => ⟨S262144x1, .f32⟩
  | 41 => ⟨S_, .f32⟩
  | 42 => ⟨S262144x1, .f32⟩
  | 43 => ⟨S262144x1, .f32⟩
  | 44 => ⟨S262144x8, .f32⟩
  | 45 => ⟨S262144x8, .f32⟩
  | 46 => ⟨S262144x8, .f32⟩
  | 47 => ⟨S262144x8, .f32⟩
  | 48 => ⟨S262144x8, .f32⟩
  | 49 => ⟨S262144x8, .f32⟩
  | 50 => ⟨S262144x7, .f32⟩
  | 51 => ⟨S262144x1, .f32⟩
  | 52 => ⟨S262144x8, .f32⟩
  | 53 => ⟨S262144x8, .f32⟩
  | 54 => ⟨S262144x1x8, .f32⟩
  | 55 => ⟨S262144x7, .f32⟩
  | 56 => ⟨S262144x1, .f32⟩
  | 57 => ⟨S262144x8, .f32⟩
  | 58 => ⟨S262144x8, .f32⟩
  | 59 => ⟨S262144x1x8, .f32⟩
  | 60 => ⟨S262144x8x1, .f32⟩
  | 61 => ⟨S262144x1x8, .f32⟩
  | 62 => ⟨S262144x8x8, .f32⟩
  | 63 => ⟨S262144x8x8, .f32⟩
  | 64 => ⟨S262144x8x8, .f32⟩
  | 65 => ⟨S262144x8x1, .f32⟩
  | 66 => ⟨S262144x1x8, .f32⟩
  | 67 => ⟨S262144x8x8, .f32⟩
  | 68 => ⟨S262144x8x8, .f32⟩
  | 69 => ⟨S262144x8x8, .f32⟩
  | 70 => ⟨S262144x8x8, .f32⟩
  | 71 => ⟨S262144x8x8, .f32⟩
  | 72 => ⟨S262144x8x8, .f32⟩
  | 73 => ⟨S262144x8x8, .f32⟩
  | 74 => ⟨S262144x8x8, .f32⟩
  | 75 => ⟨S_, .f32⟩
  | 76 => ⟨S262144x8x8, .f32⟩
  | 77 => ⟨S262144x8x8, .i1⟩
  | 78 => ⟨S_, .i1⟩
  | 79 => ⟨S262144x8, .i1⟩
  | 80 => ⟨S262144x7, .f32⟩
  | 81 => ⟨S262144x1, .f32⟩
  | 82 => ⟨S262144x8, .f32⟩
  | 83 => ⟨S262144x8, .f32⟩
  | 84 => ⟨S262144x1x8, .f32⟩
  | 85 => ⟨S262144x7, .f32⟩
  | 86 => ⟨S262144x1, .f32⟩
  | 87 => ⟨S262144x8, .f32⟩
  | 88 => ⟨S262144x8, .f32⟩
  | 89 => ⟨S262144x1x8, .f32⟩
  | 90 => ⟨S262144x8x1, .f32⟩
  | 91 => ⟨S262144x1x8, .f32⟩
  | 92 => ⟨S262144x8x8, .f32⟩
  | 93 => ⟨S262144x8x8, .f32⟩
  | 94 => ⟨S262144x8x8, .f32⟩
  | 95 => ⟨S262144x8x1, .f32⟩
  | 96 => ⟨S262144x1x8, .f32⟩
  | 97 => ⟨S262144x8x8, .f32⟩
  | 98 => ⟨S262144x8x8, .f32⟩
  | 99 => ⟨S262144x8x8, .f32⟩
  | 100 => ⟨S262144x8x8, .f32⟩
  | 101 => ⟨S262144x8x8, .f32⟩
  | 102 => ⟨S262144x8x8, .f32⟩
  | 103 => ⟨S262144x8x8, .f32⟩
  | 104 => ⟨S262144x8x8, .f32⟩
  | 105 => ⟨S_, .f32⟩
  | 106 => ⟨S262144x8x8, .f32⟩
  | 107 => ⟨S262144x8x8, .i1⟩
  | 108 => ⟨S_, .i1⟩
  | 109 => ⟨S262144x8, .i1⟩
  | 110 => ⟨S262144x7, .f32⟩
  | 111 => ⟨S262144x1, .f32⟩
  | 112 => ⟨S262144x8, .f32⟩
  | 113 => ⟨S262144x8, .f32⟩
  | 114 => ⟨S262144x8x1, .f32⟩
  | 115 => ⟨S262144x7, .f32⟩
  | 116 => ⟨S262144x1, .f32⟩
  | 117 => ⟨S262144x8, .f32⟩
  | 118 => ⟨S262144x8, .f32⟩
  | 119 => ⟨S262144x8x1, .f32⟩
  | 120 => ⟨S262144x7, .f32⟩
  | 121 => ⟨S262144x1, .f32⟩
  | 122 => ⟨S262144x8, .f32⟩
  | 123 => ⟨S262144x8, .f32⟩
  | 124 => ⟨S262144x1x8, .f32⟩
  | 125 => ⟨S262144x7, .f32⟩
  | 126 => ⟨S262144x1, .f32⟩
  | 127 => ⟨S262144x8, .f32⟩
  | _ => ⟨S262144x8x2, .f32⟩

abbrev hbmTy0_1 (i : Nat) : BufTy := match i % 128 with
  | 0 => ⟨S262144x8, .f32⟩
  | 1 => ⟨S262144x1x8, .f32⟩
  | 2 => ⟨S262144x8x8, .f32⟩
  | 3 => ⟨S262144x8x8, .f32⟩
  | 4 => ⟨S262144x8x8, .f32⟩
  | 5 => ⟨S262144x8x8, .f32⟩
  | 6 => ⟨S262144x8x8, .f32⟩
  | 7 => ⟨S262144x8x8, .f32⟩
  | 8 => ⟨S262144x8x8, .f32⟩
  | 9 => ⟨S262144x8x8, .f32⟩
  | 10 => ⟨S_, .f32⟩
  | 11 => ⟨S262144x8x8, .f32⟩
  | 12 => ⟨S262144x8x8, .i1⟩
  | 13 => ⟨S_, .f32⟩
  | 14 => ⟨S_, .f32⟩
  | 15 => ⟨S262144x8x8, .f32⟩
  | 16 => ⟨S262144x8x8, .f32⟩
  | 17 => ⟨S262144x1x8, .f32⟩
  | 18 => ⟨S262144x8x1, .f32⟩
  | 19 => ⟨S262144x8x8, .f32⟩
  | 20 => ⟨S262144x8x8, .f32⟩
  | 21 => ⟨S262144x8x8, .f32⟩
  | 22 => ⟨S262144x1x8, .f32⟩
  | 23 => ⟨S262144x8x1, .f32⟩
  | 24 => ⟨S262144x8x8, .f32⟩
  | 25 => ⟨S262144x8x8, .f32⟩
  | 26 => ⟨S262144x8x8, .f32⟩
  | 27 => ⟨S262144x8x8, .f32⟩
  | 28 => ⟨S262144x8x8, .f32⟩
  | 29 => ⟨S262144x8x8, .f32⟩
  | 30 => ⟨S262144x8x8, .f32⟩
  | 31 => ⟨S262144x8x8, .f32⟩
  | 32 => ⟨S262144x8x8, .f32⟩
  | 33 => ⟨S262144x8x8, .f32⟩
  | 34 => ⟨S262144x8x8, .f32⟩
  | 35 => ⟨S262144x8x8, .f32⟩
  | 36 => ⟨S262144x8x8, .f32⟩
  | 37 => ⟨S262144x8x8, .f32⟩
  | 38 => ⟨S262144x8x8, .f32⟩
  | 39 => ⟨S262144x8x8, .f32⟩
  | 40 => ⟨S_, .f32⟩
  | 41 => ⟨S262144x8x8, .f32⟩
  | 42 => ⟨S262144x8x8, .i1⟩
  | 43 => ⟨S_, .f32⟩
  | 44 => ⟨S262144x8x8, .f32⟩
  | 45 => ⟨S262144x8x8, .i1⟩
  | 46 => ⟨S262144x8x8, .i1⟩
  | 47 => ⟨S_, .f32⟩
  | 48 => ⟨S262144x8x8, .f32⟩
  | 49 => ⟨S262144x8x8, .i1⟩
  | 50 => ⟨S262144x8x8, .i1⟩
  | 51 => ⟨S_, .f32⟩
  | 52 => ⟨S262144x8x8, .f32⟩
  | 53 => ⟨S262144x8x8, .i1⟩
  | 54 => ⟨S262144x8x8, .i1⟩
  | 55 => ⟨S_, .f32⟩
  | 56 => ⟨S262144x8x8, .f32⟩
  | 57 => ⟨S262144x8x8, .i1⟩
  | 58 => ⟨S262144x8x8, .i1⟩
  | 59 => ⟨S262144x8x1, .f32⟩
  | 60 => ⟨S262144x8x8, .f32⟩
  | 61 => ⟨S262144x8x8, .f32⟩
  | 62 => ⟨S262144x8x8, .f32⟩
  | 63 => ⟨S262144x8x8, .f32⟩
  | 64 => ⟨S262144x8x1, .f32⟩
  | 65 => ⟨S262144x8x8, .f32⟩
  | 66 => ⟨S262144x8x8, .f32⟩
  | 67 => ⟨S262144x8x8, .f32⟩
  | 68 => ⟨S262144x8x8, .f32⟩
  | 69 => ⟨S262144x64, .f32⟩
  | 70 => ⟨S262144x64, .f32⟩
  | 71 => ⟨S262144x64, .i1⟩
  | 72 => ⟨S262144x80, .f32⟩
  | 73 => ⟨S262144x80, .f32⟩
  | 74 => ⟨S262144x80, .i1⟩
  | 75 => ⟨S262144x80, .i32⟩
  | 76 => ⟨S_, .i32⟩
  | 77 => ⟨S262144, .i32⟩
  | 78 => ⟨S262144x80, .f32⟩
  | 79 => ⟨S_, .i32⟩
  | 80 => ⟨S262144, .i32⟩
  | 81 => ⟨S262144, .i32⟩
  | 82 => ⟨S262144, .f32⟩
  | 83 => ⟨S262144x80, .f32⟩
  | 84 => ⟨S_, .f32⟩
  | 85 => ⟨S262144, .f32⟩
  | 86 => ⟨S262144, .f32⟩
  | 87 => ⟨S262144x1, .f32⟩
  | 88 => ⟨S262144x80, .f32⟩
  | 89 => ⟨S262144x80, .f32⟩
  | 90 => ⟨S262144x80, .f32⟩
  | 91 => ⟨S_, .f32⟩
  | 92 => ⟨S262144, .f32⟩
  | 93 => ⟨S262144, .f32⟩
  | 94 => ⟨S262144x1, .f32⟩
  | 95 => ⟨S262144x80, .f32⟩
  | 96 => ⟨S262144x80, .f32⟩
  | 97 => ⟨S262144x80, .f32⟩
  | 98 => ⟨S_, .f32⟩
  | 99 => ⟨S_, .f32⟩
  | 100 => ⟨S262144x80, .f32⟩
  | 101 => ⟨S262144x80, .f32⟩
  | 102 => ⟨S262144x80, .f32⟩
  | 103 => ⟨S262144x80, .f32⟩
  | 104 => ⟨S262144x80, .f32⟩
  | 105 => ⟨S262144x80, .i1⟩
  | 106 => ⟨S262144x1, .f32⟩
  | 107 => ⟨S262144x80, .f32⟩
  | 108 => ⟨S262144x80, .f32⟩
  | 109 => ⟨S262144x1, .f32⟩
  | 110 => ⟨S262144x80, .f32⟩
  | 111 => ⟨S262144x80, .f32⟩
  | 112 => ⟨S_, .i32⟩
  | 113 => ⟨S262144, .i32⟩
  | 114 => ⟨S262144, .i1⟩
  | 115 => ⟨S262144x79, .f32⟩
  | 116 => ⟨S262144x1, .f32⟩
  | 117 => ⟨S262144x80, .f32⟩
  | 118 => ⟨S262144x79, .f32⟩
  | 119 => ⟨S262144x1, .f32⟩
  | 120 => ⟨S262144x80, .f32⟩
  | 121 => ⟨S262144x80, .f32⟩
  | 122 => ⟨S262144x80, .f32⟩
  | 123 => ⟨S262144x80, .f32⟩
  | 124 => ⟨S_, .f32⟩
  | 125 => ⟨S262144, .f32⟩
  | 126 => ⟨S_, .f32⟩
  | 127 => ⟨S262144, .f32⟩
  | _ => ⟨S262144x8x2, .f32⟩

abbrev hbmTy0_2 (i : Nat) : BufTy := match i % 128 with
  | 0 => ⟨S262144, .f32⟩
  | 1 => ⟨S_, .f32⟩
  | 2 => ⟨S262144, .f32⟩
  | 3 => ⟨S262144, .f32⟩
  | 4 => ⟨S_, .f32⟩
  | 5 => ⟨S_, .f32⟩
  | 6 => ⟨S262144, .f32⟩
  | 7 => ⟨S262144, .f32⟩
  | 8 => ⟨S262144x7, .f32⟩
  | 9 => ⟨S262144x1, .f32⟩
  | 10 => ⟨S262144x8, .f32⟩
  | 11 => ⟨S262144x7, .f32⟩
  | 12 => ⟨S262144x1, .f32⟩
  | 13 => ⟨S262144x8, .f32⟩
  | 14 => ⟨S262144x8, .f32⟩
  | 15 => ⟨S262144x8, .f32⟩
  | 16 => ⟨S262144x8, .f32⟩
  | 17 => ⟨S_, .f32⟩
  | 18 => ⟨S262144, .f32⟩
  | 19 => ⟨S_, .f32⟩
  | 20 => ⟨S262144, .f32⟩
  | 21 => ⟨S262144, .f32⟩
  | 22 => ⟨S262144x7, .f32⟩
  | 23 => ⟨S262144x1, .f32⟩
  | 24 => ⟨S262144x8, .f32⟩
  | 25 => ⟨S262144x7, .f32⟩
  | 26 => ⟨S262144x1, .f32⟩
  | 27 => ⟨S262144x8, .f32⟩
  | 28 => ⟨S262144x8, .f32⟩
  | 29 => ⟨S262144x8, .f32⟩
  | 30 => ⟨S262144x8, .f32⟩
  | 31 => ⟨S_, .f32⟩
  | 32 => ⟨S262144, .f32⟩
  | 33 => ⟨S_, .f32⟩
  | 34 => ⟨S262144, .f32⟩
  | 35 => ⟨S262144, .f32⟩
  | 36 => ⟨S262144, .f32⟩
  | 37 => ⟨S262144, .f32⟩
  | 38 => ⟨S262144, .f32⟩
  | 39 => ⟨S262144x8x1, .f32⟩
  | 40 => ⟨S262144x8, .f32⟩
  | 41 => ⟨S262144x8x1, .f32⟩
  | 42 => ⟨S262144x8, .f32⟩
  | 43 => ⟨S262144x16, .f32⟩
  | 44 => ⟨S262144x8x1, .f32⟩
  | 45 => ⟨S262144x8, .f32⟩
  | 46 => ⟨S262144x8x1, .f32⟩
  | 47 => ⟨S262144x8, .f32⟩
  | 48 => ⟨S262144x16, .f32⟩
  | 49 => ⟨S262144x16, .i32⟩
  | 50 => ⟨S_, .f32⟩
  | 51 => ⟨S262144, .f32⟩
  | 52 => ⟨S262144x1, .f32⟩
  | 53 => ⟨S262144x16, .f32⟩
  | 54 => ⟨S262144x16, .i1⟩
  | 55 => ⟨S_, .f32⟩
  | 56 => ⟨S_, .f32⟩
  | 57 => ⟨S262144x16, .f32⟩
  | 58 => ⟨S262144x16, .f32⟩
  | 59 => ⟨S_, .f32⟩
  | 60 => ⟨S262144, .f32⟩
  | 61 => ⟨S262144x1, .f32⟩
  | 62 => ⟨S262144x16, .f32⟩
  | 63 => ⟨S262144x16, .i1⟩
  | 64 => ⟨S262144x16, .i1⟩
  | 65 => ⟨S_, .i32⟩
  | 66 => ⟨S_, .i32⟩
  | 67 => ⟨S262144x16, .i32⟩
  | 68 => ⟨S262144x16, .i32⟩
  | 69 => ⟨S_, .i32⟩
  | 70 => ⟨S262144, .i32⟩
  | 71 => ⟨S_, .f32⟩
  | 72 => ⟨S262144, .f32⟩
  | 73 => ⟨S_, .f32⟩
  | 74 => ⟨S262144, .f32⟩
  | 75 => ⟨S_, .i1⟩
  | 76 => ⟨S262144, .i1⟩
  | 77 => ⟨S_, .f32⟩
  | 78 => ⟨S262144, .f32⟩
  | 79 => ⟨S_, .i32⟩
  | 80 => ⟨S262144x16, .i32⟩
  | 81 => ⟨S262144x16, .f32⟩
  | 82 => ⟨S262144x16, .f32⟩
  | 83 => ⟨S262144, .i32⟩
  | 84 => ⟨S_, .i32⟩
  | 85 => ⟨S262144, .i32⟩
  | 86 => ⟨S262144, .f32⟩
  | 87 => ⟨S262144, .f32⟩
  | 88 => ⟨S262144, .i1⟩
  | 89 => ⟨S262144, .f32⟩
  | 90 => ⟨S_, .i32⟩
  | 91 => ⟨S_, .i1⟩
  | 92 => ⟨S262144x1, .i32⟩
  | 93 => ⟨S262144x16, .i32⟩
  | 94 => ⟨S262144x16, .i1⟩
  | 95 => ⟨S_, .f32⟩
  | 96 => ⟨S_, .f32⟩
  | 97 => ⟨S262144x16, .f32⟩
  | 98 => ⟨S262144x16, .f32⟩
  | 99 => ⟨S_, .f32⟩
  | 100 => ⟨S262144, .f32⟩
  | 101 => ⟨S_, .f32⟩
  | 102 => ⟨S_, .f32⟩
  | 103 => ⟨S262144x16, .f32⟩
  | 104 => ⟨S262144x16, .f32⟩
  | 105 => ⟨S_, .f32⟩
  | 106 => ⟨S262144, .f32⟩
  | 107 => ⟨S262144x1, .f32⟩
  | 108 => ⟨S262144x16, .f32⟩
  | 109 => ⟨S262144x16, .f32⟩
  | 110 => ⟨S262144x1, .f32⟩
  | 111 => ⟨S262144x16, .f32⟩
  | 112 => ⟨S262144x16, .f32⟩
  | 113 => ⟨S262144x16, .f32⟩
  | 114 => ⟨S262144x16, .f32⟩
  | 115 => ⟨S262144x16, .f32⟩
  | 116 => ⟨S262144x1, .f32⟩
  | 117 => ⟨S262144x1, .f32⟩
  | 118 => ⟨S262144x16, .f32⟩
  | 119 => ⟨S262144x16, .f32⟩
  | 120 => ⟨S262144x16, .f32⟩
  | 121 => ⟨S262144x16, .f32⟩
  | 122 => ⟨S262144x16, .f32⟩
  | 123 => ⟨S262144x16, .f32⟩
  | 124 => ⟨S262144x16, .f32⟩
  | 125 => ⟨S262144x16, .f32⟩
  | 126 => ⟨S262144x16, .f32⟩
  | 127 => ⟨S262144x16, .f32⟩
  | _ => ⟨S262144x8x2, .f32⟩

abbrev hbmTy0_3 (i : Nat) : BufTy := match i % 128 with
  | 0 => ⟨S262144x16, .f32⟩
  | 1 => ⟨S_, .f32⟩
  | 2 => ⟨S262144x16, .f32⟩
  | 3 => ⟨S262144x16, .i1⟩
  | 4 => ⟨S_, .f32⟩
  | 5 => ⟨S_, .f32⟩
  | 6 => ⟨S262144x16, .f32⟩
  | 7 => ⟨S262144x16, .f32⟩
  | 8 => ⟨S_, .f32⟩
  | 9 => ⟨S262144x16, .f32⟩
  | 10 => ⟨S262144x16, .i1⟩
  | 11 => ⟨S_, .f32⟩
  | 12 => ⟨S262144x16, .f32⟩
  | 13 => ⟨S262144x16, .i1⟩
  | 14 => ⟨S_, .f32⟩
  | 15 => ⟨S_, .i1⟩
  | 16 => ⟨S262144x16, .i1⟩
  | 17 => ⟨S262144x16, .i1⟩
  | 18 => ⟨S262144x16, .i1⟩
  | 19 => ⟨S262144x16, .f32⟩
  | 20 => ⟨S262144x16, .f32⟩
  | 21 => ⟨S262144x16, .f32⟩
  | 22 => ⟨S_, .f32⟩
  | 23 => ⟨S_, .f32⟩
  | 24 => ⟨S262144x16, .f32⟩
  | 25 => ⟨S262144x16, .f32⟩
  | 26 => ⟨S_, .f32⟩
  | 27 => ⟨S262144, .f32⟩
  | 28 => ⟨S262144x1, .f32⟩
  | 29 => ⟨S262144x16, .f32⟩
  | 30 => ⟨S262144x16, .i1⟩
  | 31 => ⟨S_, .i32⟩
  | 32 => ⟨S_, .i32⟩
  | 33 => ⟨S262144x16, .i32⟩
  | 34 => ⟨S262144x16, .i32⟩
  | 35 => ⟨S_, .i32⟩
  | 36 => ⟨S262144, .i32⟩
  | 37 => ⟨S262144x1, .i32⟩
  | 38 => ⟨S262144x16, .i32⟩
  | 39 => ⟨S262144x16, .i1⟩
  | 40 => ⟨S_, .f32⟩
  | 41 => ⟨S_, .f32⟩
  | 42 => ⟨S262144x16, .f32⟩
  | 43 => ⟨S262144x16, .f32⟩
  | 44 => ⟨S_, .f32⟩
  | 45 => ⟨S262144, .f32⟩
  | 46 => ⟨S_, .f32⟩
  | 47 => ⟨S_, .f32⟩
  | 48 => ⟨S262144x16, .f32⟩
  | 49 => ⟨S262144x16, .f32⟩
  | 50 => ⟨S_, .f32⟩
  | 51 => ⟨S262144, .f32⟩
  | 52 => ⟨S262144, .f32⟩
  | 53 => ⟨S262144, .f32⟩
  | 54 => ⟨S262144, .f32⟩
  | 55 => ⟨S_, .f32⟩
  | 56 => ⟨S_, .f32⟩
  | 57 => ⟨S262144, .f32⟩
  | 58 => ⟨S262144, .f32⟩
  | 59 => ⟨S262144, .f32⟩
  | 60 => ⟨S262144, .f32⟩
  | 61 => ⟨S262144, .f32⟩
  | 62 => ⟨S262144, .i1⟩
  | 63 => ⟨S262144, .i1⟩
  | 64 => ⟨S_, .i32⟩
  | 65 => ⟨S_, .i32⟩
  | 66 => ⟨S_, .f32⟩
  | 67 => ⟨S262144, .f32⟩
  | 68 => ⟨S262144, .f32⟩
  | 69 => ⟨S262144, .f32⟩
  | 70 => ⟨S262144, .f32⟩
  | 71 => ⟨S262144, .f32⟩
  | 72 => ⟨S_, .f32⟩
  | 73 => ⟨S_, .f32⟩
  | 74 => ⟨S_, .f32⟩
  | 75 => ⟨S_, .f32⟩
  | _ => ⟨S262144x8x2, .f32⟩

abbrev hbmTy (i : Nat) : BufTy := match i / 128 with
  | 0 => hbmTy0_0 i
  | 1 => hbmTy0_1 i
  | 2 => hbmTy0_2 i
  | 3 => hbmTy0_3 i
  | _ => ⟨S262144x8x2, .f32⟩

abbrev bufTy : (tb : Table) → Fin (tcTables nBuf tb) → BufTy
  | .hbm, ⟨i, _⟩ => hbmTy i
  | _, _ => ⟨S262144x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_5 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev main_call0_v0 : Ref sig .tc := ⟨.hbm, 50, rfl⟩
abbrev main_call0_v1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_v0 : Ref sig .tc := ⟨.hbm, 55, rfl⟩
abbrev main_call1_v1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_c : Ref sig .tc := ⟨.hbm, 78, rfl⟩
abbrev main_v59 : Ref sig .tc := ⟨.hbm, 79, rfl⟩
abbrev main_call2_v0 : Ref sig .tc := ⟨.hbm, 80, rfl⟩
abbrev main_call2_v1 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call3_v0 : Ref sig .tc := ⟨.hbm, 85, rfl⟩
abbrev main_call3_v1 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_8 : Ref sig .tc := ⟨.hbm, 105, rfl⟩
abbrev main_v81 : Ref sig .tc := ⟨.hbm, 106, rfl⟩
abbrev main_v82 : Ref sig .tc := ⟨.hbm, 107, rfl⟩
abbrev main_c_9 : Ref sig .tc := ⟨.hbm, 108, rfl⟩
abbrev main_v83 : Ref sig .tc := ⟨.hbm, 109, rfl⟩
abbrev main_call4_v0 : Ref sig .tc := ⟨.hbm, 110, rfl⟩
abbrev main_call4_v1 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call5_v0 : Ref sig .tc := ⟨.hbm, 115, rfl⟩
abbrev main_call5_v1 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call6_v0 : Ref sig .tc := ⟨.hbm, 120, rfl⟩
abbrev main_call6_v1 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_call7_v0 : Ref sig .tc := ⟨.hbm, 125, rfl⟩
abbrev main_call7_v1 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_10 : Ref sig .tc := ⟨.hbm, 138, rfl⟩
abbrev main_v104 : Ref sig .tc := ⟨.hbm, 139, rfl⟩
abbrev main_v105 : Ref sig .tc := ⟨.hbm, 140, rfl⟩
abbrev main_cst_11 : Ref sig .tc := ⟨.hbm, 141, rfl⟩
abbrev main_call8_v0 : Ref sig .tc := ⟨.hbm, 142, rfl⟩
abbrev main_call8_v1 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_cst_12 : Ref sig .tc := ⟨.hbm, 168, rfl⟩
abbrev main_v130 : Ref sig .tc := ⟨.hbm, 169, rfl⟩
abbrev main_v131 : Ref sig .tc := ⟨.hbm, 170, rfl⟩
abbrev main_cst_13 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_cst_14 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_cst_15 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_16 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_c_17 : Ref sig .tc := ⟨.hbm, 204, rfl⟩
abbrev main_v161 : Ref sig .tc := ⟨.hbm, 205, rfl⟩
abbrev main_v162 : Ref sig .tc := ⟨.hbm, 206, rfl⟩
abbrev main_c_18 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_cst_19 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_20 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_21 : Ref sig .tc := ⟨.hbm, 226, rfl⟩
abbrev main_call9_v0 : Ref sig .tc := ⟨.hbm, 227, rfl⟩
abbrev main_call9_v1 : Ref sig .tc := ⟨.hbm, 228, rfl⟩
abbrev main_v179 : Ref sig .tc := ⟨.hbm, 229, rfl⟩
abbrev main_v180_0 : Ref sig .tc := ⟨.hbm, 230, rfl⟩
abbrev main_v180_1 : Ref sig .tc := ⟨.hbm, 231, rfl⟩
abbrev main_v180_2 : Ref sig .tc := ⟨.hbm, 232, rfl⟩
abbrev main_v180_3 : Ref sig .tc := ⟨.hbm, 233, rfl⟩
abbrev main_v181 : Ref sig .tc := ⟨.hbm, 234, rfl⟩
abbrev main_call10_v0 : Ref sig .tc := ⟨.hbm, 235, rfl⟩
abbrev main_v182 : Ref sig .tc := ⟨.hbm, 236, rfl⟩
abbrev main_v183 : Ref sig .tc := ⟨.hbm, 237, rfl⟩
abbrev main_call11_v0 : Ref sig .tc := ⟨.hbm, 238, rfl⟩
abbrev main_v184 : Ref sig .tc := ⟨.hbm, 239, rfl⟩
abbrev main_c_22 : Ref sig .tc := ⟨.hbm, 240, rfl⟩
abbrev main_v185 : Ref sig .tc := ⟨.hbm, 241, rfl⟩
abbrev main_v186 : Ref sig .tc := ⟨.hbm, 242, rfl⟩
abbrev main_call12_v0 : Ref sig .tc := ⟨.hbm, 243, rfl⟩
abbrev main_call12_v1 : Ref sig .tc := ⟨.hbm, 244, rfl⟩
abbrev main_v187 : Ref sig .tc := ⟨.hbm, 245, rfl⟩
abbrev main_call13_v0 : Ref sig .tc := ⟨.hbm, 246, rfl⟩
abbrev main_call13_v1 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_cst_23 : Ref sig .tc := ⟨.hbm, 252, rfl⟩
abbrev main_v192 : Ref sig .tc := ⟨.hbm, 253, rfl⟩
abbrev main_cst_24 : Ref sig .tc := ⟨.hbm, 254, rfl⟩
abbrev main_v193 : Ref sig .tc := ⟨.hbm, 255, rfl⟩
abbrev main_v194 : Ref sig .tc := ⟨.hbm, 256, rfl⟩
abbrev main_cst_25 : Ref sig .tc := ⟨.hbm, 257, rfl⟩
abbrev main_v195 : Ref sig .tc := ⟨.hbm, 258, rfl⟩
abbrev main_v196 : Ref sig .tc := ⟨.hbm, 259, rfl⟩
abbrev main_cst_26 : Ref sig .tc := ⟨.hbm, 260, rfl⟩
abbrev main_call14_v0 : Ref sig .tc := ⟨.hbm, 261, rfl⟩
abbrev main_call14_v1 : Ref sig .tc := ⟨.hbm, 262, rfl⟩
abbrev main_v197 : Ref sig .tc := ⟨.hbm, 263, rfl⟩
abbrev main_call15_v0 : Ref sig .tc := ⟨.hbm, 264, rfl⟩
abbrev main_call15_v1 : Ref sig .tc := ⟨.hbm, 265, rfl⟩
abbrev main_v198 : Ref sig .tc := ⟨.hbm, 266, rfl⟩
abbrev main_call16_v0 : Ref sig .tc := ⟨.hbm, 267, rfl⟩
abbrev main_call16_v1 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_cst_27 : Ref sig .tc := ⟨.hbm, 273, rfl⟩
abbrev main_v203 : Ref sig .tc := ⟨.hbm, 274, rfl⟩
abbrev main_cst_28 : Ref sig .tc := ⟨.hbm, 275, rfl⟩
abbrev main_v204 : Ref sig .tc := ⟨.hbm, 276, rfl⟩
abbrev main_v205 : Ref sig .tc := ⟨.hbm, 277, rfl⟩
abbrev main_call17_v0 : Ref sig .tc := ⟨.hbm, 278, rfl⟩
abbrev main_call17_v1 : Ref sig .tc := ⟨.hbm, 279, rfl⟩
abbrev main_v206 : Ref sig .tc := ⟨.hbm, 280, rfl⟩
abbrev main_call18_v0 : Ref sig .tc := ⟨.hbm, 281, rfl⟩
abbrev main_call18_v1 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_cst_29 : Ref sig .tc := ⟨.hbm, 287, rfl⟩
abbrev main_v211 : Ref sig .tc := ⟨.hbm, 288, rfl⟩
abbrev main_cst_30 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_v219 : Ref sig .tc := ⟨.hbm, 297, rfl⟩
abbrev main_v220 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_cst_31 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_cst_32 : Ref sig .tc := ⟨.hbm, 311, rfl⟩
abbrev main_call19_v0 : Ref sig .tc := ⟨.hbm, 312, rfl⟩
abbrev main_call19_v1 : Ref sig .tc := ⟨.hbm, 313, rfl⟩
abbrev main_v232 : Ref sig .tc := ⟨.hbm, 314, rfl⟩
abbrev main_cst_33 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_c_34 : Ref sig .tc := ⟨.hbm, 321, rfl⟩
abbrev main_call20_v0 : Ref sig .tc := ⟨.hbm, 322, rfl⟩
abbrev main_call20_v1 : Ref sig .tc := ⟨.hbm, 323, rfl⟩
abbrev main_v238 : Ref sig .tc := ⟨.hbm, 324, rfl⟩
abbrev main_c_35 : Ref sig .tc := ⟨.hbm, 325, rfl⟩
abbrev main_v239 : Ref sig .tc := ⟨.hbm, 326, rfl⟩
abbrev main_cst_36 : Ref sig .tc := ⟨.hbm, 327, rfl⟩
abbrev main_v240 : Ref sig .tc := ⟨.hbm, 328, rfl⟩
abbrev main_cst_37 : Ref sig .tc := ⟨.hbm, 329, rfl⟩
abbrev main_v241 : Ref sig .tc := ⟨.hbm, 330, rfl⟩
abbrev main_c_38 : Ref sig .tc := ⟨.hbm, 331, rfl⟩
abbrev main_v242 : Ref sig .tc := ⟨.hbm, 332, rfl⟩
abbrev main_cst_39 : Ref sig .tc := ⟨.hbm, 333, rfl⟩
abbrev main_v243 : Ref sig .tc := ⟨.hbm, 334, rfl⟩
abbrev main_c_40 : Ref sig .tc := ⟨.hbm, 335, rfl⟩
abbrev main_v244_0 : Ref sig .tc := ⟨.hbm, 336, rfl⟩
abbrev main_v244_1 : Ref sig .tc := ⟨.hbm, 337, rfl⟩
abbrev main_v244_2 : Ref sig .tc := ⟨.hbm, 338, rfl⟩
abbrev main_v244_3 : Ref sig .tc := ⟨.hbm, 339, rfl⟩
abbrev main_v244_4 : Ref sig .tc := ⟨.hbm, 340, rfl⟩
abbrev main_v244_5 : Ref sig .tc := ⟨.hbm, 341, rfl⟩
abbrev main_v244_6 : Ref sig .tc := ⟨.hbm, 342, rfl⟩
abbrev main_v244_7 : Ref sig .tc := ⟨.hbm, 343, rfl⟩
abbrev main_v244_8 : Ref sig .tc := ⟨.hbm, 344, rfl⟩
abbrev main_v244_9 : Ref sig .tc := ⟨.hbm, 345, rfl⟩
abbrev main_while0c_c_53 : Ref sig .tc := ⟨.hbm, 346, rfl⟩
abbrev main_while0c_v252 : Ref sig .tc := ⟨.hbm, 347, rfl⟩
abbrev main_while0b_v252 : Ref sig .tc := ⟨.hbm, 348, rfl⟩
abbrev main_while0b_v253 : Ref sig .tc := ⟨.hbm, 349, rfl⟩
abbrev main_while0b_v254 : Ref sig .tc := ⟨.hbm, 350, rfl⟩
abbrev main_while0b_cst_53 : Ref sig .tc := ⟨.hbm, 351, rfl⟩
abbrev main_while0b_call21_v0 : Ref sig .tc := ⟨.hbm, 352, rfl⟩
abbrev main_while0b_call21_v1 : Ref sig .tc := ⟨.hbm, 353, rfl⟩
abbrev main_while0b_v255 : Ref sig .tc := ⟨.hbm, 354, rfl⟩
abbrev main_while0b_cst_54 : Ref sig .tc := ⟨.hbm, 355, rfl⟩
abbrev main_while0b_v256 : Ref sig .tc := ⟨.hbm, 356, rfl⟩
abbrev main_while0b_cst_55 : Ref sig .tc := ⟨.hbm, 357, rfl⟩
abbrev main_while0b_call22_v0 : Ref sig .tc := ⟨.hbm, 358, rfl⟩
abbrev main_while0b_call22_v1 : Ref sig .tc := ⟨.hbm, 359, rfl⟩
abbrev main_while0b_v257 : Ref sig .tc := ⟨.hbm, 360, rfl⟩
abbrev main_while0b_cst_56 : Ref sig .tc := ⟨.hbm, 361, rfl⟩
abbrev main_while0b_v258 : Ref sig .tc := ⟨.hbm, 362, rfl⟩
abbrev main_while0b_v259 : Ref sig .tc := ⟨.hbm, 363, rfl⟩
abbrev main_while0b_v260 : Ref sig .tc := ⟨.hbm, 364, rfl⟩
abbrev main_while0b_v261 : Ref sig .tc := ⟨.hbm, 365, rfl⟩
abbrev main_while0b_v262 : Ref sig .tc := ⟨.hbm, 366, rfl⟩
abbrev main_while0b_v263 : Ref sig .tc := ⟨.hbm, 367, rfl⟩
abbrev main_while0b_v264 : Ref sig .tc := ⟨.hbm, 368, rfl⟩
abbrev main_while0b_v265 : Ref sig .tc := ⟨.hbm, 369, rfl⟩
abbrev main_while0b_v266 : Ref sig .tc := ⟨.hbm, 370, rfl⟩
abbrev main_while0b_v267 : Ref sig .tc := ⟨.hbm, 371, rfl⟩
abbrev main_while0b_v268 : Ref sig .tc := ⟨.hbm, 372, rfl⟩
abbrev main_while0b_v269 : Ref sig .tc := ⟨.hbm, 373, rfl⟩
abbrev main_while0b_v270 : Ref sig .tc := ⟨.hbm, 374, rfl⟩
abbrev main_while0b_v271 : Ref sig .tc := ⟨.hbm, 375, rfl⟩
abbrev main_while0b_v272 : Ref sig .tc := ⟨.hbm, 376, rfl⟩
abbrev main_while0b_v273 : Ref sig .tc := ⟨.hbm, 377, rfl⟩
abbrev main_while0b_v274 : Ref sig .tc := ⟨.hbm, 378, rfl⟩
abbrev main_while0b_v275 : Ref sig .tc := ⟨.hbm, 379, rfl⟩
abbrev main_while0b_v276 : Ref sig .tc := ⟨.hbm, 380, rfl⟩
abbrev main_while0b_v277 : Ref sig .tc := ⟨.hbm, 381, rfl⟩
abbrev main_while0b_v278 : Ref sig .tc := ⟨.hbm, 382, rfl⟩
abbrev main_while0b_v279 : Ref sig .tc := ⟨.hbm, 383, rfl⟩
abbrev main_while0b_v280 : Ref sig .tc := ⟨.hbm, 384, rfl⟩
abbrev main_while0b_cst_57 : Ref sig .tc := ⟨.hbm, 385, rfl⟩
abbrev main_while0b_v281 : Ref sig .tc := ⟨.hbm, 386, rfl⟩
abbrev main_while0b_v282 : Ref sig .tc := ⟨.hbm, 387, rfl⟩
abbrev main_while0b_cst_58 : Ref sig .tc := ⟨.hbm, 388, rfl⟩
abbrev main_while0b_call23_v0 : Ref sig .tc := ⟨.hbm, 389, rfl⟩
abbrev main_while0b_call23_v1 : Ref sig .tc := ⟨.hbm, 390, rfl⟩
abbrev main_while0b_call23_v2 : Ref sig .tc := ⟨.hbm, 391, rfl⟩
abbrev main_while0b_call23_cst : Ref sig .tc := ⟨.hbm, 392, rfl⟩
abbrev main_while0b_call23_v3 : Ref sig .tc := ⟨.hbm, 393, rfl⟩
abbrev main_while0b_call23_v4 : Ref sig .tc := ⟨.hbm, 394, rfl⟩
abbrev main_while0b_call23_cst_0 : Ref sig .tc := ⟨.hbm, 395, rfl⟩
abbrev main_while0b_call23_v5 : Ref sig .tc := ⟨.hbm, 396, rfl⟩
abbrev main_while0b_call23_v6 : Ref sig .tc := ⟨.hbm, 397, rfl⟩
abbrev main_while0b_call23_cst_1 : Ref sig .tc := ⟨.hbm, 398, rfl⟩
abbrev main_while0b_call23_v7 : Ref sig .tc := ⟨.hbm, 399, rfl⟩
abbrev main_while0b_call23_v8 : Ref sig .tc := ⟨.hbm, 400, rfl⟩
abbrev main_while0b_call23_v9 : Ref sig .tc := ⟨.hbm, 401, rfl⟩
abbrev main_while0b_call23_v10 : Ref sig .tc := ⟨.hbm, 402, rfl⟩
abbrev main_while0b_call23_v11 : Ref sig .tc := ⟨.hbm, 403, rfl⟩
abbrev main_while0b_call23_v12 : Ref sig .tc := ⟨.hbm, 404, rfl⟩
abbrev main_while0b_v283 : Ref sig .tc := ⟨.hbm, 405, rfl⟩
abbrev main_while0b_cst_59 : Ref sig .tc := ⟨.hbm, 406, rfl⟩
abbrev main_while0b_call24_v0 : Ref sig .tc := ⟨.hbm, 407, rfl⟩
abbrev main_while0b_call24_v1 : Ref sig .tc := ⟨.hbm, 408, rfl⟩
abbrev main_while0b_v284 : Ref sig .tc := ⟨.hbm, 409, rfl⟩
abbrev main_while0b_cst_60 : Ref sig .tc := ⟨.hbm, 410, rfl⟩
abbrev main_while0b_v285 : Ref sig .tc := ⟨.hbm, 411, rfl⟩
abbrev main_while0b_v286 : Ref sig .tc := ⟨.hbm, 412, rfl⟩
abbrev main_while0b_v287 : Ref sig .tc := ⟨.hbm, 413, rfl⟩
abbrev main_while0b_v288 : Ref sig .tc := ⟨.hbm, 414, rfl⟩
abbrev main_while0b_c_61 : Ref sig .tc := ⟨.hbm, 415, rfl⟩
abbrev main_while0b_call25_v0 : Ref sig .tc := ⟨.hbm, 416, rfl⟩
abbrev main_while0b_call25_v1 : Ref sig .tc := ⟨.hbm, 417, rfl⟩
abbrev main_while0b_v289 : Ref sig .tc := ⟨.hbm, 418, rfl⟩
abbrev main_while0b_c_62 : Ref sig .tc := ⟨.hbm, 419, rfl⟩
abbrev main_while0b_v290 : Ref sig .tc := ⟨.hbm, 420, rfl⟩
abbrev main_while0b_v291 : Ref sig .tc := ⟨.hbm, 421, rfl⟩
abbrev main_while0b_v292 : Ref sig .tc := ⟨.hbm, 422, rfl⟩
abbrev main_while0b_v293 : Ref sig .tc := ⟨.hbm, 423, rfl⟩
abbrev main_while0b_cst_63 : Ref sig .tc := ⟨.hbm, 424, rfl⟩
abbrev main_while0b_call26_v0 : Ref sig .tc := ⟨.hbm, 425, rfl⟩
abbrev main_while0b_call26_v1 : Ref sig .tc := ⟨.hbm, 426, rfl⟩
abbrev main_while0b_v294 : Ref sig .tc := ⟨.hbm, 427, rfl⟩
abbrev main_while0b_cst_64 : Ref sig .tc := ⟨.hbm, 428, rfl⟩
abbrev main_while0b_v295 : Ref sig .tc := ⟨.hbm, 429, rfl⟩
abbrev main_while0b_cst_65 : Ref sig .tc := ⟨.hbm, 430, rfl⟩
abbrev main_while0b_call27_v0 : Ref sig .tc := ⟨.hbm, 431, rfl⟩
abbrev main_while0b_call27_v1 : Ref sig .tc := ⟨.hbm, 432, rfl⟩
abbrev main_while0b_v296 : Ref sig .tc := ⟨.hbm, 433, rfl⟩
abbrev main_while0b_cst_66 : Ref sig .tc := ⟨.hbm, 434, rfl⟩
abbrev main_while0b_v297 : Ref sig .tc := ⟨.hbm, 435, rfl⟩
abbrev main_while0b_v298 : Ref sig .tc := ⟨.hbm, 436, rfl⟩
abbrev main_while0b_v299 : Ref sig .tc := ⟨.hbm, 437, rfl⟩
abbrev main_while0b_v300 : Ref sig .tc := ⟨.hbm, 438, rfl⟩
abbrev main_while0b_cst_67 : Ref sig .tc := ⟨.hbm, 439, rfl⟩
abbrev main_while0b_call28_v0 : Ref sig .tc := ⟨.hbm, 440, rfl⟩
abbrev main_while0b_call28_v1 : Ref sig .tc := ⟨.hbm, 441, rfl⟩
abbrev main_while0b_v301 : Ref sig .tc := ⟨.hbm, 442, rfl⟩
abbrev main_while0b_v302 : Ref sig .tc := ⟨.hbm, 443, rfl⟩
abbrev main_while0b_v303 : Ref sig .tc := ⟨.hbm, 444, rfl⟩
abbrev main_while0b_v304 : Ref sig .tc := ⟨.hbm, 445, rfl⟩
abbrev main_while0b_v305 : Ref sig .tc := ⟨.hbm, 446, rfl⟩
abbrev main_while0b_v306 : Ref sig .tc := ⟨.hbm, 447, rfl⟩
abbrev main_while0b_c_68 : Ref sig .tc := ⟨.hbm, 448, rfl⟩
abbrev main_while0b_v307 : Ref sig .tc := ⟨.hbm, 449, rfl⟩
abbrev main_cst_41 : Ref sig .tc := ⟨.hbm, 450, rfl⟩
abbrev main_v245 : Ref sig .tc := ⟨.hbm, 451, rfl⟩
abbrev main_v246 : Ref sig .tc := ⟨.hbm, 452, rfl⟩
abbrev main_v247 : Ref sig .tc := ⟨.hbm, 453, rfl⟩
abbrev main_v248 : Ref sig .tc := ⟨.hbm, 454, rfl⟩
abbrev main_v249 : Ref sig .tc := ⟨.hbm, 455, rfl⟩
abbrev main_cst_42 : Ref sig .tc := ⟨.hbm, 456, rfl⟩
abbrev main_v250 : Ref sig .tc := ⟨.hbm, 457, rfl⟩
abbrev main_cst_43 : Ref sig .tc := ⟨.hbm, 458, rfl⟩
abbrev main_v251 : Ref sig .tc := ⟨.hbm, 459, rfl⟩

abbrev nD : Nat := 1
abbrev τ : Topo := Topo.v7x

variable {F : FTy → Type} [FloatOps F]

abbrev main_while0_count : Scf.Loop 32 := ⟨0#32, 16#32, 1#32⟩
-- ==== Proof.RefRun.lean ====
/- The reference's run: what its stretches before, in and after the loop leave in the buffers the result depends on. -/
module

public import proofs.«01_k».proof.Proof.Gen.ReferenceIdeal.Run
public import Idealize.ShloMosaic.Lib.StableHlo.RunRead
public import Idealize.ShloMosaic.PureOps.Ideal

@[expose] public section

set_option maxRecDepth 20000

noncomputable section

namespace Ciou.Ref

open Idealize.ShloMosaic Idealize.ShloMosaic.TcCoe Idealize.ShloMosaic.StableHlo
open Cert.ReferenceIdeal Cert.ReferenceIdeal.Gen Cert.ReferenceIdeal.Value

variable (m : (ℓ : Loc nD τ sig) → Buf (Elt Ideal) ℓ) (c : Dev nD)

/-- A buffer that neither the loop's condition nor its body writes is after `k` trips as the loop found it. -/
theorem trips_keep {r : Ref sig .tc} (hc : ∀ V : Valuation τ sig (Elt Ideal), after condOps V (Proc.devRef .tc r) = V (Proc.devRef .tc r))
    (hb : ∀ V : Valuation τ sig (Elt Ideal), afterL bodyI V (Proc.devRef .tc r) = V (Proc.devRef .tc r)) :
    ∀ k, atK m k c (Proc.devRef .tc r) = entryContents preI m c (Proc.devRef .tc r)
  | 0 => rfl
  | k + 1 => (hb _).trans ((hc _).trans (trips_keep hc hb k))

/-- The arguments end as they were. -/
theorem args_kept :
    finalContents condOps preI bodyI postI 16 m c (Proc.devRef .tc main_arg0) = m ((c.tc : Thread nD τ).loc main_arg0)
    ∧ finalContents condOps preI bodyI postI 16 m c (Proc.devRef .tc main_arg1) = m ((c.tc : Thread nD τ).loc main_arg1) := by
  have h0 := trips_keep m c (r := main_arg0) (fun V => by after_reads_simp) (fun V => by simp only [afterL_cons, afterL_nil]; after_reads_simp) 16
  have h1 := trips_keep m c (r := main_arg1) (fun V => by after_reads_simp) (fun V => by simp only [afterL_cons, afterL_nil]; after_reads_simp) 16
  refine ⟨?_, ?_⟩
  · refine Eq.trans ?_ (h0.trans ?_)
    · simp only [finalContents, afterL_cons, afterL_nil]; after_reads_simp
    · simp only [entryContents, afterL_cons, afterL_nil]; after_reads_simp
  · refine Eq.trans ?_ (h1.trans ?_)
    · simp only [finalContents, afterL_cons, afterL_nil]; after_reads_simp
    · simp only [entryContents, afterL_cons, afterL_nil]; after_reads_simp

end Ciou.Ref
-- ==== Proof.PreShape.lean ====
/-
  The conditions of general position as a few functions of the coordinate arrays, and what each says at an index.
-/
module

public import proofs.«01_k».proof.Pre_general_position
public import Idealize.ShloMosaic.Lib.Pointwise
public import Idealize.ShloMosaic.PureOps.Ideal

@[expose] public section

noncomputable section

open scoped Classical

namespace Ciou.Pre

open Idealize.ShloMosaic Cert.Pre_general_position
open Idealize.ShloMosaic.Pointwise

variable [Facts]

abbrev P2 := FVec Ideal S262144x8x2 .f32
abbrev P8 := FVec Ideal S262144x8 .f32
abbrev P88 := FVec Ideal S262144x8x8 .f32
abbrev P16 := FVec Ideal S262144x16 .f32

/-- The points' first coordinates. -/
def xs (a : P2) : P8 :=
  shapeCast S262144x8 ((extractStridedSlice S262144x8x1 ![0, 0, 0] · Facts.slices_S262144x8x2_S262144x8x1_0_0_0) a) Facts.shapeCasts_S262144x8x1_S262144x8

/-- The points' second coordinates. -/
def ys (a : P2) : P8 :=
  shapeCast S262144x8 ((extractStridedSlice S262144x8x1 ![0, 0, 1] · Facts.slices_S262144x8x2_S262144x8x1_0_0_1) a) Facts.shapeCasts_S262144x8x1_S262144x8

/-- One value per edge, over the points. -/
def down (v : P8) : P88 :=
  broadcastInDim S262144x8x8 ![0, 1, 2] Facts.bcast_S262144x8x1_S262144x8x8_0_1_2 (broadcastInDim S262144x8x1 ![0, 1] Facts.bcast_S262144x8_S262144x8x1_0_1 v)

/-- One value per point, over the edges. -/
def along (v : P8) : P88 :=
  broadcastInDim S262144x8x8 ![0, 1, 2] Facts.bcast_S262144x1x8_S262144x8x8_0_1_2 (broadcastInDim S262144x1x8 ![0, 2] Facts.bcast_S262144x8_S262144x1x8_0_2 v)

/-- The edge vectors' coordinate. -/
def edge (v : P8) : P8 := subf (fn_roll_static (F := Ideal) v) v

/-- Twice the signed area of every edge with every point. -/
def sides (x y px py : P8) : P88 :=
  subf (mulf (down (edge x)) (subf (along py) (down y))) (mulf (down (edge y)) (subf (along px) (down x)))

/-- The same real word everywhere. -/
def all88 (w : BitVec 32) : P88 := broadcastInDim S262144x8x8 ![] Facts.bcast_S_S262144x8x8 (constant (F := Ideal) S_ .f32 w)

/-- The ends of an edge. -/
def ends : IVec S262144x8x8 1 :=
  let r : IVec S1x8x8 32 := iotaInDim S1x8x8 32 1
  let c : IVec S1x8x8 32 := iotaInDim S1x8x8 32 2
  broadcastInDim S262144x8x8 ![0, 1, 2] Facts.bcast_S1x8x8_S262144x8x8_0_1_2
    (ori (ori (cmpi .eq c r) (cmpi .eq c (addi r (broadcastInDim S1x8x8 ![] Facts.bcast_S_S1x8x8 (constantI S_ 32 1#32)))))
      (cmpi .eq (addi c (broadcastInDim S1x8x8 ![] Facts.bcast_S_S1x8x8 (constantI S_ 32 7#32))) r))

/-- A polygon convex counterclockwise. -/
def convex (x y : P8) : IVec S262144x8x8 1 := ori (cmpf .ogt (sides x y x y) (all88 0x00000000#32)) ends

/-- Points clear of the tolerance band. -/
def clearOf (x y px py : P8) : IVec S262144x8x8 1 :=
  ori (cmpf .ogt (sides x y px py) (all88 0x00000000#32)) (cmpf .olt (sides x y px py) (all88 0xB58637BD#32))

/-- The edges are far from parallel. -/
def steepOf (ax ay bx by' : P8) : IVec S262144x8x8 1 :=
  cmpf .oge (Host.absf (subf (mulf (down (edge ax)) (along (edge by'))) (mulf (down (edge ay)) (along (edge bx))))) (all88 0x3089705F#32)

/-- The coordinates finite. -/
def finiteOf (a : P2) : IVec S262144x8x2 1 :=
  cmpf .olt (Host.absf a) (broadcastInDim S262144x8x2 ![] Facts.bcast_S_S262144x8x2 (constant (F := Ideal) S_ .f32 0x7F800000#32))

/-- The coordinates of both polygons' points. -/
def cat (v w : P8) : P16 :=
  (fun a b => concatenate S262144x16 1 [⟨S262144x8, a⟩, ⟨S262144x8, b⟩] Facts.concatenates_S262144x8_S262144x8_S262144x16_d1) v w

/-- The differences of the coordinates of two points. -/
def gap (v : P16) : FVec Ideal S262144x16x16 .f32 :=
  subf (broadcastInDim S262144x16x16 ![0, 1, 2] Facts.bcast_S262144x1x16_S262144x16x16_0_1_2 (broadcastInDim S262144x1x16 ![0, 2] Facts.bcast_S262144x16_S262144x1x16_0_2 v))
    (broadcastInDim S262144x16x16 ![0, 1, 2] Facts.bcast_S262144x16x1_S262144x16x16_0_1_2 (broadcastInDim S262144x16x1 ![0, 1] Facts.bcast_S262144x16_S262144x16x1_0_1 v))

/-- Two different points are apart. -/
def apartOf (v w : P16) : IVec S262144x16x16 1 :=
  ori (cmpf .oge (addf (mulf (gap v) (gap v)) (mulf (gap w) (gap w)))
      (broadcastInDim S262144x16x16 ![] Facts.bcast_S_S262144x16x16 (constant (F := Ideal) S_ .f32 0x24E69595#32)))
    (broadcastInDim S262144x16x16 ![0, 1, 2] Facts.bcast_S1x16x16_S262144x16x16_0_1_2
      (cmpi .eq (iotaInDim S1x16x16 32 1) (iotaInDim S1x16x16 32 2)))

/-- The conditions are these. -/
theorem fn_eq (a b : P2) : fn (F := Ideal) a b =
    (finiteOf a, finiteOf b, convex (xs a) (ys a), convex (xs b) (ys b), clearOf (xs a) (ys a) (xs b) (ys b),
      clearOf (xs b) (ys b) (xs a) (ys a), steepOf (xs a) (ys a) (xs b) (ys b), apartOf (cat (xs a) (xs b)) (cat (ys a) (ys b))) := rfl

variable (β : Fin 262144)

theorem xs_at (a : P2) (i : Fin 8) : xs a (ix2 β i) = a (ix3 β i 0) := by pointwise [xs]
theorem ys_at (a : P2) (i : Fin 8) : ys a (ix2 β i) = a (ix3 β i 1) := by pointwise [ys]

theorem edge_at (v : P8) (i : Fin 8) : edge v (ix2 β i) = v (ix2 β (i + 1)) - v (ix2 β i) := by
  have h : fn_roll_static (F := Ideal) v (ix2 β i) = v (ix2 β (i + 1)) := by
    pointwise [fn_roll_static]
    fin_cases i <;> rfl
  rw [← h]
  pointwise [edge]

theorem down_at (v : P8) (i k : Fin 8) : down v (ix3 β i k) = v (ix2 β i) := by pointwise [down]
theorem along_at (v : P8) (i k : Fin 8) : along v (ix3 β i k) = v (ix2 β k) := by pointwise [along]

theorem sides_at (x y px py : P8) (i k : Fin 8) : sides x y px py (ix3 β i k) =
    (x (ix2 β (i + 1)) - x (ix2 β i)) * (py (ix2 β k) - y (ix2 β i)) - (y (ix2 β (i + 1)) - y (ix2 β i)) * (px (ix2 β k) - x (ix2 β i)) := by
  rw [← edge_at, ← edge_at]
  pointwise [sides]
  rw [down_at, down_at, down_at, down_at, along_at, along_at]

/-- A disjunction of a decided test with a mark that is set: one of the two. -/
theorem or_set {p : Prop} [Decidable p] {w : BitVec 1} (h : IntOp.ori (BitVec.ofBool (decide p)) w = 1#1) : p ∨ w = 1#1 := by
  by_cases hp : p
  · exact Or.inl hp
  · refine Or.inr ?_
    rw [decide_eq_false hp] at h
    simpa [IntOp.ori] using h

theorem of_set {p : Prop} [Decidable p] (h : BitVec.ofBool (decide p) = 1#1) : p := by
  by_contra hp
  rw [decide_eq_false hp] at h
  exact absurd h (by decide)

theorem ends_off : ∀ i k : Fin 8, k ≠ i → k ≠ i + 1 →
    IntOp.ori (IntOp.ori (IntOp.cmpi CmpIPredicate.eq (BitVec.ofNat 32 k) (BitVec.ofNat 32 i))
      (IntOp.cmpi CmpIPredicate.eq (BitVec.ofNat 32 k) (IntOp.addi (BitVec.ofNat 32 i) 1#32)))
      (IntOp.cmpi CmpIPredicate.eq (IntOp.addi (BitVec.ofNat 32 k) 7#32) (BitVec.ofNat 32 i)) ≠ 1#1 := by decide

theorem same_off : ∀ p q : Fin 16, p ≠ q → IntOp.cmpi CmpIPredicate.eq (BitVec.ofNat 32 p) (BitVec.ofNat 32 q) ≠ 1#1 := by decide

/-- A convex polygon's other vertices lie to the left of each edge. -/
theorem convex_of {x y : P8} (h : convex x y = fun _ => 1#1) {i k : Fin 8} (h0 : k ≠ i) (h1 : k ≠ i + 1) :
    0 < sides x y x y (ix3 β i k) := by
  have e := congrFun h (ix3 β i k)
  revert e
  pointwise [convex, all88, ends]
  exact fun e => (or_set e).resolve_right (ends_off i k h0 h1)

theorem clear_of {x y px py : P8} (h : clearOf x y px py = fun _ => 1#1) (i k : Fin 8) :
    0 < sides x y px py (ix3 β i k) ∨ sides x y px py (ix3 β i k) < Ideal.ofBits .f32 0xB58637BD#32 := by
  have e := congrFun h (ix3 β i k)
  revert e
  pointwise [clearOf, all88]
  exact fun e => (or_set e).imp_right of_set

theorem steep_of {ax ay bx by' : P8} (h : steepOf ax ay bx by' = fun _ => 1#1) (i j : Fin 8) :
    Ideal.ofBits .f32 0x3089705F#32 ≤ FloatOps.absf (F := Ideal) (φ := .f32)
      ((ax (ix2 β (i + 1)) - ax (ix2 β i)) * (by' (ix2 β (j + 1)) - by' (ix2 β j))
        - (ay (ix2 β (i + 1)) - ay (ix2 β i)) * (bx (ix2 β (j + 1)) - bx (ix2 β j))) := by
  rw [← edge_at, ← edge_at, ← edge_at, ← edge_at]
  have e := congrFun h (ix3 β i j)
  revert e
  pointwise [steepOf, all88]
  rw [down_at, down_at, along_at, along_at]
  exact of_set

theorem finite_of {a : P2} (h : finiteOf a = fun _ => 1#1) (i : Fin 8) (d : Fin 2) :
    FloatOps.absf (F := Ideal) (φ := .f32) (a (ix3 β i d)) < Ideal.ofBits .f32 0x7F800000#32 := by
  have e := congrFun h (ix3 β i d)
  revert e
  pointwise [finiteOf]
  exact of_set

theorem cat_at (v w : P8) (p : Fin 16) : cat v w (ix2 β p) =
    if h : p.val < 8 then v (ix2 β ⟨p.val, h⟩) else w (ix2 β ⟨p.val - 8, by omega⟩) := by
  pointwise [cat]

theorem apart_of {v w : P16} (h : apartOf v w = fun _ => 1#1) {p q : Fin 16} (hpq : p ≠ q) :
    Ideal.ofBits .f32 0x24E69595#32 ≤ (v (ix2 β q) - v (ix2 β p)) * (v (ix2 β q) - v (ix2 β p))
      + (w (ix2 β q) - w (ix2 β p)) * (w (ix2 β q) - w (ix2 β p)) := by
  have e := congrFun h (ix3 β p q)
  revert e
  pointwise [apartOf, gap]
  exact fun e => (or_set e).resolve_right (same_off p q hpq)

end Ciou.Pre
-- ==== Proof.RefBlock.lean ====
/-
  The reference's program as array functions: the polygons sorted by angle, the points of one polygon inside the other,
  the crossings of edges, the area of the intersection, the polygons' areas, and the hull's first vertex.  The theorems
  at the end say that the program, run up to its loop, leaves these functions of the arguments in its buffers.
-/
module

public import proofs.«01_k».proof.Proof.RefRun

@[expose] public section

set_option maxRecDepth 20000

noncomputable section

namespace Ciou.Ref

open Idealize.ShloMosaic Idealize.ShloMosaic.TcCoe Idealize.ShloMosaic.StableHlo
open Cert.ReferenceIdeal Cert.ReferenceIdeal.Gen Cert.ReferenceIdeal.Value

/-- A batch of polygons, as the argument holds them. -/
abbrev Poly := FVec Ideal S262144x8x2 .f32
/-- A number per batch element. -/
abbrev B0 := FVec Ideal S262144 .f32
/-- A number per batch element and vertex. -/
abbrev B8 := FVec Ideal S262144x8 .f32
/-- A number per batch element and pair of vertices. -/
abbrev B88 := FVec Ideal S262144x8x8 .f32
/-- A number per batch element and candidate vertex of the intersection. -/
abbrev B80 := FVec Ideal S262144x80 .f32
/-- A number per batch element and point of the two polygons. -/
abbrev B16 := FVec Ideal S262144x16 .f32
/-- A truth value per batch element and candidate vertex of the intersection. -/
abbrev M80 := IVec S262144x80 1

/-- The first coordinates. -/
def px (a : Poly) : B8 :=
  shapeCast S262144x8 (extractStridedSlice S262144x8x1 ![0, 0, 0] a slices_S262144x8x2_S262144x8x1_0_0_0) shapeCasts_S262144x8x1_S262144x8

/-- The second coordinates. -/
def py (a : Poly) : B8 :=
  shapeCast S262144x8 (extractStridedSlice S262144x8x1 ![0, 0, 1] a slices_S262144x8x2_S262144x8x1_0_0_1) shapeCasts_S262144x8x1_S262144x8

/-- The difference from the mean of the eight. -/
def centred (x : B8) : B8 :=
  subf x (broadcastInDim S262144x8 ![0, 1] bcast_S262144x1_S262144x8_0_1
    (Host.divf (broadcastInDim S262144x1 ![0] bcast_S262144_S262144x1_0
      (Host.reduceAdd x (constant S_ .f32 0x00000000#32) reducesTo_S262144x8_S262144_d1 h_S_))
      (broadcastInDim S262144x1 ![] bcast_S_S262144x1 (constant S_ .f32 0x41000000#32))))

/-- The angles about the centroid, and the coordinates, sorted by angle. -/
def sorted (a : Poly) : B8 × B8 × B8 :=
  Host.sort3 S262144x8 1 comparator_f32_f32_f32_d1 (Host.atan2 (centred (py a)) (centred (px a))) (px a) (py a)

/-- The sorted first coordinates. -/
def sx (a : Poly) : B8 := (sorted a).2.1
/-- The sorted second coordinates. -/
def sy (a : Poly) : B8 := (sorted a).2.2

/-- The next vertex in cyclic order. -/
def nxt (x : B8) : B8 :=
  concatenate S262144x8 1 [⟨S262144x7, extractStridedSlice S262144x7 ![0, 1] x slices_S262144x8_S262144x7_0_1⟩,
    ⟨S262144x1, extractStridedSlice S262144x1 ![0, 0] x slices_S262144x8_S262144x1_0_0⟩] concatenates_S262144x7_S262144x1_S262144x8_d1

/-- The next candidate in cyclic order. -/
def nxt80 (x : B80) : B80 :=
  concatenate S262144x80 1 [⟨S262144x79, extractStridedSlice S262144x79 ![0, 1] x slices_S262144x80_S262144x79_0_1⟩,
    ⟨S262144x1, extractStridedSlice S262144x1 ![0, 0] x slices_S262144x80_S262144x1_0_0⟩] concatenates_S262144x79_S262144x1_S262144x80_d1

/-- Repeated along the last axis. -/
def rows (x : B8) : B88 :=
  broadcastInDim S262144x8x8 ![0, 1, 2] bcast_S262144x8x1_S262144x8x8_0_1_2 (broadcastInDim S262144x8x1 ![0, 1] bcast_S262144x8_S262144x8x1_0_1 x)

/-- Repeated along the middle axis. -/
def cols (x : B8) : B88 :=
  broadcastInDim S262144x8x8 ![0, 1, 2] bcast_S262144x1x8_S262144x8x8_0_1_2 (broadcastInDim S262144x1x8 ![0, 2] bcast_S262144x8_S262144x1x8_0_2 x)

/-- A literal for every pair. -/
def lit88 (w : BitVec 32) : B88 := broadcastInDim S262144x8x8 ![] bcast_S_S262144x8x8 (constant S_ .f32 w)

/-- A literal for every batch element. -/
def lit0 (w : BitVec 32) : B0 := broadcastInDim S262144 ![] bcast_S_S262144 (constant S_ .f32 w)

/-- Which of the points `p` have no edge of the polygon `q` more than a tolerance to their left. -/
def inside (p1 p2 q1 q2 : B8) : IVec S262144x8 1 :=
  Host.reduce IntOp.andi
    (cmpf .oge (subf (mulf (cols (subf (nxt q1) q1)) (subf (rows p2) (cols q2))) (mulf (cols (subf (nxt q2) q2)) (subf (rows p1) (cols q1))))
      (lit88 0xB58637BD#32))
    (constantI S_ 1 1#1) reducesTo_S262144x8x8_S262144x8_d2 h_S_

section Cross

variable (a1 a2 b1 b2 : B8)

/-- The cross products of the edge vectors. -/
def den : B88 :=
  subf (mulf (rows (subf (nxt a1) a1)) (cols (subf (nxt b2) b2))) (mulf (rows (subf (nxt a2) a2)) (cols (subf (nxt b1) b1)))

/-- Those not too small, one elsewhere. -/
def safe : B88 :=
  select (cmpf .olt (Host.absf (den a1 a2 b1 b2)) (lit88 0x3089705F#32)) (lit88 0x3F800000#32) (den a1 a2 b1 b2)

/-- The parameter of the crossing on the edge of the first polygon. -/
def tpar : B88 :=
  Host.divf (subf (mulf (subf (cols b1) (rows a1)) (cols (subf (nxt b2) b2))) (mulf (subf (cols b2) (rows a2)) (cols (subf (nxt b1) b1))))
    (safe a1 a2 b1 b2)

/-- The parameter of the crossing on the edge of the second polygon. -/
def upar : B88 :=
  Host.divf (subf (mulf (subf (cols b1) (rows a1)) (rows (subf (nxt a2) a2))) (mulf (subf (cols b2) (rows a2)) (rows (subf (nxt a1) a1))))
    (safe a1 a2 b1 b2)

/-- Which pairs of edges cross. -/
def hits : IVec S262144x8x8 1 :=
  andi (andi (andi (andi (cmpf .oge (Host.absf (den a1 a2 b1 b2)) (lit88 0x3089705F#32))
    (cmpf .oge (tpar a1 a2 b1 b2) (lit88 0x00000000#32))) (cmpf .ole (tpar a1 a2 b1 b2) (lit88 0x3F800000#32)))
    (cmpf .oge (upar a1 a2 b1 b2) (lit88 0x00000000#32))) (cmpf .ole (upar a1 a2 b1 b2) (lit88 0x3F800000#32))

/-- A coordinate of the crossings. -/
def hitAt (x : B8) : B88 := addf (rows x) (mulf (tpar a1 a2 b1 b2) (rows (subf (nxt x) x)))

/-- A coordinate of the candidates: the vertices of both polygons and the crossings. -/
def cand (x y : B8) : B80 :=
  concatenate S262144x80 1 [⟨S262144x8, x⟩, ⟨S262144x8, y⟩, ⟨S262144x64, shapeCast S262144x64 (hitAt a1 a2 b1 b2 x) shapeCasts_S262144x8x8_S262144x64⟩]
    concatenates_S262144x8_S262144x8_S262144x64_S262144x80_d1

/-- Which candidates are vertices of the intersection. -/
def good : M80 :=
  concatenate S262144x80 1 [⟨S262144x8, inside a1 a2 b1 b2⟩, ⟨S262144x8, inside b1 b2 a1 a2⟩,
    ⟨S262144x64, shapeCast S262144x64 (hits a1 a2 b1 b2) shapeCasts_S262144x8x8_S262144x64⟩]
    concatenates_S262144x8_S262144x8_S262144x64_S262144x80_d1

end Cross

/-- How many candidates are vertices. -/
def count (v : M80) : IVec S262144 32 :=
  Host.reduce IntOp.addi (extui 32 v natLt_1_32) (constantI S_ 32 0#32) reducesTo_S262144x80_S262144_d1 h_S_

/-- The candidates' difference from the mean of those that are vertices. -/
def centred80 (v : M80) (x : B80) : B80 :=
  subf x (broadcastInDim S262144x80 ![0, 1] bcast_S262144x1_S262144x80_0_1 (broadcastInDim S262144x1 ![0] bcast_S262144_S262144x1_0
    (Host.divf (Host.reduceAdd (mulf x (uitofp .f32 v)) (constant S_ .f32 0x00000000#32) reducesTo_S262144x80_S262144_d1 h_S_)
      (sitofp .f32 (maxsi (count v) (broadcastInDim S262144 ![] bcast_S_S262144 (constantI S_ 32 1#32)))))))

/-- One literal. -/
def lit1 (w : BitVec 32) : FVec Ideal S_ .f32 := constant S_ .f32 w

/-- The angles of the candidates about the vertices' mean. -/
def angles80 (v : M80) (x y : B80) : B80 := Host.atan2 (centred80 v y) (centred80 v x)

/-- The angles of the vertices about their mean, a large number at the other candidates. -/
def keys (v : M80) (x y : B80) : B80 :=
  select v (angles80 v x y) (broadcastInDim S262144x80 ![] bcast_S_S262144x80 (lit1 0x4E6E6B28#32))

/-- The keys, the coordinates and the marks of the candidates, sorted by key. -/
def sorted80 (v : M80) (x y : B80) : B80 × B80 × B80 × M80 :=
  Host.sort4 S262144x80 1 comparator_f32_f32_f32_i1_d1 (keys v x y) x y v

/-- The sorted coordinate where the sorted mark is set, its first element elsewhere. -/
def masked (v : M80) (x : B80) : B80 :=
  select v x (broadcastInDim S262144x80 ![0, 1] bcast_S262144x1_S262144x80_0_1
    (extractStridedSlice S262144x1 ![0, 0] x slices_S262144x80_S262144x1_0_0))

/-- The shoelace area of the sorted candidates. -/
def shoe80 (x y : B80) : B0 :=
  mulf (lit0 0x3F000000#32)
    (Host.reduceAdd (subf (mulf x (nxt80 y)) (mulf y (nxt80 x))) (constant S_ .f32 0x00000000#32) reducesTo_S262144x80_S262144_d1 h_S_)

/-- The area of the polygon whose vertices are the candidates marked. -/
def area80 (v : M80) (x y : B80) : B0 :=
  select (cmpi .sge (count v) (broadcastInDim S262144 ![] bcast_S_S262144 (constantI S_ 32 3#32)))
    (maximumf (shoe80 (masked (sorted80 v x y).2.2.2 (sorted80 v x y).2.1) (masked (sorted80 v x y).2.2.2 (sorted80 v x y).2.2.1))
      (lit0 0x00000000#32))
    (lit0 0x00000000#32)

/-- The area of the intersection of two polygons given by their coordinates. -/
def inter (a1 a2 b1 b2 : B8) : B0 :=
  area80 (good a1 a2 b1 b2) (cand a1 a2 b1 b2 a1 b1) (cand a1 a2 b1 b2 a2 b2)

/-- The shoelace area of a polygon. -/
def shoe (x y : B8) : B0 :=
  mulf (lit0 0x3F000000#32)
    (Host.reduceAdd (subf (mulf x (nxt y)) (mulf y (nxt x))) (constant S_ .f32 0x00000000#32) reducesTo_S262144x8_S262144_d1 h_S_)

/-- The area of the intersection of the sorted polygons. -/
def interOf (a b : Poly) : B0 := inter (sx a) (sy a) (sx b) (sy b)

/-- The area of the union. -/
def unionOf (a b : Poly) : B0 := subf (addf (shoe (sx a) (sy a)) (shoe (sx b) (sy b))) (interOf a b)

/-- The quotients of two arrays of numbers. -/
def ratio (x y : B0) : B0 := Host.divf x y

/-- One coordinate of all points of both polygons. -/
def all (x y : B8) : B16 := concatenate S262144x16 1 [⟨S262144x8, x⟩, ⟨S262144x8, y⟩] concatenates_S262144x8_S262144x8_S262144x16_d1

/-- The points' indices. -/
def ids : IVec S262144x16 32 := iotaInDim S262144x16 32 1

/-- The least of sixteen numbers, repeated. -/
def least (x : B16) : B16 :=
  broadcastInDim S262144x16 ![0, 1] bcast_S262144x1_S262144x16_0_1 (broadcastInDim S262144x1 ![0] bcast_S262144_S262144x1_0
    (Host.reduce FloatOps.minimumf x (constant S_ .f32 0x7F800000#32) reducesTo_S262144x16_S262144_d1 h_S_))

/-- The first index at which a mark is set. -/
def first (v : IVec S262144x16 1) : IVec S262144 32 :=
  Host.reduce IntOp.minsi (select v ids (broadcastInDim S262144x16 ![] bcast_S_S262144x16 (constantI S_ 32 16#32)))
    (constantI S_ 32 2147483647#32) reducesTo_S262144x16_S262144_d1 h_S_

/-- The lowest points. -/
def low (y : B16) : IVec S262144x16 1 := cmpf .oeq y (least y)

/-- The first coordinates of the lowest points, infinity elsewhere. -/
def lowx (x y : B16) : B16 :=
  select (low y) x (broadcastInDim S262144x16 ![] bcast_S_S262144x16 (lit1 0x7F800000#32))

/-- The index of the leftmost of the lowest points. -/
def start (x y : B16) : IVec S262144 32 := first (andi (low y) (cmpf .oeq (lowx x y) (least (lowx x y))))

/-- The mark of a hull not yet closed, for every batch element. -/
def notYet : IVec S262144 1 := broadcastInDim S262144 ![] bcast_S_S262144 (constantI S_ 1 0#1)

variable (m : (ℓ : Loc nD τ sig) → Buf (Elt Ideal) ℓ) (c : Dev nD)

/-- The first polygons at the run's start. -/
abbrev argA : Poly := m ((c.tc : Thread nD τ).loc main_arg0)
/-- The second polygons at the run's start. -/
abbrev argB : Poly := m ((c.tc : Thread nD τ).loc main_arg1)

end Ciou.Ref
-- ==== Proof.Angle.lean ====
/-
  The angle `atan2` computes, and the order it puts on the points around a centre.
-/
module

public import Mathlib.Analysis.SpecialFunctions.Complex.Arg
public import Mathlib.Analysis.SpecialFunctions.Trigonometric.Arctan
public import Mathlib.Tactic.Linarith
public import Mathlib.Tactic.Ring
public import Mathlib.Tactic.FieldSimp

@[expose] public section

namespace Ciou

open Complex

/-- The angle of the vector `(x, y)` in `(-π, π]`. -/
noncomputable def ang (y x : ℝ) : ℝ := Complex.arg ⟨x, y⟩

/-- The length of the vector `(x, y)`. -/
noncomputable def len (y x : ℝ) : ℝ := ‖(⟨x, y⟩ : ℂ)‖

theorem ang_le_pi (y x : ℝ) : ang y x ≤ Real.pi := Complex.arg_le_pi _

theorem neg_pi_lt_ang (y x : ℝ) : -Real.pi < ang y x := Complex.neg_pi_lt_arg _

theorem len_mul_cos (y x : ℝ) : len y x * Real.cos (ang y x) = x := by
  simp [len, ang, Complex.norm_mul_cos_arg]

theorem len_mul_sin (y x : ℝ) : len y x * Real.sin (ang y x) = y := by
  simp [len, ang, Complex.norm_mul_sin_arg]

theorem len_nonneg (y x : ℝ) : 0 ≤ len y x := norm_nonneg _

theorem len_pos {y x : ℝ} (h : x ≠ 0 ∨ y ≠ 0) : 0 < len y x := by
  refine norm_pos_iff.2 fun e => ?_
  have := congrArg Complex.re e
  have := congrArg Complex.im e
  simp_all

/-- The cross product of two vectors is the product of their lengths by the sine of the angle between them. -/
theorem cross_eq_sin (x y x' y' : ℝ) :
    x * y' - y * x' = len y x * len y' x' * Real.sin (ang y' x' - ang y x) := by
  have e1 := len_mul_cos y x
  have e2 := len_mul_sin y x
  have e3 := len_mul_cos y' x'
  have e4 := len_mul_sin y' x'
  have e : len y x * len y' x' * Real.sin (ang y' x' - ang y x)
      = len y x * Real.cos (ang y x) * (len y' x' * Real.sin (ang y' x'))
        - len y x * Real.sin (ang y x) * (len y' x' * Real.cos (ang y' x')) := by
    rw [Real.sin_sub]; ring
  rw [e, e1, e2, e3, e4]

/-- A vector on or above the axis has an angle in `[0, π]`. -/
theorem ang_nonneg {y x : ℝ} (h : 0 ≤ y) : 0 ≤ ang y x := Complex.arg_nonneg_iff.2 h

/-- The angle by quadrant from the arctangent. -/
theorem ang_eq (y x : ℝ) :
    ang y x = if 0 < x then Real.arctan (y / x)
      else if x < 0 then (if 0 ≤ y then Real.arctan (y / x) + Real.pi else Real.arctan (y / x) - Real.pi)
      else if 0 < y then Real.pi / 2 else if y < 0 then -(Real.pi / 2) else 0 := by
  have hpi := Real.pi_pos
  have key : ∀ φ, φ ∈ Set.Ioc (-Real.pi) Real.pi → ∀ r : ℝ, 0 < r → r * Real.cos φ = x → r * Real.sin φ = y → ang y x = φ := by
    intro φ hφ r hr hc hs
    have : (⟨x, y⟩ : ℂ) = (r : ℂ) * (Complex.cos φ + Complex.sin φ * Complex.I) := by
      apply Complex.ext
      · simp [← hc, Complex.cos_ofReal_re, Complex.sin_ofReal_im, Complex.sin_ofReal_re]
      · simp [← hs, Complex.cos_ofReal_im, Complex.sin_ofReal_im, Complex.sin_ofReal_re]
    rw [ang, this, Complex.arg_mul_cos_add_sin_mul_I hr hφ]
  have hlt := Real.arctan_lt_pi_div_two (y / x)
  have hgt := Real.neg_pi_div_two_lt_arctan (y / x)
  have hcos := Real.cos_arctan_pos (y / x)
  have htan : x ≠ 0 → Real.sin (Real.arctan (y / x)) = y / x * Real.cos (Real.arctan (y / x)) := by
    intro hx
    have := Real.tan_arctan (y / x)
    rw [Real.tan_eq_sin_div_cos, div_eq_iff hcos.ne'] at this
    exact this
  split_ifs with h1 h2 h3 h4 h5
  · refine key _ ⟨by linarith, by linarith⟩ (x / Real.cos (Real.arctan (y / x))) (by positivity) ?_ ?_
    · field_simp
    · rw [htan h1.ne']; field_simp
  · have hx : x ≠ 0 := h2.ne
    have hle : Real.arctan (y / x) ≤ 0 := by
      have := Real.arctan_strictMono.monotone (div_nonpos_of_nonneg_of_nonpos h3 h2.le)
      rwa [Real.arctan_zero] at this
    refine key _ ⟨by linarith, by linarith⟩ (-x / Real.cos (Real.arctan (y / x))) (div_pos (by linarith) hcos) ?_ ?_
    · rw [Real.cos_add_pi]; field_simp
    · rw [Real.sin_add_pi, htan hx]; field_simp
  · have hx : x ≠ 0 := h2.ne
    have hle : 0 < Real.arctan (y / x) := by
      rw [Real.arctan_pos]; exact div_pos_of_neg_of_neg (by linarith) h2
    refine key _ ⟨by linarith, by linarith⟩ (-x / Real.cos (Real.arctan (y / x))) (div_pos (by linarith) hcos) ?_ ?_
    · rw [Real.cos_sub_pi]; field_simp
    · rw [Real.sin_sub_pi, htan hx]; field_simp
  · have hx : x = 0 := by linarith
    exact key _ ⟨by linarith, by linarith⟩ y h4 (by simp [hx]) (by simp)
  · have hx : x = 0 := by linarith
    exact key _ ⟨by linarith, by linarith⟩ (-y) (by linarith) (by simp [hx]) (by simp)
  · have hx : x = 0 := by linarith
    have hy : y = 0 := by linarith
    subst hx hy
    exact Complex.arg_zero

end Ciou
-- ==== Proof.Around.lean ====
/-
  Points around a centre, each with a successor counterclockwise of it and nothing between the two: in the order of
  their angles the successor of each is the next one, and of the last the first.
-/
module

public import proofs.«01_k».proof.Proof.Angle
public import Mathlib.Algebra.BigOperators.Group.Finset.Basic
public import Mathlib.Algebra.BigOperators.Intervals
public import Mathlib.Algebra.Order.BigOperators.Group.Finset
public import Mathlib.Data.List.Sort
public import Mathlib.Data.Fintype.Card

@[expose] public section

namespace Ciou

/-- Twice the signed area of the triangle of the centre `o`, `p` and `q`. -/
def area2 (ox oy px py qx qy : ℝ) : ℝ := (px - ox) * (qy - oy) - (py - oy) * (qx - ox)

/-- Every point of `V` has its successor `σ v` in `V`, strictly counterclockwise of it as seen from `(ox, oy)`, and no
    third point of `V` lies in the closed sector between the two. -/
structure Around {ι : Type} (V : Finset ι) (X Y : ι → ℝ) (ox oy : ℝ) (σ : ι → ι) : Prop where
  maps : ∀ v ∈ V, σ v ∈ V
  turn : ∀ v ∈ V, 0 < area2 ox oy (X v) (Y v) (X (σ v)) (Y (σ v))
  empty : ∀ v ∈ V, ∀ w ∈ V, w ≠ v → w ≠ σ v → 0 ≤ area2 ox oy (X v) (Y v) (X w) (Y w) →
    0 ≤ area2 ox oy (X w) (Y w) (X (σ v)) (Y (σ v)) → False

variable {ι : Type} {V : Finset ι} {X Y : ι → ℝ} {ox oy : ℝ} {σ : ι → ι}

/-- The angle of `(x, y)` as seen from `(ox, oy)`. -/
noncomputable abbrev angO (ox oy x y : ℝ) : ℝ := ang (y - oy) (x - ox)

theorem area2_eq_sin (ox oy px py qx qy : ℝ) :
    area2 ox oy px py qx qy
      = len (py - oy) (px - ox) * len (qy - oy) (qx - ox) * Real.sin (angO ox oy qx qy - angO ox oy px py) :=
  cross_eq_sin _ _ _ _

/-- Two points at most half a turn apart, by their angles. -/
theorem area2_nonneg {ox oy px py qx qy : ℝ}
    (h : (0 ≤ angO ox oy qx qy - angO ox oy px py ∧ angO ox oy qx qy - angO ox oy px py ≤ Real.pi) ∨
      angO ox oy qx qy - angO ox oy px py ≤ -Real.pi) : 0 ≤ area2 ox oy px py qx qy := by
  rw [area2_eq_sin]
  refine mul_nonneg (mul_nonneg (len_nonneg _ _) (len_nonneg _ _)) ?_
  rcases h with ⟨h0, h1⟩ | h
  · exact Real.sin_nonneg_of_nonneg_of_le_pi h0 h1
  · have h1 := ang_le_pi (py - oy) (px - ox)
    have h2 := neg_pi_lt_ang (qy - oy) (qx - ox)
    rw [← Real.sin_add_two_pi]
    exact Real.sin_nonneg_of_nonneg_of_le_pi (by linarith) (by linarith)

/-- A positive area says which of the two angles is the larger, but for the wrap. -/
theorem angle_of_area2_pos {ox oy px py qx qy : ℝ} (h : 0 < area2 ox oy px py qx qy) :
    (0 < angO ox oy qx qy - angO ox oy px py ∧ angO ox oy qx qy - angO ox oy px py < Real.pi) ∨
      angO ox oy qx qy - angO ox oy px py < -Real.pi := by
  by_contra hn
  rw [not_or, not_and_or, not_lt, not_lt, not_lt] at hn
  have h1 := ang_le_pi (py - oy) (px - ox)
  have h2 := neg_pi_lt_ang (qy - oy) (qx - ox)
  have h3 := ang_le_pi (qy - oy) (qx - ox)
  have h4 := neg_pi_lt_ang (py - oy) (px - ox)
  have : Real.sin (angO ox oy qx qy - angO ox oy px py) ≤ 0 := by
    rcases hn.1 with h0 | h0
    · exact Real.sin_nonpos_of_nonpos_of_neg_pi_le h0 hn.2
    · rw [← Real.sin_sub_two_pi]
      exact Real.sin_nonpos_of_nonpos_of_neg_pi_le (by linarith) (by linarith)
  rw [area2_eq_sin] at h
  have := mul_nonpos_of_nonneg_of_nonpos (mul_nonneg (len_nonneg (py - oy) (px - ox)) (len_nonneg (qy - oy) (qx - ox))) this
  linarith

theorem Around.ne (h : Around V X Y ox oy σ) {v : ι} (hv : v ∈ V) : σ v ≠ v := by
  intro e
  have := h.turn v hv
  rw [e, area2] at this
  linarith

/-- In an enumeration of `V` by increasing angle the successor of a point is the next one, cyclically. -/
theorem Around.next (h : Around V X Y ox oy σ) {n : ℕ} {c : ℕ → ι} (hc : ∀ k < n, c k ∈ V)
    (inj : ∀ j < n, ∀ k < n, c j = c k → j = k) (surj : ∀ v ∈ V, ∃ k < n, c k = v)
    (mono : ∀ j k, j ≤ k → k < n → angO ox oy (X (c j)) (Y (c j)) ≤ angO ox oy (X (c k)) (Y (c k)))
    (k : ℕ) (hk : k < n) : σ (c k) = c ((k + 1) % n) := by
  obtain ⟨m, hm, em⟩ := surj _ (h.maps _ (hc k hk))
  have hne : m ≠ k := fun e => h.ne (hc k hk) (by rw [← em, e])
  have ht := h.turn _ (hc k hk)
  rw [← em] at ht ⊢
  have hemp : ∀ w < n, w ≠ k → w ≠ m → 0 ≤ area2 ox oy (X (c k)) (Y (c k)) (X (c w)) (Y (c w)) →
      0 ≤ area2 ox oy (X (c w)) (Y (c w)) (X (c m)) (Y (c m)) → False := by
    intro w hw h1 h2
    have := h.empty _ (hc k hk) _ (hc w hw) (fun e => h1 (inj _ hw _ hk e))
    rw [← em] at this
    exact this (fun e => h2 (inj _ hw _ hm e))
  have b := fun j => ang_le_pi (Y (c j) - oy) (X (c j) - ox)
  have b' := fun j => neg_pi_lt_ang (Y (c j) - oy) (X (c j) - ox)
  congr 1
  rcases angle_of_area2_pos ht with ⟨h0, h1⟩ | h0
  · have hkm : k < m := by
      by_contra hlt
      have := mono m k (by omega) hk
      linarith
    rw [Nat.mod_eq_of_lt (by omega)]
    by_contra hne'
    have m1 := mono k (k + 1) (by omega) (by omega)
    have m2 := mono (k + 1) m (by omega) hm
    exact hemp (k + 1) (by omega) (by omega) (by omega) (area2_nonneg (.inl ⟨by linarith, by linarith⟩))
      (area2_nonneg (.inl ⟨by linarith, by linarith⟩))
  · have hmk : m < k := by
      by_contra hlt
      have := mono k m (by omega) hm
      linarith [Real.pi_pos]
    have hlast : k + 1 = n := by
      by_contra hne'
      have m1 := mono k (k + 1) (by omega) (by omega)
      have := b (k + 1)
      have := b' m
      exact hemp (k + 1) (by omega) (by omega) (by omega) (area2_nonneg (.inl ⟨by linarith, by linarith⟩))
        (area2_nonneg (.inr (by linarith)))
    rw [hlast, Nat.mod_self]
    by_contra hne'
    have m1 := mono 0 m (by omega) hm
    have := b k
    have := b' 0
    exact hemp 0 (by omega) (by omega) (by omega) (area2_nonneg (.inr (by linarith)))
      (area2_nonneg (.inl ⟨by linarith, by linarith⟩))

/-- A sum over one turn of a cycle may start one step later. -/
theorem sum_range_shift (g : ℕ → ℝ) (n : ℕ) : ∑ k ∈ Finset.range n, g ((k + 1) % n) = ∑ k ∈ Finset.range n, g k := by
  rcases n with _ | m
  · simp
  · rw [Finset.sum_range_succ, Nat.mod_self, Finset.sum_range_succ']
    congr 1
    refine Finset.sum_congr rfl fun k hk => ?_
    rw [Finset.mem_range] at hk
    rw [Nat.mod_eq_of_lt (by omega)]

/-- A sum over `V` by an enumeration of it. -/
theorem sum_enum {n : ℕ} {c : ℕ → ι} (hc : ∀ k < n, c k ∈ V)
    (inj : ∀ j < n, ∀ k < n, c j = c k → j = k) (surj : ∀ v ∈ V, ∃ k < n, c k = v) (f : ι → ℝ) :
    ∑ k ∈ Finset.range n, f (c k) = ∑ v ∈ V, f v :=
  Finset.sum_nbij c (fun k hk => hc k (Finset.mem_range.1 hk))
    (fun j hj k hk e => inj j (by simpa using hj) k (by simpa using hk) e)
    (fun v hv => by obtain ⟨k, hk, e⟩ := surj v hv; exact ⟨k, by simpa using hk, e⟩)
    (fun _ _ => rfl)

/-- Some enumeration by increasing angle exists. -/
theorem exists_sorted (V : Finset ι) (θ : ι → ℝ) (d : ι) : ∃ c : ℕ → ι, (∀ k < V.card, c k ∈ V) ∧
    (∀ j < V.card, ∀ k < V.card, c j = c k → j = k) ∧ (∀ v ∈ V, ∃ k < V.card, c k = v) ∧
    (∀ j k, j ≤ k → k < V.card → θ (c j) ≤ θ (c k)) := by
  classical
  let r : ι → ι → Prop := fun a b => θ a ≤ θ b
  haveI : Std.Total r := ⟨fun a b => le_total (θ a) (θ b)⟩
  haveI : IsTrans ι r := ⟨fun a b c h h' => le_trans (show θ a ≤ θ b from h) h'⟩
  let l := V.toList.insertionSort r
  have hp : l.Perm V.toList := List.perm_insertionSort r _
  have hlen : l.length = V.card := by rw [hp.length_eq, Finset.length_toList]
  have hs : l.Pairwise r := List.pairwise_insertionSort r _
  have hnd : l.Nodup := hp.nodup_iff.2 V.nodup_toList
  have hmem : ∀ v, v ∈ l ↔ v ∈ V := fun v => by rw [hp.mem_iff, Finset.mem_toList]
  refine ⟨fun k => if h : k < l.length then l[k] else d, ?_, ?_, ?_, ?_⟩
  · intro k hk
    rw [← hlen] at hk
    simp only [hk, dif_pos]
    exact (hmem _).1 (List.getElem_mem hk)
  · intro j hj k hk he
    rw [← hlen] at hj hk
    simp only [hj, hk, dif_pos] at he
    exact hnd.getElem_inj_iff.1 he
  · intro v hv
    obtain ⟨k, hk, e⟩ := List.getElem_of_mem ((hmem v).2 hv)
    exact ⟨k, hlen ▸ hk, by simp [hk, e]⟩
  · intro j k hjk hk
    rw [← hlen] at hk
    have hj : j < l.length := lt_of_le_of_lt hjk hk
    simp only [hj, hk, dif_pos]
    rcases Nat.lt_or_eq_of_le hjk with h | h
    · exact List.pairwise_iff_getElem.1 hs j k hj hk h
    · subst h; exact le_rfl

/-- The successor permutes `V`. -/
theorem Around.sum_succ (h : Around V X Y ox oy σ) (f : ι → ℝ) : ∑ v ∈ V, f (σ v) = ∑ v ∈ V, f v := by
  rcases V.eq_empty_or_nonempty with rfl | ⟨d, _⟩
  · simp
  obtain ⟨c, hc, inj, surj, mono⟩ := exists_sorted V (fun v => angO ox oy (X v) (Y v)) d
  rw [← sum_enum hc inj surj fun v => f (σ v), ← sum_enum hc inj surj f, ← sum_range_shift fun k => f (c k)]
  refine Finset.sum_congr rfl fun k hk => ?_
  rw [h.next hc inj surj mono k (Finset.mem_range.1 hk)]

/-- The sum of the cross products of each point and its successor, twice the area the points go around, is not negative. -/
theorem Around.sum_nonneg (h : Around V X Y ox oy σ) : 0 ≤ ∑ v ∈ V, (X v * Y (σ v) - Y v * X (σ v)) := by
  have e : ∑ v ∈ V, (X v * Y (σ v) - Y v * X (σ v)) = ∑ v ∈ V, area2 ox oy (X v) (Y v) (X (σ v)) (Y (σ v)) := by
    have := h.sum_succ fun v => ox * Y v - oy * X v
    have e2 : ∑ v ∈ V, area2 ox oy (X v) (Y v) (X (σ v)) (Y (σ v)) = ∑ v ∈ V, (X v * Y (σ v) - Y v * X (σ v))
        - ∑ v ∈ V, (ox * Y (σ v) - oy * X (σ v)) + ∑ v ∈ V, (ox * Y v - oy * X v) := by
      rw [← Finset.sum_sub_distrib, ← Finset.sum_add_distrib]
      exact Finset.sum_congr rfl fun v _ => by unfold area2; ring
    linarith
  rw [e]
  exact Finset.sum_nonneg fun v hv => (h.turn v hv).le

/-- There are none or at least three such points. -/
theorem Around.three_le (h : Around V X Y ox oy σ) (hV : V.Nonempty) : 3 ≤ V.card := by
  classical
  obtain ⟨v, hv⟩ := hV
  have h1 := h.maps v hv
  have h2 := h.maps _ h1
  have t1 := h.turn v hv
  have t2 := h.turn _ h1
  have n1 := h.ne hv
  have n2 := h.ne h1
  have n3 : σ (σ v) ≠ v := by
    intro e
    rw [e] at t2
    unfold area2 at t1 t2
    linarith
  have : ({v, σ v, σ (σ v)} : Finset ι).card = 3 := Finset.card_eq_three.2 ⟨_, _, _, n1.symm, n3.symm, n2.symm, rfl⟩
  rw [← this]
  refine Finset.card_le_card fun w hw => ?_
  simp only [Finset.mem_insert, Finset.mem_singleton] at hw
  rcases hw with rfl | rfl | rfl <;> assumption

/-- A downward closed finite set of naturals is an initial segment. -/
theorem eq_range_of_lower (F : Finset ℕ) (h : ∀ k ∈ F, ∀ j ≤ k, j ∈ F) : F = Finset.range F.card := by
  refine Finset.eq_of_subset_of_card_le (fun k hk => ?_) (by simp)
  have : (Finset.range (k + 1)).card ≤ F.card :=
    Finset.card_le_card fun j hj => h k hk j (by simpa [Nat.lt_succ_iff] using hj)
  simpa [Nat.succ_le_iff] using this

/-- All points of a type in an order that puts those of `V` first, by increasing angle, the rest replaced by the first
    point: the shoelace sum over the whole order is the sum over `V` of each point's cross product with its successor. -/
theorem Around.shoelace (h : Around V X Y ox oy σ) {N : ℕ} {q : ℕ → ι}
    (inj : ∀ j < N, ∀ k < N, q j = q k → j = k) (surj : ∀ v ∈ V, ∃ k < N, q k = v)
    (first : ∀ j k, j ≤ k → k < N → q k ∈ V → q j ∈ V ∧ angO ox oy (X (q j)) (Y (q j)) ≤ angO ox oy (X (q k)) (Y (q k)))
    {sx sy : ℕ → ℝ} (sx1 : ∀ k < N, q k ∈ V → sx k = X (q k)) (sy1 : ∀ k < N, q k ∈ V → sy k = Y (q k))
    (sx0 : ∀ k < N, q k ∉ V → sx k = X (q 0)) (sy0 : ∀ k < N, q k ∉ V → sy k = Y (q 0)) :
    ∑ k ∈ Finset.range N, (sx k * sy ((k + 1) % N) - sy k * sx ((k + 1) % N))
      = ∑ v ∈ V, (X v * Y (σ v) - Y v * X (σ v)) := by
  classical
  have hF := eq_range_of_lower ((Finset.range N).filter (q · ∈ V)) (by
    intro k hk j hj
    rw [Finset.mem_filter, Finset.mem_range] at hk ⊢
    exact ⟨by omega, (first j k hj hk.1 hk.2).1⟩)
  set n := ((Finset.range N).filter (q · ∈ V)).card with hn
  have hmem : ∀ k < N, (q k ∈ V ↔ k < n) := by
    intro k hk
    have : k ∈ (Finset.range N).filter (q · ∈ V) ↔ k ∈ Finset.range n := by rw [← hF]
    simpa [hk] using this
  have hnN : n ≤ N := by
    have := Finset.card_filter_le (Finset.range N) (q · ∈ V)
    simpa [hn] using this
  have hc : ∀ k < n, q k ∈ V := fun k hk => (hmem k (by omega)).2 hk
  have inj' : ∀ j < n, ∀ k < n, q j = q k → j = k := fun j hj k hk => inj j (by omega) k (by omega)
  have surj' : ∀ v ∈ V, ∃ k < n, q k = v := by
    intro v hv
    obtain ⟨k, hk, rfl⟩ := surj v hv
    exact ⟨k, (hmem k hk).1 hv, rfl⟩
  have next := h.next hc inj' surj' (fun j k hj hk => (first j k hj (by omega) (hc k hk)).2)
  have at0 : ∀ k < N, n ≤ k ∨ k = 0 → sx k = X (q 0) ∧ sy k = Y (q 0) := by
    intro k hk hk'
    by_cases hv : q k ∈ V
    · have : k = 0 := by
        have := (hmem k hk).1 hv
        omega
      subst this
      exact ⟨sx1 _ hk hv, sy1 _ hk hv⟩
    · exact ⟨sx0 _ hk hv, sy0 _ hk hv⟩
  have at1 : ∀ k < n, sx k = X (q k) ∧ sy k = Y (q k) := fun k hk =>
    ⟨sx1 k (by omega) (hc k hk), sy1 k (by omega) (hc k hk)⟩
  rw [← Finset.sum_range_add_sum_Ico _ hnN, Finset.sum_eq_zero (s := Finset.Ico n N), add_zero,
    ← sum_enum hc inj' surj' fun v => X v * Y (σ v) - Y v * X (σ v)]
  · refine Finset.sum_congr rfl fun k hk => ?_
    rw [Finset.mem_range] at hk
    rw [next k hk, (at1 k hk).1, (at1 k hk).2]
    by_cases hk1 : k + 1 < n
    · rw [Nat.mod_eq_of_lt hk1, Nat.mod_eq_of_lt (by omega), (at1 _ hk1).1, (at1 _ hk1).2]
    · have e : k + 1 = n := by omega
      rw [e, Nat.mod_self]
      have := at0 (n % N) (Nat.mod_lt _ (by omega)) (by
        rcases Nat.lt_or_eq_of_le hnN with h | h
        · exact .inl (by rw [Nat.mod_eq_of_lt h])
        · exact .inr (by rw [h, Nat.mod_self]))
      rw [this.1, this.2]
  · intro k hk
    rw [Finset.mem_Ico] at hk
    have h1 := at0 k hk.2 (.inl hk.1)
    have h2 := at0 ((k + 1) % N) (Nat.mod_lt _ (by omega)) (by
      rcases Nat.lt_or_eq_of_le (show k + 1 ≤ N by omega) with h | h
      · exact .inl (by rw [Nat.mod_eq_of_lt h]; omega)
      · exact .inr (by rw [h, Nat.mod_self]))
    rw [h1.1, h1.2, h2.1, h2.2]
    ring

end Ciou
-- ==== Proof.Clip.lean ====
/-
  The part of a segment inside eight half planes: affine functions `c0 j + t * cd j` of the parameter `t` in `[0, 1]`,
  the parameters where the segment enters and leaves.
-/
module

public import Mathlib.Data.Real.Basic
public import Mathlib.Data.Fintype.Card
public import Mathlib.Data.Finset.Lattice.Fold
public import Mathlib.Order.Fin.Basic
public import Mathlib.Tactic.Linarith
public import Mathlib.Tactic.Ring
public import Mathlib.Tactic.FieldSimp

@[expose] public section

namespace Ciou

noncomputable section

variable {n : ℕ} [NeZero n] (c0 cd : Fin n → ℝ)

/-- Where the half plane `j`'s line is crossed, if the segment enters there; else 0. -/
def lo (j : Fin n) : ℝ := if 0 < cd j then -c0 j / cd j else 0

/-- Where the half plane `j`'s line is crossed, if the segment leaves there; else 1. -/
def hi (j : Fin n) : ℝ := if cd j < 0 then -c0 j / cd j else 1

/-- The last entrance. -/
def T1 : ℝ := Finset.univ.sup' Finset.univ_nonempty (lo c0 cd)

/-- The first exit. -/
def T2 : ℝ := Finset.univ.inf' Finset.univ_nonempty (hi c0 cd)

/-- No half plane's line passes through an end of the segment or is parallel to it, and the segment's direction enters
    some half plane and leaves some. -/
structure Clipped : Prop where
  cd_ne : ∀ j, cd j ≠ 0
  c0_ne : ∀ j, c0 j ≠ 0
  c1_ne : ∀ j, c0 j + cd j ≠ 0
  some_neg : ∃ j, cd j < 0
  some_pos : ∃ j, 0 < cd j

variable {c0 cd}

theorem lo_le_T1 (j : Fin n) : lo c0 cd j ≤ T1 c0 cd := Finset.le_sup' (lo c0 cd) (Finset.mem_univ j)

theorem T2_le_hi (j : Fin n) : T2 c0 cd ≤ hi c0 cd j := Finset.inf'_le (hi c0 cd) (Finset.mem_univ j)

theorem Clipped.T1_nonneg (h : Clipped c0 cd) : 0 ≤ T1 c0 cd := by
  obtain ⟨j, hj⟩ := h.some_neg
  have := lo_le_T1 (c0 := c0) (cd := cd) j
  rwa [lo, if_neg hj.le.not_gt] at this

theorem Clipped.T2_le_one (h : Clipped c0 cd) : T2 c0 cd ≤ 1 := by
  obtain ⟨j, hj⟩ := h.some_pos
  have := T2_le_hi (c0 := c0) (cd := cd) j
  rwa [hi, if_neg hj.le.not_gt] at this

/-- Between entrance and exit the segment is inside. -/
theorem Clipped.inside (h : Clipped c0 cd) {t : ℝ} (h1 : T1 c0 cd ≤ t) (h2 : t ≤ T2 c0 cd) (j : Fin n) :
    0 ≤ c0 j + t * cd j := by
  rcases lt_or_gt_of_ne (h.cd_ne j) with hj | hj
  · have := h2.trans (T2_le_hi j)
    rw [hi, if_pos hj, le_div_iff_of_neg hj] at this
    linarith
  · have := (lo_le_T1 j).trans h1
    rw [lo, if_pos hj, div_le_iff₀ hj] at this
    linarith

/-- Where the inside part starts: at the segment's start, inside, or at an entrance. -/
theorem Clipped.start (h : Clipped c0 cd) (ht : T1 c0 cd < T2 c0 cd) :
    (T1 c0 cd = 0 ∧ ∀ j, 0 < c0 j) ∨ ∃ j, 0 < cd j ∧ T1 c0 cd = -c0 j / cd j ∧ 0 < T1 c0 cd := by
  obtain ⟨j, -, e⟩ := Finset.exists_mem_eq_sup' (Finset.univ_nonempty (α := Fin n)) (lo c0 cd)
  change T1 c0 cd = lo c0 cd j at e
  by_cases hj : 0 < cd j
  · rw [lo, if_pos hj] at e
    refine .inr ⟨j, hj, e, lt_of_le_of_ne h.T1_nonneg fun e0 => ?_⟩
    rw [e, eq_comm, div_eq_iff hj.ne'] at e0
    exact h.c0_ne j (by linarith)
  · rw [lo, if_neg hj] at e
    refine .inl ⟨e, fun j => lt_of_le_of_ne ?_ (h.c0_ne j).symm⟩
    have := h.inside le_rfl ht.le j
    rw [e] at this
    linarith

/-- Where the inside part ends: at the segment's end, inside, or at an exit. -/
theorem Clipped.stop (h : Clipped c0 cd) (ht : T1 c0 cd < T2 c0 cd) :
    (T2 c0 cd = 1 ∧ ∀ j, 0 < c0 j + cd j) ∨ ∃ j, cd j < 0 ∧ T2 c0 cd = -c0 j / cd j ∧ T2 c0 cd < 1 := by
  obtain ⟨j, -, e⟩ := Finset.exists_mem_eq_inf' (Finset.univ_nonempty (α := Fin n)) (hi c0 cd)
  change T2 c0 cd = hi c0 cd j at e
  by_cases hj : cd j < 0
  · rw [hi, if_pos hj] at e
    refine .inr ⟨j, hj, e, lt_of_le_of_ne h.T2_le_one fun e0 => ?_⟩
    rw [e, div_eq_iff hj.ne] at e0
    exact h.c1_ne j (by linarith)
  · rw [hi, if_neg hj] at e
    refine .inl ⟨e, fun j => lt_of_le_of_ne ?_ (h.c1_ne j).symm⟩
    have := h.inside ht.le le_rfl j
    rw [e] at this
    linarith

/-- An inside point where the segment starts or enters, and from which it goes on inside, is the entrance. -/
theorem Clipped.eq_T1 (h : Clipped c0 cd) {t : ℝ} (h0 : 0 ≤ t) (h1 : t < 1)
    (hin : ∀ k, 0 < c0 k + t * cd k ∨ (c0 k + t * cd k = 0 ∧ 0 < cd k))
    (hst : t = 0 ∨ ∃ k, 0 < cd k ∧ t = -c0 k / cd k) : T1 c0 cd = t ∧ t < T2 c0 cd := by
  refine ⟨le_antisymm (Finset.sup'_le _ _ fun k _ => ?_) ?_, (Finset.lt_inf'_iff _).2 fun k _ => ?_⟩
  · rw [lo]
    split_ifs with hk
    · rw [div_le_iff₀ hk]
      rcases hin k with h | h <;> linarith
    · exact h0
  · rcases hst with rfl | ⟨k, hk, rfl⟩
    · exact h.T1_nonneg
    · have := lo_le_T1 (c0 := c0) (cd := cd) k
      rwa [lo, if_pos hk] at this
  · rw [hi]
    split_ifs with hk
    · rw [lt_div_iff_of_neg hk]
      rcases hin k with h | h <;> linarith
    · exact h1

/-- An inside point where the segment ends or leaves, and to which it comes from inside, is the exit. -/
theorem Clipped.eq_T2 (h : Clipped c0 cd) {t : ℝ} (h0 : 0 < t) (h1 : t ≤ 1)
    (hin : ∀ k, 0 < c0 k + t * cd k ∨ (c0 k + t * cd k = 0 ∧ cd k < 0))
    (hst : t = 1 ∨ ∃ k, cd k < 0 ∧ t = -c0 k / cd k) : T2 c0 cd = t ∧ T1 c0 cd < t := by
  refine ⟨le_antisymm ?_ (Finset.le_inf' _ _ fun k _ => ?_), (Finset.sup'_lt_iff _).2 fun k _ => ?_⟩
  · rcases hst with rfl | ⟨k, hk, rfl⟩
    · exact h.T2_le_one
    · have := T2_le_hi (c0 := c0) (cd := cd) k
      rwa [hi, if_pos hk] at this
  · rw [hi]
    split_ifs with hk
    · rw [le_div_iff_of_neg hk]
      rcases hin k with h | h <;> linarith
    · exact h1
  · rw [lo]
    split_ifs with hk
    · rw [div_lt_iff₀ hk]
      rcases hin k with h | h <;> linarith
    · exact h0

end

end Ciou
-- ==== Proof.Pair.lean ====
/-
  Two convex polygons of eight vertices, counterclockwise, in general position: the vertices of each inside the other and
  the points where their edges cross are the corners of the intersection; each is where the clipped part of exactly one
  edge starts, and the corner where that part ends is the next one counterclockwise.
-/
module

public import proofs.«01_k».proof.Proof.Around
public import proofs.«01_k».proof.Proof.Clip

@[expose] public section

namespace Ciou

noncomputable section

variable (X Y : Bool → Fin 8 → ℝ)

/-- The edge vector from vertex `i` to the next, first coordinate. -/
def dx (s : Bool) (i : Fin 8) : ℝ := X s (i + 1) - X s i

/-- Twice the signed area of edge `i` of polygon `s` with `(px, py)`: positive to the left of the edge. -/
def side (s : Bool) (i : Fin 8) (px py : ℝ) : ℝ := dx X s i * (py - Y s i) - dx Y s i * (px - X s i)

/-- `side` of the start of edge `i` of polygon `s` at edge `j` of the other. -/
def c0 (s : Bool) (i j : Fin 8) : ℝ := side X Y (!s) j (X s i) (Y s i)

/-- How `side` at edge `j` of the other polygon changes along edge `i` of polygon `s`. -/
def cd (s : Bool) (i j : Fin 8) : ℝ := dx X (!s) j * dx Y s i - dx Y (!s) j * dx X s i

/-- The parameter on edge `i` of polygon `s` at which it meets the line of edge `j` of the other. -/
def tt (s : Bool) (i j : Fin 8) : ℝ := -c0 X Y s i j / cd X Y s i j

/-- Two strictly convex counterclockwise polygons, no vertex of one on an edge line of the other, no parallel edges. -/
structure Pair : Prop where
  conv : ∀ s i k, k ≠ i → k ≠ i + 1 → 0 < side X Y s i (X s k) (Y s k)
  sep : ∀ s i k, side X Y s i (X (!s) k) (Y (!s) k) ≠ 0
  par : ∀ s i j, cd X Y s i j ≠ 0

/-- Both parameters of a crossing lie on the edges. -/
def Meet (s : Bool) (i j : Fin 8) : Prop :=
  (0 ≤ tt X Y s i j ∧ tt X Y s i j ≤ 1) ∧ 0 ≤ tt X Y (!s) j i ∧ tt X Y (!s) j i ≤ 1

variable {X Y}

theorem side_start (s : Bool) (i : Fin 8) : side X Y s i (X s i) (Y s i) = 0 := by unfold side; ring

theorem side_stop (s : Bool) (i : Fin 8) : side X Y s i (X s (i + 1)) (Y s (i + 1)) = 0 := by unfold side dx; ring

theorem side_along (s : Bool) (i j : Fin 8) (t : ℝ) :
    side X Y (!s) j (X s i + t * dx X s i) (Y s i + t * dx Y s i) = c0 X Y s i j + t * cd X Y s i j := by
  unfold c0 cd side; ring

theorem side_self (s : Bool) (i : Fin 8) (t : ℝ) :
    side X Y s i (X s i + t * dx X s i) (Y s i + t * dx Y s i) = 0 := by
  unfold side; ring

theorem c0_add_cd (s : Bool) (i j : Fin 8) :
    c0 X Y s i j + cd X Y s i j = side X Y (!s) j (X s (i + 1)) (Y s (i + 1)) := by
  have := side_along (X := X) (Y := Y) s i j 1
  rw [one_mul, one_mul, one_mul] at this
  rw [← this]
  congr 1 <;> · unfold dx; ring

theorem sum_dx (Z : Bool → Fin 8 → ℝ) (s : Bool) : ∑ i, dx Z s i = 0 := by
  unfold dx
  rw [Finset.sum_sub_distrib, sub_eq_zero]
  exact Equiv.sum_comp (Equiv.addRight (1 : Fin 8)) (Z s)

theorem sum_cd (s : Bool) (i : Fin 8) : ∑ j, cd X Y s i j = 0 := by
  unfold cd
  rw [Finset.sum_sub_distrib, ← Finset.sum_mul, ← Finset.sum_mul, sum_dx, sum_dx]
  ring

theorem Pair.clipped (h : Pair X Y) (s : Bool) (i : Fin 8) : Clipped (c0 X Y s i) (cd X Y s i) where
  cd_ne := h.par s i
  c0_ne j := by
    have := h.sep (!s) j i
    rwa [Bool.not_not] at this
  c1_ne j := by
    rw [c0_add_cd]
    have := h.sep (!s) j (i + 1)
    rwa [Bool.not_not] at this
  some_neg := by
    by_contra hn
    have : ∀ j, 0 < cd X Y s i j := fun j => lt_of_le_of_ne (not_lt.1 fun hj => hn ⟨j, hj⟩) (h.par s i j).symm
    have := Finset.sum_pos (fun j _ => this j) (Finset.univ_nonempty (α := Fin 8))
    rw [sum_cd] at this
    exact this.false
  some_pos := by
    by_contra hn
    have : ∀ j, cd X Y s i j < 0 := fun j => lt_of_le_of_ne (not_lt.1 fun hj => hn ⟨j, hj⟩) (h.par s i j)
    have := Finset.sum_neg (fun j _ => this j) (Finset.univ_nonempty (α := Fin 8))
    rw [sum_cd] at this
    exact this.false

theorem cd_swap (s : Bool) (i j : Fin 8) : cd X Y (!s) j i = -cd X Y s i j := by
  unfold cd
  rw [Bool.not_not]
  ring

theorem Meet.swap {s : Bool} {i j : Fin 8} (h : Meet X Y s i j) : Meet X Y (!s) j i := by
  refine ⟨h.2, ?_⟩
  rw [Bool.not_not]
  exact h.1

/-- A crossing is the same point on both edges. -/
theorem Pair.cross_x (h : Pair X Y) (s : Bool) (i j : Fin 8) :
    X s i + tt X Y s i j * dx X s i = X (!s) j + tt X Y (!s) j i * dx X (!s) j := by
  have h1 := h.par s i j
  unfold tt
  rw [cd_swap]
  field_simp
  unfold c0 cd side
  rw [Bool.not_not]
  ring

theorem Pair.cross_y (h : Pair X Y) (s : Bool) (i j : Fin 8) :
    Y s i + tt X Y s i j * dx Y s i = Y (!s) j + tt X Y (!s) j i * dx Y (!s) j := by
  have h1 := h.par s i j
  unfold tt
  rw [cd_swap]
  field_simp
  unfold c0 cd side
  rw [Bool.not_not]
  ring

theorem Pair.meet_pos (h : Pair X Y) {s : Bool} {i j : Fin 8} (hm : Meet X Y s i j) : 0 < tt X Y s i j := by
  refine lt_of_le_of_ne hm.1.1 fun e => (h.clipped s i).c0_ne j ?_
  have := h.par s i j
  rw [tt, eq_comm, div_eq_iff this] at e
  linarith

theorem Pair.meet_lt (h : Pair X Y) {s : Bool} {i j : Fin 8} (hm : Meet X Y s i j) : tt X Y s i j < 1 := by
  refine lt_of_le_of_ne hm.1.2 fun e => (h.clipped s i).c1_ne j ?_
  have := h.par s i j
  rw [tt, div_eq_iff this] at e
  linarith

theorem fin8_one : ∀ k : Fin 8, k + 1 ≠ k := by decide

theorem fin8_two : ∀ k : Fin 8, k + 1 + 1 ≠ k := by decide

/-- A point of the open edge `j` is strictly inside every other half plane of its polygon. -/
theorem Pair.side_edge (h : Pair X Y) (s : Bool) {j k : Fin 8} (hk : k ≠ j) {t : ℝ} (h0 : 0 < t) (h1 : t < 1) :
    0 < side X Y s k (X s j + t * dx X s j) (Y s j + t * dx Y s j) := by
  have e : side X Y s k (X s j + t * dx X s j) (Y s j + t * dx Y s j)
      = (1 - t) * side X Y s k (X s j) (Y s j) + t * side X Y s k (X s (j + 1)) (Y s (j + 1)) := by
    unfold side dx; ring
  rw [e]
  by_cases hj : j = k + 1
  · subst hj
    rw [side_stop, mul_zero, zero_add]
    exact mul_pos h0 (h.conv s k _ (fin8_two k) (fin8_one (k + 1)))
  · have p1 := h.conv s k j hk.symm hj
    have p2 : 0 ≤ side X Y s k (X s (j + 1)) (Y s (j + 1)) := by
      by_cases hj' : j + 1 = k
      · rw [hj', side_start]
      · exact (h.conv s k _ hj' (fun e => hk (add_right_cancel e).symm)).le
    have := mul_pos (sub_pos.2 h1) p1
    have := mul_nonneg h0.le p2
    linarith

/-- At a crossing every half plane but the two crossing edges' own is strictly positive. -/
theorem Pair.side_meet (h : Pair X Y) {s : Bool} {i j k : Fin 8} (hm : Meet X Y s i j) (hk : k ≠ j) :
    0 < side X Y (!s) k (X s i + tt X Y s i j * dx X s i) (Y s i + tt X Y s i j * dx Y s i) := by
  rw [h.cross_x, h.cross_y]
  exact h.side_edge (!s) hk (h.meet_pos hm.swap) (h.meet_lt hm.swap)

/-- A point of edge `j`'s line inside the two neighbouring half planes lies on the edge. -/
theorem Pair.on_edge (h : Pair X Y) (s : Bool) (j : Fin 8) {u : ℝ}
    (hp : 0 ≤ side X Y s (j - 1) (X s j + u * dx X s j) (Y s j + u * dx Y s j))
    (hn : 0 ≤ side X Y s (j + 1) (X s j + u * dx X s j) (Y s j + u * dx Y s j)) : 0 ≤ u ∧ u ≤ 1 := by
  have e (k : Fin 8) : side X Y s k (X s j + u * dx X s j) (Y s j + u * dx Y s j)
      = (1 - u) * side X Y s k (X s j) (Y s j) + u * side X Y s k (X s (j + 1)) (Y s (j + 1)) := by
    unfold side dx; ring
  rw [e] at hp hn
  have z1 := side_stop (X := X) (Y := Y) s (j - 1)
  rw [sub_add_cancel] at z1
  rw [z1] at hp
  rw [side_start] at hn
  have p1 := h.conv s (j - 1) (j + 1) (by have := fin8_two (j - 1); rwa [sub_add_cancel] at this)
    (by rw [sub_add_cancel]; exact fin8_one j)
  have p2 := h.conv s (j + 1) j (fin8_one j).symm (fin8_two j).symm
  constructor
  · by_contra hu
    have := mul_neg_of_neg_of_pos (not_le.1 hu) p1
    linarith
  · by_contra hu
    have := mul_neg_of_neg_of_pos (sub_neg.2 (not_le.1 hu)) p2
    linarith

/-- Where edge `i`'s clipped part starts or ends at edge `j`'s line the edges meet. -/
theorem Pair.meet_of_inside (h : Pair X Y) {s : Bool} {i j : Fin 8} (h0 : 0 ≤ tt X Y s i j) (h1 : tt X Y s i j ≤ 1)
    (hin : ∀ k, 0 ≤ c0 X Y s i k + tt X Y s i j * cd X Y s i k) : Meet X Y s i j := by
  refine ⟨⟨h0, h1⟩, h.on_edge (!s) j ?_ ?_⟩ <;>
  · rw [← h.cross_x, ← h.cross_y, side_along]
    exact hin _

/-! ### The corners -/

/-- A vertex of either polygon, or a pair of edges, one of each polygon. -/
abbrev Corner : Type := (Bool × Fin 8) ⊕ (Fin 8 × Fin 8)

variable (X Y)

/-- A vertex inside the other polygon, or a pair of edges that meet. -/
def Valid : Corner → Prop
  | .inl (s, i) => ∀ j, 0 < side X Y (!s) j (X s i) (Y s i)
  | .inr (i, j) => Meet X Y false i j

/-- A coordinate (`Z` is `X` or `Y`) of the corner. -/
def pt (Z : Bool → Fin 8 → ℝ) : Corner → ℝ
  | .inl (s, i) => Z s i
  | .inr (i, j) => Z false i + tt X Y false i j * dx Z false i

/-- The crossing of edge `i` of polygon `s` with edge `j` of the other. -/
def xc : Bool → Fin 8 → Fin 8 → Corner
  | false, i, j => .inr (i, j)
  | true, i, j => .inr (j, i)

/-- The edge whose clipped part starts at the corner. -/
def edgeOf : Corner → Bool × Fin 8
  | .inl e => e
  | .inr (i, j) => if 0 < cd X Y false i j then (false, i) else (true, j)

/-- The clipped part of edge `i` of polygon `s` ends at the corner. -/
def Stop (s : Bool) (i : Fin 8) (w : Corner) : Prop := w = .inl (s, i + 1) ∨ ∃ j, w = xc s i j ∧ cd X Y s i j < 0

variable {X Y}

theorem valid_xc (s : Bool) (i j : Fin 8) : Valid X Y (xc s i j) ↔ Meet X Y s i j := by
  cases s
  · exact Iff.rfl
  · exact ⟨fun h => h.swap, fun h => h.swap⟩

theorem Pair.pt_xc_x (h : Pair X Y) (s : Bool) (i j : Fin 8) : pt X Y X (xc s i j) = X s i + tt X Y s i j * dx X s i := by
  cases s
  · rfl
  · exact h.cross_x false j i

theorem Pair.pt_xc_y (h : Pair X Y) (s : Bool) (i j : Fin 8) : pt X Y Y (xc s i j) = Y s i + tt X Y s i j * dx Y s i := by
  cases s
  · rfl
  · exact h.cross_y false j i

theorem xc_eq (k l : Fin 8) (s : Bool) : ∃ i j, (.inr (k, l) : Corner) = xc s i j := by
  cases s
  · exact ⟨k, l, rfl⟩
  · exact ⟨l, k, rfl⟩

theorem Pair.edgeOf_xc (h : Pair X Y) (s : Bool) (i j : Fin 8) :
    edgeOf X Y (xc s i j) = if 0 < cd X Y s i j then (s, i) else (!s, j) := by
  cases s
  · rfl
  · have := h.par false j i
    have e : cd X Y true i j = -cd X Y false j i := cd_swap false j i
    simp only [xc, edgeOf, e, Bool.not_true, Left.neg_pos_iff]
    rcases lt_or_gt_of_ne this with h | h
    · rw [if_neg h.le.not_gt, if_pos h]
    · rw [if_pos h, if_neg h.le.not_gt]

/-- The edge a valid corner starts: its clipped part is nonempty and starts there. -/
theorem Pair.start (h : Pair X Y) {w : Corner} (hw : Valid X Y w) {s : Bool} {i : Fin 8} (he : edgeOf X Y w = (s, i)) :
    T1 (c0 X Y s i) (cd X Y s i) < T2 (c0 X Y s i) (cd X Y s i)
      ∧ pt X Y X w = X s i + T1 (c0 X Y s i) (cd X Y s i) * dx X s i
      ∧ pt X Y Y w = Y s i + T1 (c0 X Y s i) (cd X Y s i) * dx Y s i
      ∧ ((w = .inl (s, i) ∧ T1 (c0 X Y s i) (cd X Y s i) = 0) ∨
        ∃ j, w = xc s i j ∧ Meet X Y s i j ∧ T1 (c0 X Y s i) (cd X Y s i) = tt X Y s i j) := by
  rcases w with ⟨s', i'⟩ | ⟨k, l⟩
  · obtain ⟨rfl, rfl⟩ := Prod.mk.injEq .. ▸ he
    have := (h.clipped s' i').eq_T1 le_rfl zero_lt_one
      (fun k => .inl (by rw [zero_mul, add_zero]; exact hw k)) (.inl rfl)
    refine ⟨by rw [this.1]; exact this.2, ?_, ?_, .inl ⟨rfl, this.1⟩⟩ <;>
    · rw [this.1]; simp [pt]
  · obtain ⟨i', j, e⟩ := xc_eq k l s
    rw [e] at hw he ⊢
    rw [h.edgeOf_xc] at he
    rw [valid_xc] at hw
    split_ifs at he with hc
    · obtain rfl : i' = i := (Prod.mk.injEq .. ▸ he).2
      have := (h.clipped s i').eq_T1 hw.1.1 (h.meet_lt hw) (fun k => by
        by_cases hk : k = j
        · subst hk
          refine .inr ⟨?_, hc⟩
          rw [tt, div_mul_cancel₀ _ hc.ne']
          ring
        · left
          rw [← side_along]
          exact h.side_meet hw hk) (.inr ⟨j, hc, rfl⟩)
      refine ⟨by rw [this.1]; exact this.2, ?_, ?_, .inr ⟨j, rfl, hw, this.1⟩⟩
      · rw [this.1, h.pt_xc_x]
      · rw [this.1, h.pt_xc_y]
    · exact absurd (Prod.mk.injEq .. ▸ he).1 (by cases s <;> simp)

theorem Pair.stop (h : Pair X Y) {w : Corner} (hw : Valid X Y w) {s : Bool} {i : Fin 8} (he : Stop X Y s i w) :
    T1 (c0 X Y s i) (cd X Y s i) < T2 (c0 X Y s i) (cd X Y s i)
      ∧ pt X Y X w = X s i + T2 (c0 X Y s i) (cd X Y s i) * dx X s i
      ∧ pt X Y Y w = Y s i + T2 (c0 X Y s i) (cd X Y s i) * dx Y s i
      ∧ ((w = .inl (s, i + 1) ∧ T2 (c0 X Y s i) (cd X Y s i) = 1) ∨
        ∃ j, w = xc s i j ∧ Meet X Y s i j ∧ T2 (c0 X Y s i) (cd X Y s i) = tt X Y s i j) := by
  rcases he with rfl | ⟨j, rfl, hc⟩
  · have := (h.clipped s i).eq_T2 zero_lt_one le_rfl
      (fun k => .inl (by rw [one_mul, c0_add_cd]; exact hw k)) (.inl rfl)
    refine ⟨by rw [this.1]; exact this.2, ?_, ?_, .inl ⟨rfl, this.1⟩⟩ <;>
    · rw [this.1]; simp [pt, dx]
  · rw [valid_xc] at hw
    have := (h.clipped s i).eq_T2 (h.meet_pos hw) hw.1.2 (fun k => by
      by_cases hk : k = j
      · subst hk
        refine .inr ⟨?_, hc⟩
        rw [tt, div_mul_cancel₀ _ hc.ne]
        ring
      · left
        rw [← side_along]
        exact h.side_meet hw hk) (.inr ⟨j, hc, rfl⟩)
    refine ⟨by rw [this.1]; exact this.2, ?_, ?_, .inr ⟨j, rfl, hw, this.1⟩⟩
    · rw [this.1, h.pt_xc_x]
    · rw [this.1, h.pt_xc_y]

theorem xc_injective (s : Bool) {i j k l : Fin 8} (e : xc s i j = xc s k l) : i = k ∧ j = l := by
  cases s <;> · simp only [xc, Sum.inr.injEq, Prod.mk.injEq] at e; tauto

/-- Two crossings of one edge at the same parameter are the same. -/
theorem Pair.meet_unique (h : Pair X Y) {s : Bool} {i j k : Fin 8} (hj : Meet X Y s i j)
    (e : tt X Y s i j = tt X Y s i k) : k = j := by
  by_contra hne
  have := h.side_meet hj hne
  rw [e, side_along, tt, div_mul_cancel₀ _ (h.par s i k)] at this
  linarith

/-- An edge's clipped part starts at one corner only. -/
theorem Pair.start_unique (h : Pair X Y) {w w' : Corner} (hw : Valid X Y w) (hw' : Valid X Y w')
    (he : edgeOf X Y w = edgeOf X Y w') : w = w' := by
  rcases e : edgeOf X Y w' with ⟨s, i⟩
  obtain ⟨-, -, -, a⟩ := h.start hw (he.trans e)
  obtain ⟨-, -, -, b⟩ := h.start hw' e
  rcases a with ⟨ea, ta⟩ | ⟨j, ea, ma, ta⟩ <;> rcases b with ⟨eb, tb⟩ | ⟨k, eb, mb, tb⟩
  · rw [ea, eb]
  · exact absurd (tb.symm.trans ta) (h.meet_pos mb).ne'
  · exact absurd (ta.symm.trans tb) (h.meet_pos ma).ne'
  · rw [ea, eb, h.meet_unique ma (ta.symm.trans tb)]

/-- An edge's clipped part ends at one corner only. -/
theorem Pair.stop_unique (h : Pair X Y) {w w' : Corner} (hw : Valid X Y w) (hw' : Valid X Y w') {s : Bool} {i : Fin 8}
    (he : Stop X Y s i w) (he' : Stop X Y s i w') : w = w' := by
  obtain ⟨-, -, -, a⟩ := h.stop hw he
  obtain ⟨-, -, -, b⟩ := h.stop hw' he'
  rcases a with ⟨rfl, ta⟩ | ⟨j, ea, ma, ta⟩ <;> rcases b with ⟨rfl, tb⟩ | ⟨k, eb, mb, tb⟩
  · rfl
  · exact absurd (tb.symm.trans ta) (h.meet_lt mb).ne
  · exact absurd (ta.symm.trans tb) (h.meet_lt ma).ne
  · rw [ea, eb, h.meet_unique ma (ta.symm.trans tb)]

/-- A nonempty clipped part starts at some valid corner. -/
theorem Pair.exists_start (h : Pair X Y) {s : Bool} {i : Fin 8}
    (ht : T1 (c0 X Y s i) (cd X Y s i) < T2 (c0 X Y s i) (cd X Y s i)) : ∃ w, Valid X Y w ∧ edgeOf X Y w = (s, i) := by
  rcases (h.clipped s i).start ht with ⟨-, hin⟩ | ⟨j, hj, e, -⟩
  · exact ⟨.inl (s, i), hin, rfl⟩
  · refine ⟨xc s i j, (valid_xc _ _ _).2 ?_, by rw [h.edgeOf_xc, if_pos hj]⟩
    change _ = tt X Y s i j at e
    refine h.meet_of_inside ?_ ?_ ?_ <;> rw [← e]
    · exact (h.clipped s i).T1_nonneg
    · exact ht.le.trans (h.clipped s i).T2_le_one
    · exact (h.clipped s i).inside le_rfl ht.le

/-- A nonempty clipped part ends at some valid corner. -/
theorem Pair.exists_stop (h : Pair X Y) {s : Bool} {i : Fin 8}
    (ht : T1 (c0 X Y s i) (cd X Y s i) < T2 (c0 X Y s i) (cd X Y s i)) : ∃ w, Valid X Y w ∧ Stop X Y s i w := by
  rcases (h.clipped s i).stop ht with ⟨-, hin⟩ | ⟨j, hj, e, -⟩
  · exact ⟨.inl (s, i + 1), fun k => by rw [← c0_add_cd]; exact hin k, .inl rfl⟩
  · refine ⟨xc s i j, (valid_xc _ _ _).2 ?_, .inr ⟨j, rfl, hj⟩⟩
    change _ = tt X Y s i j at e
    refine h.meet_of_inside ?_ ?_ ?_ <;> rw [← e]
    · exact (h.clipped s i).T1_nonneg.trans ht.le
    · exact (h.clipped s i).T2_le_one
    · exact (h.clipped s i).inside ht.le le_rfl

/-- A valid corner lies in every half plane. -/
theorem Pair.nonneg (h : Pair X Y) {w : Corner} (hw : Valid X Y w) (s : Bool) (i : Fin 8) :
    0 ≤ side X Y s i (pt X Y X w) (pt X Y Y w) := by
  rcases w with ⟨s', k⟩ | ⟨k, l⟩
  · by_cases hs : s' = s
    · subst hs
      by_cases h1 : k = i
      · subst h1; exact (side_start _ _).ge
      · by_cases h2 : k = i + 1
        · subst h2; exact (side_stop _ _).ge
        · exact (h.conv _ _ _ h1 h2).le
    · have : s = !s' := by cases s <;> cases s' <;> simp_all
      subst this
      exact (hw i).le
  · obtain ⟨k', j, e⟩ := xc_eq k l (!s)
    rw [e] at hw ⊢
    rw [h.pt_xc_x, h.pt_xc_y]
    rw [valid_xc] at hw
    by_cases hj : i = j
    · subst hj
      rw [h.cross_x, h.cross_y, Bool.not_not, side_self]
    · have := h.side_meet hw hj
      rw [Bool.not_not] at this
      exact this.le

/-- A valid corner on an edge's line is where the edge's clipped part starts or where it ends. -/
theorem Pair.on_line (h : Pair X Y) {w : Corner} (hw : Valid X Y w) {s : Bool} {i : Fin 8}
    (hz : side X Y s i (pt X Y X w) (pt X Y Y w) = 0) : edgeOf X Y w = (s, i) ∨ Stop X Y s i w := by
  rcases w with ⟨s', k⟩ | ⟨k, l⟩
  · by_cases hs : s' = s
    · subst hs
      by_cases h1 : k = i
      · subst h1; exact .inl rfl
      · by_cases h2 : k = i + 1
        · subst h2; exact .inr (.inl rfl)
        · exact absurd hz (h.conv _ _ _ h1 h2).ne'
    · have : s = !s' := by cases s <;> cases s' <;> simp_all
      subst this
      exact absurd hz (hw i).ne'
  · obtain ⟨k', j, e⟩ := xc_eq k l s
    rw [e] at hw hz ⊢
    rw [valid_xc] at hw
    have hk : i = k' := by
      by_contra hne
      have := h.side_meet hw.swap hne
      rw [Bool.not_not, ← h.cross_x, ← h.cross_y] at this
      rw [h.pt_xc_x, h.pt_xc_y] at hz
      exact absurd hz this.ne'
    subst hk
    rcases lt_or_gt_of_ne (h.par s i j) with hc | hc
    · exact .inr (.inr ⟨j, rfl, hc⟩)
    · exact .inl (by rw [h.edgeOf_xc, if_pos hc])

end

end Ciou
-- ==== Proof.Corners.lean ====
/-
  The corners of the intersection of two convex polygons go around their average, and the clipped parts of the edges are
  the steps from each corner to the next: both ways of summing the area agree.
-/
module

public import proofs.«01_k».proof.Proof.Pair

@[expose] public section

namespace Ciou

noncomputable section

open scoped Classical

variable (X Y : Bool → Fin 8 → ℝ)

/-- The corners of the intersection. -/
def corners : Finset Corner := Finset.univ.filter (Valid X Y)

/-- The corner where the clipped part that starts at `w` ends. -/
def nextC (w : Corner) : Corner :=
  if h : ∃ u, Valid X Y u ∧ Stop X Y (edgeOf X Y w).1 (edgeOf X Y w).2 u then h.choose else w

/-- The corners' average, a coordinate of it. -/
def mid (Z : Bool → Fin 8 → ℝ) : ℝ := (∑ w ∈ corners X Y, pt X Y Z w) / (corners X Y).card

variable {X Y}

theorem mem_corners {w : Corner} : w ∈ corners X Y ↔ Valid X Y w := by
  simp [corners]

theorem Pair.nextC_spec (h : Pair X Y) {w : Corner} (hw : Valid X Y w) :
    Valid X Y (nextC X Y w) ∧ Stop X Y (edgeOf X Y w).1 (edgeOf X Y w).2 (nextC X Y w) := by
  have := h.exists_stop (h.start hw (s := (edgeOf X Y w).1) (i := (edgeOf X Y w).2) rfl).1
  rw [nextC, dif_pos this]
  exact this.choose_spec

/-- A corner and the next one on the edge between them, and which comes first. -/
theorem Pair.step (h : Pair X Y) {w : Corner} (hw : Valid X Y w) {s : Bool} {i : Fin 8} (he : edgeOf X Y w = (s, i)) :
    ∃ t u, t < u ∧ t = T1 (c0 X Y s i) (cd X Y s i) ∧ u = T2 (c0 X Y s i) (cd X Y s i)
      ∧ pt X Y X w = X s i + t * dx X s i ∧ pt X Y Y w = Y s i + t * dx Y s i
      ∧ pt X Y X (nextC X Y w) = X s i + u * dx X s i ∧ pt X Y Y (nextC X Y w) = Y s i + u * dx Y s i := by
  obtain ⟨ht, h1, h2, -⟩ := h.start hw he
  have := h.nextC_spec hw
  rw [he] at this
  obtain ⟨-, h3, h4, -⟩ := h.stop this.1 this.2
  exact ⟨_, _, ht, rfl, rfl, h1, h2, h3, h4⟩

/-- If all corners lie on one edge's line there are none. -/
theorem Pair.not_collinear (h : Pair X Y) {w : Corner} (hw : Valid X Y w) (s : Bool) (i : Fin 8) :
    ∃ v ∈ corners X Y, side X Y s i (pt X Y X v) (pt X Y Y v) ≠ 0 := by
  by_contra hn
  push Not at hn
  have key : ∀ v, Valid X Y v → edgeOf X Y v = (s, i) := by
    intro v hv
    rcases he : edgeOf X Y v with ⟨s', k⟩
    obtain ⟨t, u, htu, -, -, h1, h2, h3, h4⟩ := h.step hv he
    have z1 := hn v (mem_corners.2 hv)
    have z2 := hn _ (mem_corners.2 (h.nextC_spec hv).1)
    rw [h1, h2] at z1
    rw [h3, h4] at z2
    by_cases hs : s' = s
    · subst hs
      by_contra hki
      have hki : i ≠ k := fun e => hki (by rw [e])
      have e (t : ℝ) : side X Y s' i (X s' k + t * dx X s' k) (Y s' k + t * dx Y s' k)
          = (1 - t) * side X Y s' i (X s' k) (Y s' k) + t * side X Y s' i (X s' (k + 1)) (Y s' (k + 1)) := by
        unfold side dx; ring
      rw [e] at z1 z2
      have hz : ∀ a b : ℝ, (1 - t) * a + t * b = 0 → (1 - u) * a + u * b = 0 → a = 0 ∧ b = 0 := by
        intro a b ha hb
        have hab : (u - t) * (b - a) = 0 := by linarith
        have : b = a := by
          rcases mul_eq_zero.1 hab with h | h <;> linarith
        subst this
        constructor <;> linarith
      obtain ⟨za, zb⟩ := hz _ _ z1 z2
      have e1 : k = i + 1 := by
        by_contra hk
        exact absurd za (h.conv s' i k hki.symm hk).ne'
      subst e1
      exact absurd zb (h.conv s' i _ (fin8_two i) (fin8_one (i + 1))).ne'
    · have : s = !s' := by cases s <;> cases s' <;> simp_all
      subst this
      rw [side_along] at z1 z2
      have : (u - t) * cd X Y s' k i = 0 := by linarith
      rcases mul_eq_zero.1 this with h0 | h0
      · linarith
      · exact absurd h0 (h.par s' k i)
  have hv := h.nextC_spec hw
  have e := h.start_unique hv.1 hw ((key _ hv.1).trans (key _ hw).symm)
  obtain ⟨t, u, htu, -, -, h1, h2, h3, h4⟩ := h.step hw (key _ hw)
  rw [e] at h3 h4
  have a : (u - t) * dx X s i = 0 := by linarith
  have b : (u - t) * dx Y s i = 0 := by linarith
  have hne : u - t ≠ 0 := by linarith
  have a := (mul_eq_zero.1 a).resolve_left hne
  have b := (mul_eq_zero.1 b).resolve_left hne
  refine h.par s i 0 ?_
  rw [cd, a, b]
  ring

/-- The corners' average is strictly inside every half plane. -/
theorem Pair.mid_pos (h : Pair X Y) {w : Corner} (hw : Valid X Y w) (s : Bool) (i : Fin 8) :
    0 < side X Y s i (mid X Y X) (mid X Y Y) := by
  have hcard : 0 < ((corners X Y).card : ℝ) := by
    rw [Nat.cast_pos, Finset.card_pos]
    exact ⟨w, mem_corners.2 hw⟩
  have e : side X Y s i (mid X Y X) (mid X Y Y)
      = (∑ v ∈ corners X Y, side X Y s i (pt X Y X v) (pt X Y Y v)) / (corners X Y).card := by
    have : ∑ v ∈ corners X Y, side X Y s i (pt X Y X v) (pt X Y Y v)
        = dx X s i * (∑ v ∈ corners X Y, pt X Y Y v - (corners X Y).card * Y s i)
          - dx Y s i * (∑ v ∈ corners X Y, pt X Y X v - (corners X Y).card * X s i) := by
      unfold side
      rw [Finset.sum_sub_distrib, ← Finset.mul_sum, ← Finset.mul_sum, Finset.sum_sub_distrib, Finset.sum_sub_distrib]
      simp
    rw [this]
    unfold side mid
    field_simp
  rw [e]
  refine div_pos ?_ hcard
  obtain ⟨v, hv, hne⟩ := h.not_collinear hw s i
  exact Finset.sum_pos' (fun v hv => h.nonneg (mem_corners.1 hv) s i)
    ⟨v, hv, lt_of_le_of_ne (h.nonneg (mem_corners.1 hv) s i) (Ne.symm hne)⟩

/-- The corners go around their average. -/
theorem Pair.around (h : Pair X Y) :
    Around (corners X Y) (pt X Y X) (pt X Y Y) (mid X Y X) (mid X Y Y) (nextC X Y) where
  maps v hv := mem_corners.2 (h.nextC_spec (mem_corners.1 hv)).1
  turn v hv := by
    rw [mem_corners] at hv
    rcases he : edgeOf X Y v with ⟨s, i⟩
    obtain ⟨t, u, htu, -, -, h1, h2, h3, h4⟩ := h.step hv he
    have : area2 (mid X Y X) (mid X Y Y) (pt X Y X v) (pt X Y Y v) (pt X Y X (nextC X Y v)) (pt X Y Y (nextC X Y v))
        = (u - t) * side X Y s i (mid X Y X) (mid X Y Y) := by
      rw [h1, h2, h3, h4]
      unfold area2 side
      ring
    rw [this]
    exact mul_pos (sub_pos.2 htu) (h.mid_pos hv s i)
  empty v hv w hw hwv hwn p1 p2 := by
    rw [mem_corners] at hv hw
    rcases he : edgeOf X Y v with ⟨s, i⟩
    obtain ⟨t, u, htu, -, -, h1, h2, h3, h4⟩ := h.step hv he
    have hn := h.nextC_spec hv
    have D : area2 (mid X Y X) (mid X Y Y) (pt X Y X v) (pt X Y Y v) (pt X Y X (nextC X Y v)) (pt X Y Y (nextC X Y v))
        = (u - t) * side X Y s i (mid X Y X) (mid X Y Y) := by
      rw [h1, h2, h3, h4]
      unfold area2 side
      ring
    have Dpos := mul_pos (sub_pos.2 htu) (h.mid_pos hv s i)
    rw [← D] at Dpos
    -- the line of the edge through `w`
    rcases hew : edgeOf X Y w with ⟨s', i'⟩
    obtain ⟨t', u', -, -, -, g1, g2, -, -⟩ := h.step hw hew
    have lin (s : Bool) (i : Fin 8) :
        area2 (mid X Y X) (mid X Y Y) (pt X Y X v) (pt X Y Y v) (pt X Y X (nextC X Y v)) (pt X Y Y (nextC X Y v))
            * side X Y s i (pt X Y X w) (pt X Y Y w)
          = (area2 (mid X Y X) (mid X Y Y) (pt X Y X v) (pt X Y Y v) (pt X Y X (nextC X Y v)) (pt X Y Y (nextC X Y v))
              - area2 (mid X Y X) (mid X Y Y) (pt X Y X w) (pt X Y Y w) (pt X Y X (nextC X Y v)) (pt X Y Y (nextC X Y v))
              - area2 (mid X Y X) (mid X Y Y) (pt X Y X v) (pt X Y Y v) (pt X Y X w) (pt X Y Y w))
              * side X Y s i (mid X Y X) (mid X Y Y)
            + area2 (mid X Y X) (mid X Y Y) (pt X Y X w) (pt X Y Y w) (pt X Y X (nextC X Y v)) (pt X Y Y (nextC X Y v))
              * side X Y s i (pt X Y X v) (pt X Y Y v)
            + area2 (mid X Y X) (mid X Y Y) (pt X Y X v) (pt X Y Y v) (pt X Y X w) (pt X Y Y w)
              * side X Y s i (pt X Y X (nextC X Y v)) (pt X Y Y (nextC X Y v)) := by
      unfold area2 side; ring
    have zv : side X Y s i (pt X Y X v) (pt X Y Y v) = 0 := by rw [h1, h2, side_self]
    have zn : side X Y s i (pt X Y X (nextC X Y v)) (pt X Y Y (nextC X Y v)) = 0 := by rw [h3, h4, side_self]
    have zw : side X Y s' i' (pt X Y X w) (pt X Y Y w) = 0 := by rw [g1, g2, side_self]
    have l1 := lin s i
    rw [zv, zn, mul_zero, mul_zero, add_zero, add_zero] at l1
    have l2 := lin s' i'
    rw [zw, mul_zero] at l2
    have q1 := mul_nonneg p2 (h.nonneg hv s' i')
    have q2 := mul_nonneg p1 (h.nonneg hn.1 s' i')
    have m1 := h.mid_pos hv s i
    have m2 := h.mid_pos hv s' i'
    have q3 := mul_nonneg Dpos.le (h.nonneg hw s i)
    rw [l1] at q3
    have r := nonneg_of_mul_nonneg_left q3 m1
    have q4 := mul_nonneg r m2.le
    have q5 := (mul_eq_zero.1 (le_antisymm (by linarith) q4)).resolve_right m2.ne'
    rw [q5, zero_mul] at l1
    have zw' := (mul_eq_zero.1 l1).resolve_left Dpos.ne'
    rcases h.on_line hw zw' with e | e
    · exact hwv (h.start_unique hw hv (e.trans he.symm))
    · rw [he] at hn
      exact hwn (h.stop_unique hw hn.1 e hn.2)

/-- The sum of the clipped parts of the edges is the sum over the corners. -/
theorem Pair.sum_clip (h : Pair X Y) :
    ∑ s, ∑ i, (if T1 (c0 X Y s i) (cd X Y s i) < T2 (c0 X Y s i) (cd X Y s i) then
        (T2 (c0 X Y s i) (cd X Y s i) - T1 (c0 X Y s i) (cd X Y s i)) * (X s i * dx Y s i - Y s i * dx X s i) else 0)
      = ∑ v ∈ corners X Y, (pt X Y X v * pt X Y Y (nextC X Y v) - pt X Y Y v * pt X Y X (nextC X Y v)) := by
  rw [← Fintype.sum_prod_type' (f := fun s i => if T1 (c0 X Y s i) (cd X Y s i) < T2 (c0 X Y s i) (cd X Y s i) then
        (T2 (c0 X Y s i) (cd X Y s i) - T1 (c0 X Y s i) (cd X Y s i)) * (X s i * dx Y s i - Y s i * dx X s i) else 0),
    ← Finset.sum_filter]
  symm
  refine Finset.sum_nbij (edgeOf X Y) ?_ ?_ ?_ ?_
  · intro v hv
    rw [mem_corners] at hv
    rw [Finset.mem_filter]
    exact ⟨Finset.mem_univ _, (h.start hv (s := (edgeOf X Y v).1) (i := (edgeOf X Y v).2) rfl).1⟩
  · intro v hv w hw e
    exact h.start_unique (mem_corners.1 hv) (mem_corners.1 hw) e
  · rintro ⟨s, i⟩ he
    obtain ⟨w, hw, e⟩ := h.exists_start (Finset.mem_filter.1 he).2
    exact ⟨w, mem_corners.2 hw, e⟩
  · intro v hv
    rw [mem_corners] at hv
    rcases he : edgeOf X Y v with ⟨s, i⟩
    obtain ⟨t, u, htu, rfl, rfl, h1, h2, h3, h4⟩ := h.step hv he
    rw [h1, h2, h3, h4]
    ring

end

end Ciou
-- ==== Proof.Score.lean ====
/-
  Extended reals that are reals: sums, quotients and comparisons of real numbers in the extended reals, and the measure
  that both programs take of a pair of polygons, from the areas' sum, the intersection and the hull.
-/
module

public import Idealize.ShloMosaic.PureOps.Ideal

@[expose] public section

noncomputable section

namespace Ciou

open Idealize.ShloMosaic

/-- The measure from the two areas' sum, the intersection and the hull. -/
def score (area inter hull : EReal) : EReal :=
  Ideal.div inter (area - inter) - Ideal.div (hull - (area - inter)) hull

/-- A quotient of reals is the real quotient where the divisor is not zero. -/
theorem coe_div {x y : ℝ} (hy : y ≠ 0) : Ideal.div (x : EReal) (y : EReal) = ((x / y : ℝ) : EReal) := by
  rw [Ideal.div, if_neg (by simpa using hy), div_eq_mul_inv, EReal.coe_mul, EReal.coe_inv]

theorem coe_ite (p : Prop) [Decidable p] (x y : ℝ) : (if p then (x : EReal) else (y : EReal)) = ((if p then x else y : ℝ) : EReal) := by
  split_ifs <;> rfl

theorem coe_max (x y : ℝ) : max (x : EReal) (y : EReal) = ((max x y : ℝ) : EReal) :=
  (EReal.coe_strictMono.monotone.map_max).symm

theorem coe_min (x y : ℝ) : min (x : EReal) (y : EReal) = ((min x y : ℝ) : EReal) :=
  (EReal.coe_strictMono.monotone.map_min).symm

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The word of one half. -/
theorem ofBits_half : Ideal.ofBits .f32 0x3F000000#32 = ((1 / 2 : ℝ) : EReal) := by
  simp [Ideal.ofBits, Ideal.ieee, -EReal.coe_mul]; norm_num

/-- An eightfold maximum is the supremum. -/
theorem max8 (g : Fin 8 → ℝ) :
    max (max (max (max (max (max (max (g 0) (g 1)) (g 2)) (g 3)) (g 4)) (g 5)) (g 6)) (g 7)
      = Finset.univ.sup' Finset.univ_nonempty g := by
  refine eq_of_forall_ge_iff fun z => ?_
  simp only [max_le_iff, Finset.sup'_le_iff, Finset.mem_univ, true_imp_iff, Fin.forall_fin_succ, IsEmpty.forall_iff, and_true, and_assoc]
  rfl

/-- An eightfold minimum is the infimum. -/
theorem min8 (g : Fin 8 → ℝ) :
    min (min (min (min (min (min (min (g 0) (g 1)) (g 2)) (g 3)) (g 4)) (g 5)) (g 6)) (g 7)
      = Finset.univ.inf' Finset.univ_nonempty g := by
  refine eq_of_forall_le_iff fun z => ?_
  simp only [le_min_iff, Finset.le_inf'_iff, Finset.mem_univ, true_imp_iff, Fin.forall_fin_succ, IsEmpty.forall_iff, and_true, and_assoc]
  rfl

end Ciou
-- ==== Proof.RefMarks.lean ====
/-
  A row of the reference's candidates, over the reals: where the row's sorted polygons hold the reals `X`, `Y` in general
  position, the candidates are the corners of Pair.lean and those marked are the valid ones.
-/
module

public import proofs.«01_k».proof.Proof.RefBlock
public import proofs.«01_k».proof.Proof.Corners
public import proofs.«01_k».proof.Proof.Score
public import Idealize.ShloMosaic.Lib.Pointwise

@[expose] public section

noncomputable section

open scoped Classical

namespace Ciou.Ref

open Idealize.ShloMosaic Idealize.ShloMosaic.TcCoe
open Cert.ReferenceIdeal Cert.ReferenceIdeal.Gen
open Idealize.ShloMosaic.Pointwise

/-- The truth value of a proposition. -/
def mark (p : Prop) : BitVec 1 := BitVec.ofBool (decide p)

theorem mark_eq {p q : Prop} [Decidable p] (h : p ↔ q) : BitVec.ofBool (decide p) = mark q := by
  unfold mark
  congr 1
  exact decide_eq_decide.2 h

theorem mark_eq_one {p : Prop} : mark p = 1#1 ↔ p := by
  by_cases h : p <;> simp [mark, h]

theorem mark_and (p q : Prop) : IntOp.andi (mark p) (mark q) = mark (p ∧ q) := by
  by_cases h : p <;> by_cases h' : q <;> simp [mark, h, h', IntOp.andi]

theorem select_mark {α : Type} (p : Prop) (x y : α) : Scalar.select (mark p) x y = if p then x else y := by
  by_cases h : p <;> simp [mark, h, Scalar.select]

theorem fold_mark {ι : Type} (S : Finset ι) (p : ι → Prop) :
    S.fold IntOp.andi 1#1 (fun i => mark (p i)) = mark (∀ i ∈ S, p i) := by
  induction S using Finset.induction_on with
  | empty => simp [mark]
  | insert a S ha ih => rw [Finset.fold_insert ha, ih, mark_and]; congr 1; simp

theorem coe_abs (x : ℝ) : FloatOps.absf (F := Ideal) (φ := .f32) (x : EReal) = ((|x| : ℝ) : EReal) := by
  change max (x : EReal) (-(x : EReal)) = _
  rw [← EReal.coe_neg, coe_max]
  rfl

/-- The tolerance's word is not positive. -/
theorem tol_nonpos : Ideal.ofBits .f32 0xB58637BD#32 ≤ 0 := by
  have : Ideal.ofBits .f32 0xB58637BD#32 = ((-(8796093 / 8796093022208) : ℝ) : EReal) := by
    simp [Ideal.ofBits, Ideal.ieee, -EReal.coe_mul, -EReal.coe_neg]
    norm_num
  rw [this]
  exact_mod_cast (by norm_num : (-(8796093 / 8796093022208) : ℝ) ≤ 0)

variable {β : Fin 262144}

/-- Row `β` of `v` holds the reals `f`. -/
def Row (β : Fin 262144) (v : B8) (f : Fin 8 → ℝ) : Prop := ∀ i : Fin 8, v (ix2 β i) = ((f i : ℝ) : EReal)

theorem nxt_at (v : B8) (i : Fin 8) : nxt v (ix2 β i) = v (ix2 β (i + 1)) := by
  pointwise [nxt]
  fin_cases i <;> rfl

/-- The edge vectors' coordinate. -/
theorem Row.edge {v : B8} {X : Bool → Fin 8 → ℝ} {s : Bool} (h : Row β v (X s)) (i : Fin 8) :
    nxt v (ix2 β i) - v (ix2 β i) = ((dx X s i : ℝ) : EReal) := by
  rw [nxt_at, h, h, ← EReal.coe_sub]
  rfl

/-- What the row's reals are to satisfy: general position, no vertex in the tolerance band of an edge of the other
    polygon, and no nearly parallel edges. -/
structure Clear (X Y : Bool → Fin 8 → ℝ) : Prop extends Pair X Y where
  band : ∀ s i k, 0 < side X Y s i (X (!s) k) (Y (!s) k) ∨
    ((side X Y s i (X (!s) k) (Y (!s) k) : ℝ) : EReal) < Ideal.ofBits .f32 0xB58637BD#32
  steep : ∀ i j, Ideal.ofBits .f32 0x3089705F#32 ≤ ((|cd X Y true j i| : ℝ) : EReal)

variable {X Y : Bool → Fin 8 → ℝ} (hc : Clear X Y)

include hc in
/-- The test of the points of one polygon: inside the other. -/
theorem inside_at {s : Bool} {a1 a2 b1 b2 : B8} (h1 : Row β a1 (X s)) (h2 : Row β a2 (Y s)) (h3 : Row β b1 (X (!s))) (h4 : Row β b2 (Y (!s)))
    (k : Fin 8) : inside a1 a2 b1 b2 (ix2 β k) = mark (∀ j, 0 < side X Y (!s) j (X s k) (Y s k)) := by
  pointwise [inside, rows, cols, lit88]
  refine (Finset.fold_congr fun j _ => ?_).trans ((fold_mark Finset.univ fun j => 0 < side X Y (!s) j (X s k) (Y s k)).trans (congrArg mark (by simp)))
  refine mark_eq ?_
  rw [h3.edge, h4.edge, h1, h2, h3, h4, ← EReal.coe_sub, ← EReal.coe_sub, ← EReal.coe_mul, ← EReal.coe_mul, ← EReal.coe_sub]
  have b := hc.band (!s) j k
  rw [Bool.not_not] at b
  change _ ≤ ((side X Y (!s) j (X s k) (Y s k) : ℝ) : EReal) ↔ _
  constructor
  · intro h
    exact b.resolve_right (not_lt.2 h)
  · intro h
    exact tol_nonpos.trans (by exact_mod_cast h.le)

section Cross

variable {a1 a2 b1 b2 : B8} (h1 : Row β a1 (X false)) (h2 : Row β a2 (Y false)) (h3 : Row β b1 (X true)) (h4 : Row β b2 (Y true))

include h1 h2 h3 h4

theorem den_at (i j : Fin 8) : den a1 a2 b1 b2 (ix3 β i j) = ((cd X Y true j i : ℝ) : EReal) := by
  pointwise [den, rows, cols]
  rw [h1.edge, h2.edge, h3.edge, h4.edge, ← EReal.coe_mul, ← EReal.coe_mul, ← EReal.coe_sub]
  rfl

include hc

theorem safe_at (i j : Fin 8) : safe a1 a2 b1 b2 (ix3 β i j) = ((cd X Y true j i : ℝ) : EReal) := by
  pointwise [safe, lit88]
  rw [den_at h1 h2 h3 h4, coe_abs, if_neg (not_lt.2 (hc.steep i j))]

theorem tpar_at (i j : Fin 8) : tpar a1 a2 b1 b2 (ix3 β i j) = ((tt X Y false i j : ℝ) : EReal) := by
  pointwise [tpar, rows, cols]
  rw [safe_at hc h1 h2 h3 h4, h3.edge, h4.edge, h1, h2, h3, h4]
  simp only [← EReal.coe_sub, ← EReal.coe_mul]
  rw [coe_div (hc.par true j i)]
  have e : cd X Y true j i = -cd X Y false i j := cd_swap false i j
  rw [tt, e, div_neg, neg_div]
  unfold c0 side
  simp only [Bool.not_false]
  congr 3
  ring

theorem upar_at (i j : Fin 8) : upar a1 a2 b1 b2 (ix3 β i j) = ((tt X Y true j i : ℝ) : EReal) := by
  pointwise [upar, rows, cols]
  rw [safe_at hc h1 h2 h3 h4, h1.edge, h2.edge, h1, h2, h3, h4]
  simp only [← EReal.coe_sub, ← EReal.coe_mul]
  rw [coe_div (hc.par true j i), tt]
  unfold c0 side
  simp only [Bool.not_true]
  congr 2
  ring

theorem hits_at (i j : Fin 8) : hits a1 a2 b1 b2 (ix3 β i j) = mark (Meet X Y false i j) := by
  pointwise [hits, lit88]
  rw [den_at h1 h2 h3 h4, coe_abs, tpar_at hc h1 h2 h3 h4, upar_at hc h1 h2 h3 h4]
  rw [mark_eq (q := True) (by simpa using hc.steep i j), mark_eq (q := 0 ≤ tt X Y false i j) (by norm_cast),
    mark_eq (q := tt X Y false i j ≤ 1) (by norm_cast), mark_eq (q := 0 ≤ tt X Y true j i) (by norm_cast),
    mark_eq (q := tt X Y true j i ≤ 1) (by norm_cast), mark_and, mark_and, mark_and, mark_and]
  congr 1
  simp only [Meet, Bool.not_false, true_and, and_assoc]

theorem hitAt_at {Z : Bool → Fin 8 → ℝ} {x : B8} (h : Row β x (Z false)) (i j : Fin 8) :
    hitAt a1 a2 b1 b2 x (ix3 β i j) = ((pt X Y Z (.inr (i, j)) : ℝ) : EReal) := by
  pointwise [hitAt, rows]
  rw [h.edge, h, tpar_at hc h1 h2 h3 h4, ← EReal.coe_mul, ← EReal.coe_add]
  rfl

end Cross

/-- The candidates in the program's order. -/
def cornerOf (k : Fin 80) : Corner :=
  if h : k.val < 8 then .inl (false, ⟨k, h⟩)
  else if h' : k.val - 8 < 8 then .inl (true, ⟨k - 8, h'⟩)
  else .inr (⟨(k - 8 - 8) / 8, by omega⟩, ⟨(k - 8 - 8) % 8, by omega⟩)

theorem cornerOf_a {k : Fin 80} (h : k.val < 8) : cornerOf k = .inl (false, ⟨k, h⟩) := dif_pos h

theorem cornerOf_b {k : Fin 80} (h : ¬k.val < 8) (h' : k.val - 8 < 8) : cornerOf k = .inl (true, ⟨k - 8, h'⟩) :=
  (dif_neg h).trans (dif_pos h')

theorem cornerOf_x {k : Fin 80} (h : ¬k.val < 8) (h' : ¬k.val - 8 < 8) :
    cornerOf k = .inr (⟨(k - 8 - 8) / 8, by omega⟩, ⟨(k - 8 - 8) % 8, by omega⟩) :=
  (dif_neg h).trans (dif_neg h')

theorem cornerOf_surjective : Function.Surjective cornerOf := by
  rintro (⟨s, i⟩ | ⟨i, j⟩)
  · cases s
    · refine ⟨⟨i, by omega⟩, ?_⟩
      rw [cornerOf, dif_pos (show i.val < 8 from i.2)]
    · refine ⟨⟨i + 8, by omega⟩, ?_⟩
      rw [cornerOf, dif_neg (by simp), dif_pos (by simp)]
      simp
  · refine ⟨⟨16 + 8 * i + j, by omega⟩, ?_⟩
    rw [cornerOf, dif_neg (by simp; omega), dif_neg (by simp; omega)]
    congr 2
    · apply Fin.ext; simp; omega
    · apply Fin.ext; simp; omega

theorem cornerOf_bijective : Function.Bijective cornerOf :=
  (Fintype.bijective_iff_surjective_and_card _).2 ⟨cornerOf_surjective, by simp⟩

section Cand

variable {a1 a2 b1 b2 : B8} (h1 : Row β a1 (X false)) (h2 : Row β a2 (Y false)) (h3 : Row β b1 (X true)) (h4 : Row β b2 (Y true))

include hc h1 h2 h3 h4

/-- The candidates' coordinates. -/
theorem cand_at {Z : Bool → Fin 8 → ℝ} {x y : B8} (hx : Row β x (Z false)) (hy : Row β y (Z true)) (k : Fin 80) :
    cand a1 a2 b1 b2 x y (ix2 β k) = ((pt X Y Z (cornerOf k) : ℝ) : EReal) := by
  by_cases h : k.val < 8
  · rw [cornerOf_a h]
    pointwise [cand]
    exact (dif_pos h).trans (hx _)
  by_cases h' : k.val - 8 < 8
  · rw [cornerOf_b h h']
    pointwise [cand]
    exact ((dif_neg h).trans (dif_pos h')).trans (hy _)
  · rw [cornerOf_x h h']
    pointwise [cand]
    exact ((dif_neg h).trans (dif_neg h')).trans (hitAt_at hc h1 h2 h3 h4 hx _ _)

/-- The candidates marked. -/
theorem good_at (k : Fin 80) : good a1 a2 b1 b2 (ix2 β k) = mark (cornerOf k ∈ corners X Y) := by
  rw [mem_corners]
  by_cases h : k.val < 8
  · rw [cornerOf_a h]
    pointwise [good]
    exact (dif_pos h).trans (inside_at hc (s := false) h1 h2 h3 h4 _)
  by_cases h' : k.val - 8 < 8
  · rw [cornerOf_b h h']
    pointwise [good]
    exact ((dif_neg h).trans (dif_pos h')).trans (inside_at hc (s := true) h3 h4 h1 h2 _)
  · rw [cornerOf_x h h']
    pointwise [good]
    exact ((dif_neg h).trans (dif_neg h')).trans (hits_at hc h1 h2 h3 h4 _ _)

end Cand

end Ciou.Ref
-- ==== Proof.RefSort.lean ====
/- The reference's two stable sorts, row by row: the keys come in increasing order, the payloads move with them. -/
module

public import proofs.«01_k».proof.Proof.RefBlock
public import Idealize.ShloMosaic.Lib.Pointwise
public import Idealize.ShloMosaic.Lib.SortFacts

@[expose] public section

noncomputable section

open scoped Classical

namespace Ciou.Ref

open Idealize.ShloMosaic Idealize.ShloMosaic.TcCoe
open Cert.ReferenceIdeal Cert.ReferenceIdeal.Gen
open Idealize.ShloMosaic.Pointwise

/-- The order of the sort by three: the first entries' order. -/
theorem comp3 (l r : EReal × EReal × EReal) :
    comparator_f32_f32_f32_d1 (F := Ideal) l r = BitVec.ofBool (decide (l.1 < r.1)) := by
  have h (x : EReal) : Scalar.select (FloatOps.cmpf (F := Ideal) (φ := .f32) .une x x) (FloatOps.ofBits (F := Ideal) .f32 0x7FC00000#32)
      (Scalar.select (FloatOps.cmpf (F := Ideal) (φ := .f32) .oeq x (FloatOps.ofBits (F := Ideal) .f32 0x00000000#32))
        (FloatOps.ofBits (F := Ideal) .f32 0x00000000#32) x) = x := by
    have e : FloatOps.cmpf (F := Ideal) (φ := .f32) .une x x = 0#1 := by
      show BitVec.ofBool (decide (x ≠ x)) = 0#1
      simp
    rw [e]
    change Scalar.select (BitVec.ofBool (decide (x = FloatOps.ofBits (F := Ideal) .f32 0x00000000#32))) _ x = x
    by_cases hx : x = FloatOps.ofBits (F := Ideal) .f32 0x00000000#32
    · rw [decide_eq_true hx]; exact hx.symm
    · rw [decide_eq_false hx]; rfl
  unfold comparator_f32_f32_f32_d1
  dsimp only
  erw [h, h]
  rfl

/-- The order of the sort by four: the first entries' order. -/
theorem comp4 (l r : EReal × EReal × EReal × BitVec 1) :
    comparator_f32_f32_f32_i1_d1 (F := Ideal) l r = BitVec.ofBool (decide (l.1 < r.1)) :=
  comp3 (l.1, l.2.1, l.2.2.1) (r.1, r.2.1, r.2.2.1)

/-- Positions sorted by a key. -/
def order {n : ℕ} (key : Fin n → EReal) : Fin n → Fin n :=
  sortedFrom fun k k' => BitVec.ofBool (decide (key k < key k')) == 1#1

theorem order_bijective {n : ℕ} (key : Fin n → EReal) : Function.Bijective (order key) :=
  ⟨sortedFrom_injective _, sortedFrom_surjective _⟩

theorem order_mono {n : ℕ} (key : Fin n → EReal) {i j : Fin n} (h : i ≤ j) : key (order key i) ≤ key (order key j) := by
  rcases h.eq_or_lt with rfl | h
  · exact le_rfl
  have e (a b : Fin n) : (BitVec.ofBool (decide (key a < key b)) == 1#1) = decide (key a < key b) := by
    by_cases c : key a < key b <;> simp [c]
  have := sortedFrom_noInversion (fun k k' => BitVec.ofBool (decide (key k < key k')) == 1#1)
    (fun k k' => BitVec.ofBool (decide (key k < key k')) == 1#1)
    (fun a b h => by rw [e, decide_eq_true_iff] at h; rw [e, decide_eq_false_iff_not]; exact not_lt.2 h.le) (fun a b h => h)
    (fun a b c h h' => by
      rw [e, decide_eq_false_iff_not, not_lt] at h h' ⊢
      exact h'.trans h) i j h
  rw [e, decide_eq_false_iff_not, not_lt] at this
  exact this

variable (β : Fin 262144)

/-- The sort of a row of eight. -/
theorem sort3_at (K x y : B8) (i : Fin 8) :
    (Host.sort3 S262144x8 1 comparator_f32_f32_f32_d1 K x y).2.1 (ix2 β i) = x (ix2 β (order (fun k => K (ix2 β k)) i))
    ∧ (Host.sort3 S262144x8 1 comparator_f32_f32_f32_d1 K x y).2.2 (ix2 β i) = y (ix2 β (order (fun k => K (ix2 β k)) i)) := by
  have al (h : 1 < S262144x8.rank) (k : Fin 8) : Shape.Idx.along (s := S262144x8) (ix2 β i) ⟨1, h⟩ k = ix2 β k := by
    funext d
    fin_cases d <;> rfl
  unfold Host.sort3 order
  rw [dif_pos (show 1 < S262144x8.rank by decide)]
  simp only [comp3]
  constructor
  · exact congrArg x ((al _ _).trans (congrArg (ix2 β) (congrArg (fun R => sortedFrom R i) (funext fun k => funext fun k' =>
      congrArg₂ (fun a b => BitVec.ofBool (decide (K a < K b)) == 1#1) (al _ k) (al _ k')))))
  · exact congrArg y ((al _ _).trans (congrArg (ix2 β) (congrArg (fun R => sortedFrom R i) (funext fun k => funext fun k' =>
      congrArg₂ (fun a b => BitVec.ofBool (decide (K a < K b)) == 1#1) (al _ k) (al _ k')))))

/-- The sort of a row of eighty. -/
theorem sort4_at (K x y : B80) (v : M80) (i : Fin 80) :
    (Host.sort4 S262144x80 1 comparator_f32_f32_f32_i1_d1 K x y v).2.1 (ix2 β i) = x (ix2 β (order (fun k => K (ix2 β k)) i))
    ∧ (Host.sort4 S262144x80 1 comparator_f32_f32_f32_i1_d1 K x y v).2.2.1 (ix2 β i) = y (ix2 β (order (fun k => K (ix2 β k)) i))
    ∧ (Host.sort4 S262144x80 1 comparator_f32_f32_f32_i1_d1 K x y v).2.2.2 (ix2 β i) = v (ix2 β (order (fun k => K (ix2 β k)) i)) := by
  have al (h : 1 < S262144x80.rank) (k : Fin 80) : Shape.Idx.along (s := S262144x80) (ix2 β i) ⟨1, h⟩ k = ix2 β k := by
    funext d
    fin_cases d <;> rfl
  unfold Host.sort4 order
  rw [dif_pos (show 1 < S262144x80.rank by decide)]
  simp only [comp4]
  refine ⟨?_, ?_, ?_⟩
  · exact congrArg x ((al _ _).trans (congrArg (ix2 β) (congrArg (fun R => sortedFrom R i) (funext fun k => funext fun k' =>
      congrArg₂ (fun a b => BitVec.ofBool (decide (K a < K b)) == 1#1) (al _ k) (al _ k')))))
  · exact congrArg y ((al _ _).trans (congrArg (ix2 β) (congrArg (fun R => sortedFrom R i) (funext fun k => funext fun k' =>
      congrArg₂ (fun a b => BitVec.ofBool (decide (K a < K b)) == 1#1) (al _ k) (al _ k')))))
  · exact congrArg v ((al _ _).trans (congrArg (ix2 β) (congrArg (fun R => sortedFrom R i) (funext fun k => funext fun k' =>
      congrArg₂ (fun a b => BitVec.ofBool (decide (K a < K b)) == 1#1) (al _ k) (al _ k')))))

end Ciou.Ref
-- ==== Proof.KReal.lean ====
/-
  The real numbers a lane of the kernel's block computes: the two polygons' areas, the clipped edges' share of the
  intersection, and the hull's edges by local tests.
-/
module

public import proofs.«01_k».proof.Proof.Pair

@[expose] public section

noncomputable section

open scoped Classical

namespace Ciou.K

variable (X Y : Bool → Fin 8 → ℝ)

/-- The cross product of an edge's ends. -/
def cr (s : Bool) (i : Fin 8) : ℝ := X s i * dx Y s i - Y s i * dx X s i

/-- The clipped part of an edge, as its cross product. -/
def clipR (s : Bool) (i : Fin 8) : ℝ :=
  if T1 (c0 X Y s i) (cd X Y s i) < T2 (c0 X Y s i) (cd X Y s i) then
    (T2 (c0 X Y s i) (cd X Y s i) - T1 (c0 X Y s i) (cd X Y s i)) * cr X Y s i else 0

/-- The whole other polygon lies to the left of an edge. -/
def Own (s : Bool) (i : Fin 8) : Prop := ∀ k, 0 ≤ side X Y s i (X (!s) k) (Y (!s) k)

/-- The cross product of an edge with the whole other polygon to its left. -/
def ownR (s : Bool) (i : Fin 8) : ℝ := if Own X Y s i then cr X Y s i else 0

/-- Both neighbours of vertex `i` of polygon `s` and of vertex `r` of the other lie to the left of the line from the one
    to the other. -/
def Bridge (s : Bool) (i r : Fin 8) : Prop :=
  (0 ≤ (X (!s) r - X s i) * dx Y s i - (Y (!s) r - Y s i) * dx X s i
    ∧ 0 ≤ (Y (!s) r - Y s i) * dx X s (i - 1) - (X (!s) r - X s i) * dx Y s (i - 1))
  ∧ 0 ≤ (Y (!s) r - Y s i) * dx X (!s) (r - 1) - (X (!s) r - X s i) * dx Y (!s) (r - 1)
    ∧ 0 ≤ (X (!s) r - X s i) * dx Y (!s) r - (Y (!s) r - Y s i) * dx X (!s) r

/-- The cross product of a vertex of polygon `s` and one of the other that pass the test. -/
def bridgeR (s : Bool) (i r : Fin 8) : ℝ := if Bridge X Y s i r then X s i * Y (!s) r - Y s i * X (!s) r else 0

/-- The areas' sum. -/
def areaR : ℝ := 1 / 2 * ∑ i, (cr X Y false i + cr X Y true i)

/-- The intersection's area. -/
def interR : ℝ := 1 / 2 * ∑ i, (clipR X Y false i + clipR X Y true i)

/-- The hull's area. -/
def hullR : ℝ := 1 / 2 * ∑ r, (ownR X Y false r + ownR X Y true r + ∑ i, bridgeR X Y false i r + ∑ i, bridgeR X Y true i r)

end Ciou.K
-- ==== Proof.RefInter.lean ====
/-
  The area of the intersection in a row of the reference: the marked candidates, sorted by angle about their mean, give
  the shoelace sum over the intersection's corners, which is the sum of the clipped parts of the edges.
-/
module

public import proofs.«01_k».proof.Proof.RefMarks
public import proofs.«01_k».proof.Proof.RefSort
public import proofs.«01_k».proof.Proof.KReal
public import Idealize.ShloMosaic.Lib.IndicatorCount

@[expose] public section

noncomputable section

open scoped Classical

namespace Ciou.Ref

open Idealize.ShloMosaic Idealize.ShloMosaic.TcCoe
open Cert.ReferenceIdeal Cert.ReferenceIdeal.Gen
open Idealize.ShloMosaic.Pointwise Idealize.ShloMosaic.IndicatorCount

/-- The arctangent of two reals is the vector's angle. -/
theorem atan2_coe (y x : ℝ) : Ideal.atan2 (y : EReal) (x : EReal) = ((ang y x : ℝ) : EReal) := by
  rw [ang_eq]
  rfl

theorem uitofp_mark (p : Prop) : FloatOps.uitofp (F := Ideal) .f32 (mark p) = (((if p then 1 else 0 : ℝ)) : EReal) := by
  by_cases h : p
  · rw [if_pos h, mark, decide_eq_true h]
    change (((1 : ℕ) : ℝ) : EReal) = _
    simp
  · rw [if_neg h, mark, decide_eq_false h]
    change (((0 : ℕ) : ℝ) : EReal) = _
    simp

theorem words80 : ∀ n : Fin 81, 1 ≤ n.val → (IntOp.maxsi (BitVec.ofNat 32 n) 1#32).toInt = n := by decide

theorem words80_three : ∀ n : Fin 81, IntOp.cmpi .sge (BitVec.ofNat 32 n) 3#32 = BitVec.ofBool (decide (3 ≤ n.val)) := by decide

/-- An angle is less than the key of the candidates left out. -/
theorem pi_lt_big : ((Real.pi : ℝ) : EReal) < Ideal.ofBits .f32 0x4E6E6B28#32 := by
  have : Ideal.ofBits .f32 0x4E6E6B28#32 = ((1000000000 : ℝ) : EReal) := by
    simp [Ideal.ofBits, Ideal.ieee, -EReal.coe_mul]
    norm_num
  rw [this]
  have := Real.pi_le_four
  exact_mod_cast (by linarith : Real.pi < 1000000000)

variable {β : Fin 262144} {X Y : Bool → Fin 8 → ℝ}

theorem nxt80_at (v : B80) (k : Fin 80) : nxt80 v (ix2 β k) = v (ix2 β (k + 1)) := by
  pointwise [nxt80]
  by_cases h : k.val < 79
  · refine (dif_pos h).trans (congrArg (fun i => v (ix2 β i)) (Fin.ext ?_))
    rw [Fin.val_add]
    simp
    omega
  · refine (dif_neg h).trans (congrArg (fun i => v (ix2 β i)) (Fin.ext ?_))
    rw [Fin.val_add]
    simp
    omega

/-- A candidate is a corner of the intersection. -/
def Good (X Y : Bool → Fin 8 → ℝ) (w : Corner) : Prop := w ∈ corners X Y

section Area

variable {v : M80} {x y : B80} (hv : ∀ k, v (ix2 β k) = mark (Good X Y (cornerOf k)))
  (hx : ∀ k, x (ix2 β k) = ((pt X Y X (cornerOf k) : ℝ) : EReal)) (hy : ∀ k, y (ix2 β k) = ((pt X Y Y (cornerOf k) : ℝ) : EReal))

theorem card_corners : (corners X Y).card < 81 := by
  have := Finset.card_le_univ (corners X Y)
  simp at this
  omega

include hv

theorem count_at : count v (ix1 β) = BitVec.ofNat 32 (corners X Y).card := by
  pointwise [count]
  rw [fold_addi_setWidth_eq_card (fun k => v (ix2 β k))]
  congr 1
  refine Finset.card_nbij cornerOf (fun k hk => ?_) (fun a _ b _ h => cornerOf_bijective.1 h) (fun w hw => ?_)
  · have := (Finset.mem_filter.1 hk).2
    rw [hv, mark_eq_one] at this
    exact this
  · obtain ⟨k, e⟩ := cornerOf_bijective.2 w
    refine ⟨k, ?_, e⟩
    simp only [Finset.coe_filter, Finset.mem_univ, true_and, Set.mem_setOf_eq]
    rw [hv, mark_eq_one, e]
    exact hw

theorem centred80_at (ne : (corners X Y).Nonempty) {Z : Bool → Fin 8 → ℝ} {z : B80}
    (hz : ∀ k, z (ix2 β k) = ((pt X Y Z (cornerOf k) : ℝ) : EReal)) (k : Fin 80) :
    centred80 v z (ix2 β k) = ((pt X Y Z (cornerOf k) - mid X Y Z : ℝ) : EReal) := by
  pointwise [centred80]
  have n1 : 1 ≤ (corners X Y).card := ne.card_pos
  have s : ∀ i : Fin 80, z (ix2 β i) * FloatOps.uitofp (F := Ideal) .f32 (v (ix2 β i)) =
      ((pt X Y Z (cornerOf i) * (if Good X Y (cornerOf i) then 1 else 0) : ℝ) : EReal) := fun i => by
    rw [hz, hv, uitofp_mark, ← EReal.coe_mul]
  have d : FloatOps.sitofp (F := Ideal) .f32 (IntOp.maxsi (count v (ix1 β)) 1#32) = (((corners X Y).card : ℝ) : EReal) := by
    rw [count_at hv]
    change (((IntOp.maxsi (BitVec.ofNat 32 (corners X Y).card) 1#32).toInt : ℝ) : EReal) = _
    rw [words80 ⟨_, card_corners⟩ n1]
    simp
  rw [Finset.sum_congr rfl fun i _ => s i, d, hz, coe_sum, coe_div (by positivity), ← EReal.coe_sub, mid]
  congr 3
  rw [cornerOf_bijective.sum_comp (fun w => pt X Y Z w * (if Good X Y w then 1 else 0))]
  simp only [mul_ite, mul_one, mul_zero]
  rw [← Finset.sum_filter]
  exact Finset.sum_congr (by ext w; rw [Finset.mem_filter]; exact and_iff_right (Finset.mem_univ w)) fun _ _ => rfl

include hx hy

theorem keys_at (ne : (corners X Y).Nonempty) (k : Fin 80) : keys v x y (ix2 β k) =
    if Good X Y (cornerOf k) then ((ang (pt X Y Y (cornerOf k) - mid X Y Y) (pt X Y X (cornerOf k) - mid X Y X) : ℝ) : EReal)
    else Ideal.ofBits .f32 0x4E6E6B28#32 := by
  pointwise [keys, angles80, lit1]
  rw [centred80_at hv ne hx, centred80_at hv ne hy, hv, select_mark, atan2_coe]

/-- The candidates in sorted order. -/
def sortedCorner (β : Fin 262144) (v : M80) (x y : B80) (k : Fin 80) : Corner := cornerOf (order (fun k => keys v x y (ix2 β k)) k)

omit hv hx hy in
theorem masked_at {c : Fin 80 → Corner} {Z : Bool → Fin 8 → ℝ} {z : B80} (hz : ∀ k, z (ix2 β k) = ((pt X Y Z (c k) : ℝ) : EReal))
    {w : M80} (hw : ∀ k, w (ix2 β k) = mark (Good X Y (c k))) (k : Fin 80) :
    masked w z (ix2 β k) = ((if Good X Y (c k) then pt X Y Z (c k) else pt X Y Z (c 0) : ℝ) : EReal) := by
  pointwise [masked]
  rw [hw, select_mark, hz, ← coe_ite]
  exact if_congr Iff.rfl rfl (hz 0)

omit hv hx hy in
theorem shoe80_at {z w : B80} {f g : Fin 80 → ℝ} (hz : ∀ k, z (ix2 β k) = ((f k : ℝ) : EReal)) (hw : ∀ k, w (ix2 β k) = ((g k : ℝ) : EReal)) :
    shoe80 z w (ix1 β) = ((1 / 2 * ∑ k, (f k * g (k + 1) - g k * f (k + 1)) : ℝ) : EReal) := by
  pointwise [shoe80, lit0]
  rw [ofBits_half, EReal.coe_mul, ← coe_sum]
  congr 1
  refine Finset.sum_congr rfl fun k _ => ?_
  rw [nxt80_at, nxt80_at, hz, hz, hw, hw, ← EReal.coe_mul, ← EReal.coe_mul, ← EReal.coe_sub]

omit hv hy in
theorem sorted80_x (k : Fin 80) : (sorted80 v x y).2.1 (ix2 β k) = ((pt X Y X (sortedCorner β v x y k) : ℝ) : EReal) :=
  (sort4_at β (keys v x y) x y v k).1.trans (hx _)

omit hv hx in
theorem sorted80_y (k : Fin 80) : (sorted80 v x y).2.2.1 (ix2 β k) = ((pt X Y Y (sortedCorner β v x y k) : ℝ) : EReal) :=
  (sort4_at β (keys v x y) x y v k).2.1.trans (hy _)

omit hv hx hy in
theorem sortedCorner_bijective : Function.Bijective (sortedCorner β v x y) := by
  have e : sortedCorner β v x y = cornerOf ∘ order (fun k => keys v x y (ix2 β k)) := by
    funext k
    rw [sortedCorner, Function.comp_apply]
  rw [e]
  exact cornerOf_bijective.comp (order_bijective _)

omit hx hy in
theorem sorted80_v (k : Fin 80) : (sorted80 v x y).2.2.2 (ix2 β k) = mark (Good X Y (sortedCorner β v x y k)) :=
  (sort4_at β (keys v x y) x y v k).2.2.trans (hv _)

/-- The corners come first in the sorted order, by angle about their mean. -/
theorem corners_first (ne : (corners X Y).Nonempty) (j k : Fin 80) (hjk : j ≤ k) (hk : Good X Y (sortedCorner β v x y k)) :
    Good X Y (sortedCorner β v x y j) ∧
      ang (pt X Y Y (sortedCorner β v x y j) - mid X Y Y) (pt X Y X (sortedCorner β v x y j) - mid X Y X)
        ≤ ang (pt X Y Y (sortedCorner β v x y k) - mid X Y Y) (pt X Y X (sortedCorner β v x y k) - mid X Y X) := by
  have key (i : Fin 80) : keys v x y (ix2 β (order (fun k => keys v x y (ix2 β k)) i)) = if Good X Y (sortedCorner β v x y i) then
      ((ang (pt X Y Y (sortedCorner β v x y i) - mid X Y Y) (pt X Y X (sortedCorner β v x y i) - mid X Y X) : ℝ) : EReal)
      else Ideal.ofBits .f32 0x4E6E6B28#32 := keys_at hv hx hy ne _
  have mono := (key j).symm.le.trans ((order_mono (fun k => keys v x y (ix2 β k)) hjk).trans (key k).le)
  rw [if_pos hk] at mono
  by_cases hj : Good X Y (sortedCorner β v x y j)
  · rw [if_pos hj] at mono
    exact ⟨hj, by exact_mod_cast mono⟩
  · rw [if_neg hj] at mono
    have a := mono.trans (by exact_mod_cast ang_le_pi _ _ : _ ≤ ((Real.pi : ℝ) : EReal))
    exact absurd a (not_le.2 pi_lt_big)

omit hv hx hy in
/-- The shoelace sum over an order in which the corners come first, by angle, the others replaced by the first point. -/
theorem shoelace_order (h : Pair X Y) {c : Fin 80 → Corner} (bij : Function.Bijective c)
    (big : ∀ j k, j ≤ k → Good X Y (c k) → Good X Y (c j) ∧
      ang (pt X Y Y (c j) - mid X Y Y) (pt X Y X (c j) - mid X Y X) ≤ ang (pt X Y Y (c k) - mid X Y Y) (pt X Y X (c k) - mid X Y X))
    {f g : Fin 80 → ℝ} (hf : ∀ k, f k = if Good X Y (c k) then pt X Y X (c k) else pt X Y X (c 0))
    (hg : ∀ k, g k = if Good X Y (c k) then pt X Y Y (c k) else pt X Y Y (c 0)) :
    ∑ k, (f k * g (k + 1) - g k * f (k + 1)) =
      ∑ w ∈ corners X Y, (pt X Y X w * pt X Y Y (nextC X Y w) - pt X Y Y w * pt X Y X (nextC X Y w)) := by
  have lt (k : ℕ) (hk : k < 80) : (Fin.ofNat 80 k).val = k := by simp [Nat.mod_eq_of_lt hk]
  rw [← h.around.shoelace (N := 80) (q := fun k => c (Fin.ofNat 80 k)) (sx := fun k => f (Fin.ofNat 80 k)) (sy := fun k => g (Fin.ofNat 80 k))
    (fun j hj k hk e => by
      have := congrArg Fin.val (bij.1 e)
      rwa [lt j hj, lt k hk] at this)
    (fun w _ => by
      obtain ⟨k, e⟩ := bij.2 w
      exact ⟨k, k.2, by simpa using e⟩)
    (fun j k hjk hk hq => big _ _ (by rw [Fin.le_def, lt j (by omega), lt k hk]; exact hjk) hq)
    (fun k _ hq => (hf _).trans (if_pos hq)) (fun k _ hq => (hg _).trans (if_pos hq)) (fun k _ hq => (hf _).trans (if_neg hq))
    (fun k _ hq => (hg _).trans (if_neg hq))]
  rw [Finset.sum_range]
  refine Finset.sum_congr rfl fun k _ => ?_
  have e1 : Fin.ofNat 80 k.val = k := by simp
  have e2 : Fin.ofNat 80 ((k.val + 1) % 80) = k + 1 := by
    apply Fin.ext
    simp [Fin.val_add]
  rw [e1, e2]

omit hv hx hy in
/-- The shoelace sum of the sorted candidates. -/
theorem shoelace_of (h : Pair X Y) {c : Fin 80 → Corner} (bij : Function.Bijective c)
    (first : ∀ j k, j ≤ k → Good X Y (c k) → Good X Y (c j) ∧
      ang (pt X Y Y (c j) - mid X Y Y) (pt X Y X (c j) - mid X Y X) ≤ ang (pt X Y Y (c k) - mid X Y Y) (pt X Y X (c k) - mid X Y X))
    {z1 z2 : B80} {w : M80}
    (e1 : ∀ k, z1 (ix2 β k) = ((pt X Y X (c k) : ℝ) : EReal)) (e2 : ∀ k, z2 (ix2 β k) = ((pt X Y Y (c k) : ℝ) : EReal))
    (e3 : ∀ k, w (ix2 β k) = mark (Good X Y (c k))) :
    shoe80 (masked w z1) (masked w z2) (ix1 β) =
      ((1 / 2 * ∑ w ∈ corners X Y, (pt X Y X w * pt X Y Y (nextC X Y w) - pt X Y Y w * pt X Y X (nextC X Y w)) : ℝ) : EReal) := by
  have m1 := masked_at (Z := X) e1 e3
  have m2 := masked_at (Z := Y) e2 e3
  refine (shoe80_at m1 m2).trans ?_
  have sum := shoelace_order h bij first (f := fun k => if Good X Y (c k) then pt X Y X (c k) else pt X Y X (c 0))
    (g := fun k => if Good X Y (c k) then pt X Y Y (c k) else pt X Y Y (c 0)) (fun _ => rfl) (fun _ => rfl)
  rw [← sum]

theorem shoelace_at (h : Pair X Y) (ne : (corners X Y).Nonempty) :
    shoe80 (masked (sorted80 v x y).2.2.2 (sorted80 v x y).2.1) (masked (sorted80 v x y).2.2.2 (sorted80 v x y).2.2.1) (ix1 β) =
      ((1 / 2 * ∑ w ∈ corners X Y, (pt X Y X w * pt X Y Y (nextC X Y w) - pt X Y Y w * pt X Y X (nextC X Y w)) : ℝ) : EReal) :=
  shoelace_of (c := sortedCorner β v x y) (z1 := (sorted80 v x y).2.1) (z2 := (sorted80 v x y).2.2.1) (w := (sorted80 v x y).2.2.2)
    h sortedCorner_bijective (corners_first hv hx hy ne) (sorted80_x (v := v) (y := y) hx)
    (sorted80_y (v := v) (x := x) hy) (sorted80_v (x := x) (y := y) hv)

/-- The area of the polygon of the marked candidates. -/
theorem area80_at (h : Pair X Y) : area80 v x y (ix1 β) = ((K.interR X Y : ℝ) : EReal) := by
  have tot : K.interR X Y = 1 / 2 * ∑ w ∈ corners X Y, (pt X Y X w * pt X Y Y (nextC X Y w) - pt X Y Y w * pt X Y X (nextC X Y w)) := by
    rw [← h.sum_clip, Fintype.sum_bool, K.interR, Finset.sum_add_distrib, add_comm]
    rfl
  pointwise [area80, lit0]
  rw [count_at hv, words80_three ⟨_, card_corners⟩, mark_eq (q := 3 ≤ (corners X Y).card) Iff.rfl, select_mark, tot]
  rcases (corners X Y).eq_empty_or_nonempty with e | ne
  · rw [if_neg (by rw [e]; simp), e]
    simp
  · rw [if_pos (h.around.three_le ne), shoelace_at hv hx hy h ne, max_eq_left]
    have := h.around.sum_nonneg
    exact_mod_cast mul_nonneg (by norm_num) this

end Area

/-- The area of the intersection, where the row's sorted polygons are in general position. -/
theorem inter_at {a1 a2 b1 b2 : B8} (hc : Clear X Y) (h1 : Row β a1 (X false)) (h2 : Row β a2 (Y false)) (h3 : Row β b1 (X true))
    (h4 : Row β b2 (Y true)) : inter a1 a2 b1 b2 (ix1 β) = ((K.interR X Y : ℝ) : EReal) :=
  area80_at (good_at hc h1 h2 h3 h4) (cand_at hc h1 h2 h3 h4 h1 h3) (cand_at hc h1 h2 h3 h4 h2 h4) hc.toPair

end Ciou.Ref
-- ==== Proof.Hull.lean ====
/-
  The convex hull of finitely many points: gift wrapping takes the hull's edges one after another, and its sum is the sum
  over all hull edges.
-/
module

public import proofs.«01_k».proof.Proof.Around

@[expose] public section

namespace Ciou

noncomputable section

open scoped Classical

variable {κ : Type} [Fintype κ] (X Y : κ → ℝ)

/-- Twice the signed area of the triangle `p`, `q`, `r`. -/
def orient (p q r : κ) : ℝ := (X q - X p) * (Y r - Y p) - (Y q - Y p) * (X r - X p)

/-- All other points are strictly to the left of the line from `p` to `q`. -/
def HullEdge (p q : κ) : Prop := p ≠ q ∧ ∀ r, r ≠ p → r ≠ q → 0 < orient X Y p q r

/-- Distinct points, and a line through two of them with no point to its right has all others strictly to its left. -/
structure Generic : Prop where
  distinct : ∀ p q, X p = X q → Y p = Y q → p = q
  strict : ∀ p q, p ≠ q → (∀ r, 0 ≤ orient X Y p q r) → HullEdge X Y p q
  three : 3 ≤ Fintype.card κ

/-- The points where a hull edge starts. -/
def hullPts : Finset κ := Finset.univ.filter fun p => ∃ q, HullEdge X Y p q

/-- The end of the hull edge from `p`. -/
def nextH (p : κ) : κ := if h : ∃ q, HullEdge X Y p q then h.choose else p

/-- The average of a coordinate over all points. -/
def avg (Z : κ → ℝ) : ℝ := (∑ p, Z p) / Fintype.card κ

variable {X Y}

theorem Generic.third (h : Generic X Y) (p q : κ) : ∃ r, r ≠ p ∧ r ≠ q := by
  by_contra hn
  push Not at hn
  have : Fintype.card κ ≤ 2 := by
    rw [← Finset.card_univ]
    refine (Finset.card_le_card (t := {p, q}) fun r _ => ?_).trans Finset.card_le_two
    by_cases hr : r = p
    · simp [hr]
    · simp [hn r hr]
  have := h.three
  omega

theorem HullEdge.unique (h : Generic X Y) {p q q' : κ} (h1 : HullEdge X Y p q) (h2 : HullEdge X Y p q') : q = q' := by
  by_contra hne
  have a := h1.2 q' h2.1.symm (Ne.symm hne)
  have b := h2.2 q h1.1.symm hne
  unfold orient at a b
  linarith

theorem HullEdge.unique' (h : Generic X Y) {p p' q : κ} (h1 : HullEdge X Y p q) (h2 : HullEdge X Y p' q) : p = p' := by
  by_contra hne
  have a := h1.2 p' (Ne.symm hne) h2.1
  have b := h2.2 p hne h1.1
  unfold orient at a b
  linarith

theorem HullEdge.nonneg {p q : κ} (h : HullEdge X Y p q) (r : κ) : 0 ≤ orient X Y p q r := by
  by_cases h1 : r = p
  · subst h1; unfold orient; linarith
  · by_cases h2 : r = q
    · subst h2; unfold orient; linarith
    · exact (h.2 r h1 h2).le

/-- One step of gift wrapping: with all points to the left of the line through `p` in direction `(dx, dy)`, the point of
    least angle from that direction is the end of a hull edge from `p`. -/
theorem Generic.wrap (h : Generic X Y) {p q : κ} {dx dy : ℝ} (hd : dx ≠ 0 ∨ dy ≠ 0)
    (hl : ∀ r, 0 ≤ dx * (Y r - Y p) - dy * (X r - X p)) (hq : q ≠ p)
    (hmin : ∀ r, r ≠ p → ang (dx * (Y q - Y p) - dy * (X q - X p)) (dx * (X q - X p) + dy * (Y q - Y p))
      ≤ ang (dx * (Y r - Y p) - dy * (X r - X p)) (dx * (X r - X p) + dy * (Y r - Y p))) : HullEdge X Y p q := by
  refine h.strict p q hq.symm fun r => ?_
  by_cases hr : r = p
  · subst hr; unfold orient; linarith
  have e := cross_eq_sin (dx * (X q - X p) + dy * (Y q - Y p)) (dx * (Y q - Y p) - dy * (X q - X p))
    (dx * (X r - X p) + dy * (Y r - Y p)) (dx * (Y r - Y p) - dy * (X r - X p))
  have e' : (dx * (X q - X p) + dy * (Y q - Y p)) * (dx * (Y r - Y p) - dy * (X r - X p))
      - (dx * (Y q - Y p) - dy * (X q - X p)) * (dx * (X r - X p) + dy * (Y r - Y p))
      = (dx * dx + dy * dy) * orient X Y p q r := by
    unfold orient; ring
  rw [e'] at e
  have hpos : 0 < dx * dx + dy * dy := by
    rcases hd with h | h
    · have := mul_self_pos.2 h; have := mul_self_nonneg dy; linarith
    · have := mul_self_pos.2 h; have := mul_self_nonneg dx; linarith
  have hs : 0 ≤ Real.sin (ang (dx * (Y r - Y p) - dy * (X r - X p)) (dx * (X r - X p) + dy * (Y r - Y p))
      - ang (dx * (Y q - Y p) - dy * (X q - X p)) (dx * (X q - X p) + dy * (Y q - Y p))) := by
    refine Real.sin_nonneg_of_nonneg_of_le_pi (sub_nonneg.2 (hmin r hr)) ?_
    have := ang_le_pi (dx * (Y r - Y p) - dy * (X r - X p)) (dx * (X r - X p) + dy * (Y r - Y p))
    have := ang_nonneg (x := dx * (X q - X p) + dy * (Y q - Y p)) (hl q)
    linarith
  have := mul_nonneg (mul_nonneg
    (len_nonneg (dx * (Y q - Y p) - dy * (X q - X p)) (dx * (X q - X p) + dy * (Y q - Y p)))
    (len_nonneg (dx * (Y r - Y p) - dy * (X r - X p)) (dx * (X r - X p) + dy * (Y r - Y p)))) hs
  rw [← e] at this
  exact nonneg_of_mul_nonneg_right this hpos

/-- Some hull edge goes on from a point with all points on one side of a line through it. -/
theorem Generic.exists_next (h : Generic X Y) (p : κ) {dx dy : ℝ} (hd : dx ≠ 0 ∨ dy ≠ 0)
    (hl : ∀ r, 0 ≤ dx * (Y r - Y p) - dy * (X r - X p)) : ∃ q, HullEdge X Y p q := by
  obtain ⟨r, hr, -⟩ := h.third p p
  obtain ⟨q, hq, hmin⟩ := Finset.exists_min_image (Finset.univ.filter (· ≠ p))
    (fun r => ang (dx * (Y r - Y p) - dy * (X r - X p)) (dx * (X r - X p) + dy * (Y r - Y p))) ⟨r, by simp [hr]⟩
  exact ⟨q, h.wrap hd hl (by simpa using hq) fun r hr => hmin r (by simp [hr])⟩

/-- The line of a hull edge, seen from the edge's end. -/
theorem HullEdge.left {p q : κ} (h : HullEdge X Y p q) (r : κ) :
    0 ≤ (X q - X p) * (Y r - Y q) - (Y q - Y p) * (X r - X q) := by
  have := h.nonneg r
  unfold orient at this
  linarith

theorem HullEdge.vec_ne (h : Generic X Y) {p q : κ} (hpq : HullEdge X Y p q) : X q - X p ≠ 0 ∨ Y q - Y p ≠ 0 := by
  by_contra hn
  push Not at hn
  exact hpq.1 (h.distinct _ _ (by linarith [hn.1]) (by linarith [hn.2]))

theorem mem_hullPts {p : κ} : p ∈ hullPts X Y ↔ ∃ q, HullEdge X Y p q := by simp [hullPts]

theorem nextH_spec {p : κ} (hp : ∃ q, HullEdge X Y p q) : HullEdge X Y p (nextH X Y p) := by
  rw [nextH, dif_pos hp]
  exact hp.choose_spec

theorem HullEdge.next_eq (h : Generic X Y) {p q : κ} (hpq : HullEdge X Y p q) : nextH X Y p = q :=
  (nextH_spec ⟨q, hpq⟩).unique h hpq

/-- The average of all points is strictly to the left of every hull edge. -/
theorem HullEdge.avg_pos (h : Generic X Y) {p q : κ} (hpq : HullEdge X Y p q) :
    0 < (X q - X p) * (avg Y - Y p) - (Y q - Y p) * (avg X - X p) := by
  have hcard : 0 < (Fintype.card κ : ℝ) := by
    rw [Nat.cast_pos]; have := h.three; omega
  have e : (X q - X p) * (avg Y - Y p) - (Y q - Y p) * (avg X - X p) = (∑ r, orient X Y p q r) / Fintype.card κ := by
    have : ∑ r, orient X Y p q r = (X q - X p) * (∑ r, Y r - Fintype.card κ * Y p)
        - (Y q - Y p) * (∑ r, X r - Fintype.card κ * X p) := by
      unfold orient
      rw [Finset.sum_sub_distrib, ← Finset.mul_sum, ← Finset.mul_sum, Finset.sum_sub_distrib, Finset.sum_sub_distrib]
      simp
    rw [this]
    unfold avg
    field_simp
  rw [e]
  refine div_pos ?_ hcard
  obtain ⟨r, h1, h2⟩ := h.third p q
  exact Finset.sum_pos' (fun r _ => hpq.nonneg r) ⟨r, Finset.mem_univ _, hpq.2 r h1 h2⟩

/-- The hull's points go around the average. -/
theorem Generic.around (h : Generic X Y) : Around (hullPts X Y) X Y (avg X) (avg Y) (nextH X Y) where
  maps v hv := by
    have hv := nextH_spec (mem_hullPts.1 hv)
    exact mem_hullPts.2 (h.exists_next _ (hv.vec_ne h) hv.left)
  turn v hv := by
    have := (nextH_spec (mem_hullPts.1 hv)).avg_pos h
    unfold area2
    linarith
  empty v hv w hw hwv hwn p1 p2 := by
    have ev := nextH_spec (mem_hullPts.1 hv)
    obtain ⟨w', ew⟩ := mem_hullPts.1 hw
    have m1 := ev.avg_pos h
    have m2 := ew.avg_pos h
    have D : area2 (avg X) (avg Y) (X v) (Y v) (X (nextH X Y v)) (Y (nextH X Y v))
        = (X (nextH X Y v) - X v) * (avg Y - Y v) - (Y (nextH X Y v) - Y v) * (avg X - X v) := by
      unfold area2; ring
    have Dpos := D ▸ m1
    have hw1 := ev.2 w hwv hwn
    have l1 : orient X Y v (nextH X Y v) w
        = area2 (avg X) (avg Y) (X v) (Y v) (X (nextH X Y v)) (Y (nextH X Y v))
          - area2 (avg X) (avg Y) (X w) (Y w) (X (nextH X Y v)) (Y (nextH X Y v))
          - area2 (avg X) (avg Y) (X v) (Y v) (X w) (Y w) := by
      unfold orient area2; ring
    rw [l1] at hw1
    have l2 : (area2 (avg X) (avg Y) (X v) (Y v) (X (nextH X Y v)) (Y (nextH X Y v))
          - area2 (avg X) (avg Y) (X w) (Y w) (X (nextH X Y v)) (Y (nextH X Y v))
          - area2 (avg X) (avg Y) (X v) (Y v) (X w) (Y w))
            * ((X w' - X w) * (avg Y - Y w) - (Y w' - Y w) * (avg X - X w))
        + area2 (avg X) (avg Y) (X w) (Y w) (X (nextH X Y v)) (Y (nextH X Y v)) * orient X Y w w' v
        + area2 (avg X) (avg Y) (X v) (Y v) (X w) (Y w) * orient X Y w w' (nextH X Y v) = 0 := by
      unfold orient area2; ring
    have := mul_pos hw1 m2
    have := mul_nonneg p2 (ew.nonneg v)
    have := mul_nonneg p1 (ew.nonneg (nextH X Y v))
    linarith

/-- The sum over the hull's points of the cross product with the next one, over all ordered pairs instead. -/
theorem Generic.sum_pairs (h : Generic X Y) :
    ∑ p, ∑ q, (if HullEdge X Y p q then X p * Y q - Y p * X q else 0)
      = ∑ p ∈ hullPts X Y, (X p * Y (nextH X Y p) - Y p * X (nextH X Y p)) := by
  rw [hullPts, Finset.sum_filter]
  refine Finset.sum_congr rfl fun p _ => ?_
  by_cases hp : ∃ q, HullEdge X Y p q
  · rw [if_pos hp, Finset.sum_eq_single (nextH X Y p), if_pos (nextH_spec hp)]
    · intro q _ hq
      rw [if_neg fun e => hq (e.next_eq h).symm]
    · simp
  · rw [if_neg hp]
    refine Finset.sum_eq_zero fun q _ => ?_
    rw [if_neg fun e => hp ⟨q, e⟩]

/-- Gift wrapping: any walk along hull edges, stopped when it is back at its start, sums over the whole hull, if it is
    at least as long as there are points. -/
theorem Generic.walk (h : Generic X Y) {w : ℕ → κ} {N : ℕ} (hN : Fintype.card κ ≤ N)
    (hw : ∀ k < N, HullEdge X Y (w k) (w (k + 1))) :
    ∑ k ∈ Finset.range N, (if ∃ j, 1 ≤ j ∧ j ≤ k ∧ w j = w 0 then 0 else X (w k) * Y (w (k + 1)) - Y (w k) * X (w (k + 1)))
      = ∑ p, ∑ q, (if HullEdge X Y p q then X p * Y q - Y p * X q else 0) := by
  have hN0 : 0 < N := by have := h.three; omega
  have h0 : w 0 ∈ hullPts X Y := mem_hullPts.2 ⟨_, hw 0 hN0⟩
  obtain ⟨c, hc, inj, surj, mono⟩ := exists_sorted (hullPts X Y) (fun v => angO (avg X) (avg Y) (X v) (Y v)) (w 0)
  have next := h.around.next hc inj surj mono
  set n := (hullPts X Y).card with hn
  have hnN : n ≤ N := (Finset.card_le_univ _).trans hN
  obtain ⟨a, ha, e0⟩ := surj _ h0
  have npos : 0 < n := by omega
  have wc : ∀ k ≤ N, w k = c ((k + a) % n) := by
    intro k
    induction k with
    | zero => intro _; rw [zero_add, Nat.mod_eq_of_lt ha, e0]
    | succ k ih =>
      intro hk
      have e := (hw k (by omega)).next_eq h
      rw [← e, ih (by omega), next _ (Nat.mod_lt _ npos), Nat.mod_add_mod]
      congr 2
      omega
  have back : ∀ k < N, (∃ j, 1 ≤ j ∧ j ≤ k ∧ w j = w 0) ↔ n ≤ k := by
    intro k hk
    constructor
    · rintro ⟨j, h1, h2, e⟩
      rw [wc j (by omega), wc 0 (by omega), zero_add] at e
      have := inj _ (Nat.mod_lt _ npos) _ (Nat.mod_lt _ npos) e
      by_contra hlt
      have hj : j < n := by omega
      rw [Nat.mod_eq_of_lt ha] at this
      rcases lt_or_ge (j + a) n with hl | hl
      · rw [Nat.mod_eq_of_lt hl] at this; omega
      · rw [Nat.mod_eq_sub_mod hl, Nat.mod_eq_of_lt (by omega)] at this; omega
    · intro hnk
      refine ⟨n, by omega, hnk, ?_⟩
      rw [wc n (by omega), wc 0 (by omega), zero_add, Nat.add_mod_left]
  rw [h.sum_pairs, ← sum_enum hc inj surj, ← Finset.sum_range_add_sum_Ico _ hnN, Finset.sum_eq_zero (s := Finset.Ico n N),
    add_zero]
  · have e1 : ∀ k ∈ Finset.range n, (if ∃ j, 1 ≤ j ∧ j ≤ k ∧ w j = w 0 then (0 : ℝ)
        else X (w k) * Y (w (k + 1)) - Y (w k) * X (w (k + 1)))
        = (fun k => X (c k) * Y (nextH X Y (c k)) - Y (c k) * X (nextH X Y (c k))) ((k + a) % n) := by
      intro k hk
      rw [Finset.mem_range] at hk
      rw [if_neg (by rw [back k (by omega)]; omega), ← (hw k (by omega)).next_eq h, wc k (by omega)]
    rw [Finset.sum_congr rfl e1]
    clear e0 wc back
    have gen : ∀ (g : ℕ → ℝ) (a : ℕ), ∑ k ∈ Finset.range n, g ((k + a) % n) = ∑ k ∈ Finset.range n, g k := by
      intro g a
      induction a with
      | zero =>
        refine Finset.sum_congr rfl fun k hk => ?_
        rw [add_zero, Nat.mod_eq_of_lt (Finset.mem_range.1 hk)]
      | succ a ih =>
        rw [← ih, ← sum_range_shift (fun k => g ((k + a) % n))]
        refine Finset.sum_congr rfl fun k _ => ?_
        rw [Nat.mod_add_mod]
        congr 2
        omega
    exact gen (fun k => X (c k) * Y (nextH X Y (c k)) - Y (c k) * X (nextH X Y (c k))) a
  · intro k hk
    rw [Finset.mem_Ico] at hk
    rw [if_pos ((back k hk.2).2 hk.1)]

end

end Ciou
-- ==== Proof.HullSum.lean ====
/-
  The hull of two strictly convex polygons in general position, by local tests: an edge is a hull edge exactly if the whole
  other polygon lies to its left, and the segment from a vertex of one to a vertex of the other exactly if both neighbours
  of either end do.
-/
module

public import proofs.«01_k».proof.Proof.KReal
public import proofs.«01_k».proof.Proof.Hull

@[expose] public section

noncomputable section

open scoped Classical

namespace Ciou

/-- A coordinate over all sixteen points. -/
def both (Z : Bool → Fin 8 → ℝ) (p : Bool × Fin 8) : ℝ := Z p.1 p.2

variable {X Y : Bool → Fin 8 → ℝ}

theorem fin8_sub : ∀ k : Fin 8, k - 1 ≠ k := by decide
theorem fin8_sub' : ∀ k : Fin 8, k - 1 ≠ k + 1 := by decide
theorem fin8_sub_add (k : Fin 8) : k - 1 + 1 = k := sub_add_cancel k 1

/-- A direction with both neighbours of vertex `i` to its left has every vertex of the polygon to its left … -/
theorem Pair.cone (h : Pair X Y) (s : Bool) (i : Fin 8) {vx vy : ℝ} (h1 : 0 ≤ vx * dx Y s i - vy * dx X s i)
    (h2 : 0 ≤ vy * dx X s (i - 1) - vx * dx Y s (i - 1)) (k : Fin 8) : 0 ≤ vx * (Y s k - Y s i) - vy * (X s k - X s i) := by
  by_cases k0 : k = i
  · subst k0; simp
  by_cases k1 : k = i + 1
  · subst k1; exact h1
  have hD := h.conv s i (i - 1) (fin8_sub i) (fin8_sub' i)
  have hb := h.conv s i k k0 k1
  have ha : 0 ≤ side X Y s (i - 1) (X s k) (Y s k) := by
    by_cases k2 : k = i - 1
    · subst k2; exact (side_start _ _).ge
    · exact (h.conv s (i - 1) k k2 (by rwa [fin8_sub_add])).le
  refine nonneg_of_mul_nonneg_right (a := side X Y s i (X s (i - 1)) (Y s (i - 1))) ?_ hD
  have e : side X Y s i (X s (i - 1)) (Y s (i - 1)) * (vx * (Y s k - Y s i) - vy * (X s k - X s i))
      = side X Y s (i - 1) (X s k) (Y s k) * (vx * dx Y s i - vy * dx X s i)
        + side X Y s i (X s k) (Y s k) * (vy * dx X s (i - 1) - vx * dx Y s (i - 1)) := by
    unfold side dx; rw [fin8_sub_add]; ring
  rw [e]
  exact add_nonneg (mul_nonneg ha h1) (mul_nonneg hb.le h2)

/-- … and strictly, if the neighbours are strictly to its left. -/
theorem Pair.cone_pos (h : Pair X Y) (s : Bool) (i : Fin 8) {vx vy : ℝ} (h1 : 0 < vx * dx Y s i - vy * dx X s i)
    (h2 : 0 < vy * dx X s (i - 1) - vx * dx Y s (i - 1)) {k : Fin 8} (k0 : k ≠ i) :
    0 < vx * (Y s k - Y s i) - vy * (X s k - X s i) := by
  by_cases k1 : k = i + 1
  · subst k1; exact h1
  have hD := h.conv s i (i - 1) (fin8_sub i) (fin8_sub' i)
  have hb := h.conv s i k k0 k1
  have ha : 0 ≤ side X Y s (i - 1) (X s k) (Y s k) := by
    by_cases k2 : k = i - 1
    · subst k2; exact (side_start _ _).ge
    · exact (h.conv s (i - 1) k k2 (by rwa [fin8_sub_add])).le
  refine (pos_iff_pos_of_mul_pos (b := side X Y s i (X s (i - 1)) (Y s (i - 1))) ?_).2 hD
  have e : (vx * (Y s k - Y s i) - vy * (X s k - X s i)) * side X Y s i (X s (i - 1)) (Y s (i - 1))
      = side X Y s (i - 1) (X s k) (Y s k) * (vx * dx Y s i - vy * dx X s i)
        + side X Y s i (X s k) (Y s k) * (vy * dx X s (i - 1) - vx * dx Y s (i - 1)) := by
    unfold side dx; rw [fin8_sub_add]; ring
  rw [e]
  exact add_pos_of_nonneg_of_pos (mul_nonneg ha h1.le) (mul_pos hb h2)

/-- The test for a segment from one polygon to the other passes exactly for hull edges. -/
theorem Pair.bridge_iff (h : Pair X Y) (s : Bool) (i r : Fin 8) :
    K.Bridge X Y s i r ↔ HullEdge (both X) (both Y) (s, i) (!s, r) := by
  have n1 := h.sep s i r
  have n2 := h.sep s (i - 1) r
  have n3 := h.sep (!s) r i
  have n4 := h.sep (!s) (r - 1) i
  rw [Bool.not_not] at n3 n4
  constructor
  · rintro ⟨⟨h1, h2⟩, h3, h4⟩
    have p1 := lt_of_le_of_ne h1 fun e => n1 (by rw [eq_comm, ← neg_eq_zero] at e; rw [← e]; unfold side; ring)
    have p2 := lt_of_le_of_ne h2 fun e => n2 (by rw [e]; unfold side dx; rw [fin8_sub_add]; ring)
    have p3 := lt_of_le_of_ne h3 fun e => n4 (by rw [eq_comm, ← neg_eq_zero] at e; rw [← e]; unfold side dx; rw [fin8_sub_add]; ring)
    have p4 := lt_of_le_of_ne h4 fun e => n3 (by rw [e]; unfold side; ring)
    refine ⟨fun e => by simpa using congrArg Prod.fst e, ?_⟩
    rintro ⟨s', k⟩ hp hq
    by_cases hs : s' = s
    · subst hs
      exact h.cone_pos s' i p1 p2 (k := k) fun e => hp (by rw [e])
    · obtain rfl : s' = !s := by cases s' <;> cases s <;> simp_all
      have := h.cone_pos (!s) r p4 p3 (k := k) fun e => hq (by rw [e])
      unfold orient both
      linarith
  · intro he
    have := fun p => he.nonneg p
    unfold orient both at this
    have a1 := this (s, i + 1)
    have a2 := this (s, i - 1)
    have a3 := this (!s, r + 1)
    have a4 := this (!s, r - 1)
    simp only at a1 a2 a3 a4
    unfold K.Bridge dx
    rw [fin8_sub_add, fin8_sub_add]
    refine ⟨⟨?_, ?_⟩, ?_, ?_⟩ <;> linarith

/-- A hull edge within one polygon is an edge of it with the other polygon to its left. -/
theorem Pair.own_iff (h : Pair X Y) (s : Bool) (i k : Fin 8) :
    HullEdge (both X) (both Y) (s, i) (s, k) ↔ k = i + 1 ∧ K.Own X Y s i := by
  constructor
  · intro he
    have hk : k = i + 1 := by
      by_contra hk
      have h0 : k ≠ i := fun e => he.1 (by rw [e])
      have := h.conv s i k h0 hk
      have a := he.nonneg (s, i + 1)
      unfold orient both at a
      unfold side dx at this
      simp only at a
      linarith
    subst hk
    exact ⟨rfl, fun j => he.nonneg (!s, j)⟩
  · rintro ⟨rfl, ho⟩
    refine ⟨fun e => fin8_one i (congrArg Prod.snd e).symm, ?_⟩
    rintro ⟨s', j⟩ hp hq
    by_cases hs : s' = s
    · subst hs
      exact h.conv s' i j (fun e => hp (by rw [e])) fun e => hq (by rw [e])
    · obtain rfl : s' = !s := by cases s' <;> cases s <;> simp_all
      exact lt_of_le_of_ne (ho j) (h.sep s i j).symm

/-- Sixteen distinct points of two polygons in general position. -/
theorem Pair.generic (h : Pair X Y) (hd : ∀ p q, both X p = both X q → both Y p = both Y q → p = q) :
    Generic (both X) (both Y) where
  distinct := hd
  three := by simp
  strict := by
    rintro ⟨s, i⟩ ⟨s', k⟩ hne hall
    by_cases hs : s' = s
    · subst hs
      refine (h.own_iff s' i k).2 ?_
      have hk : k = i + 1 := by
        by_contra hk
        have h0 : k ≠ i := fun e => hne (by rw [e])
        have := h.conv s' i k h0 hk
        have a := hall (s', i + 1)
        unfold orient both at a
        unfold side dx at this
        simp only at a
        linarith
      subst hk
      exact ⟨rfl, fun j => hall (!s', j)⟩
    · obtain rfl : s' = !s := by cases s' <;> cases s <;> simp_all
      refine (h.bridge_iff s i k).1 ?_
      unfold orient both at hall
      have a1 := hall (s, i + 1)
      have a2 := hall (s, i - 1)
      have a3 := hall (!s, k + 1)
      have a4 := hall (!s, k - 1)
      simp only at a1 a2 a3 a4
      unfold K.Bridge dx
      rw [fin8_sub_add, fin8_sub_add]
      refine ⟨⟨?_, ?_⟩, ?_, ?_⟩ <;> linarith

/-- The sum of the local tests is the sum over all hull edges. -/
theorem Pair.hull_eq (h : Pair X Y) : K.hullR X Y = 1 / 2 * ∑ p, ∑ q,
    (if HullEdge (both X) (both Y) p q then both X p * both Y q - both Y p * both X q else 0) := by
  have own : ∀ s i, ∑ k, (if HullEdge (both X) (both Y) (s, i) (s, k) then both X (s, i) * both Y (s, k) - both Y (s, i) * both X (s, k) else 0)
      = K.ownR X Y s i := by
    intro s i
    rw [Finset.sum_eq_single (i + 1)]
    · unfold K.ownR
      simp only [h.own_iff, true_and]
      congr 1
      unfold both K.cr dx; ring
    · intro k _ hk
      rw [if_neg fun e => hk ((h.own_iff s i k).1 e).1]
    · simp
  have br : ∀ s i r, (if HullEdge (both X) (both Y) (s, i) (!s, r) then both X (s, i) * both Y (!s, r) - both Y (s, i) * both X (!s, r) else 0)
      = K.bridgeR X Y s i r := by
    intro s i r
    unfold K.bridgeR
    simp only [h.bridge_iff]
    rfl
  have brt := br true
  have brf := br false
  rw [Bool.not_true] at brt
  rw [Bool.not_false] at brf
  unfold K.hullR
  congr 1
  simp only [Fintype.sum_prod_type, Fintype.sum_bool, Finset.sum_add_distrib, own, brt, brf]
  rw [Finset.sum_comm (f := fun i r => K.bridgeR X Y true i r), Finset.sum_comm (f := fun i r => K.bridgeR X Y false i r)]
  ring

end Ciou
-- ==== Proof.RefStep.lean ====
/-
  One trip of the reference's loop in a row: from a point and a direction with all points to the left, the trip finds
  the end of a hull edge.
-/
module

public import proofs.«01_k».proof.Proof.RefInter
public import proofs.«01_k».proof.Proof.HullSum

@[expose] public section

set_option maxRecDepth 20000

noncomputable section

open scoped Classical

namespace Ciou.Ref

open Idealize.ShloMosaic Idealize.ShloMosaic.TcCoe Idealize.ShloMosaic.StableHlo
open Cert.ReferenceIdeal Cert.ReferenceIdeal.Gen Cert.ReferenceIdeal.Value
open Idealize.ShloMosaic.Pointwise

/-- An index per batch element. -/
abbrev I0 := IVec S262144 32
/-- A truth value per batch element. -/
abbrev M0 := IVec S262144 1
/-- A truth value per batch element and point. -/
abbrev M16 := IVec S262144x16 1

/-- Repeated for every point. -/
def wide (x : B0) : B16 :=
  broadcastInDim S262144x16 ![0, 1] bcast_S262144x1_S262144x16_0_1 (broadcastInDim S262144x1 ![0] bcast_S262144_S262144x1_0 x)

/-- A literal for every point. -/
def lit16 (w : BitVec 32) : B16 := broadcastInDim S262144x16 ![] bcast_S_S262144x16 (constant S_ .f32 w)

/-- The point with the given index. -/
def hot (cur : I0) : M16 :=
  cmpi .eq ids (broadcastInDim S262144x16 ![0, 1] bcast_S262144x1_S262144x16_0_1 (broadcastInDim S262144x1 ![0] bcast_S262144_S262144x1_0 cur))

/-- The coordinate of the point with the given index. -/
def pick (cur : I0) (z : B16) : B0 :=
  Host.reduceAdd (select (hot cur) z (lit16 0x00000000#32)) (constant S_ .f32 0x00000000#32) reducesTo_S262144x16_S262144_d1 h_S_

/-- The coordinates seen from that point. -/
def off (cur : I0) (z : B16) : B16 := subf z (wide (pick cur z))

section Trip

variable (x y : B16) (cur : I0) (ux uy : B0)

/-- The angles of the points from the direction `(ux, uy)`, seen from the current point, before the wrap to positive. -/
def wind : B16 :=
  Host.remf (Host.atan2 (subf (mulf (wide ux) (off cur y)) (mulf (wide uy) (off cur x)))
    (addf (mulf (wide ux) (off cur x)) (mulf (wide uy) (off cur y)))) (lit16 0x40C90FDB#32)

/-- No literal is negative: the comparison of twice pi with zero. -/
def negTurn : M16 :=
  broadcastInDim S262144x16 ![] bcast_S_S262144x16 (cmpf .olt (constant (F := Ideal) S_ .f32 0x40C90FDB#32) (constant S_ .f32 0x00000000#32))

/-- The angles the next point is chosen by: infinity at the current point. -/
def angles : B16 :=
  select (cmpf .olt (addf (mulf (off cur x) (off cur x)) (mulf (off cur y) (off cur y))) (lit16 0x24E69595#32)) (lit16 0x7F800000#32)
    (select (andi (cmpi .ne (cmpf .olt (wind x y cur ux uy) (lit16 0x00000000#32)) negTurn)
      (cmpf .une (wind x y cur ux uy) (lit16 0x00000000#32)))
      (addf (wind x y cur ux uy) (lit16 0x40C90FDB#32)) (wind x y cur ux uy))

/-- The points of least angle. -/
def nearest : M16 := cmpf .oeq (angles x y cur ux uy) (least (angles x y cur ux uy))

/-- The next point's index. -/
def next : I0 := first (nearest x y cur ux uy)

/-- The cross product of the current point and the next. -/
def cross : B0 :=
  subf (mulf (pick cur x) (pick (next x y cur ux uy) y)) (mulf (pick cur y) (pick (next x y cur ux uy) x))

end Trip

/-- The sum with the trip's cross product, if the hull is not yet closed. -/
def addTo (acc : B0) (done : M0) (z : B0) : B0 := addf acc (select done (lit0 0x00000000#32) z)

/-- Closed already, or back at the start. -/
def closed (done : M0) (next start : I0) : M0 := ori done (cmpi .eq next start)

/-- A coordinate's difference. -/
def diff (z w : B0) : B0 := subf z w

section Read

variable (V : Valuation τ sig (Elt Ideal)) (hi : V (Proc.devRef .tc main_v244_0) = ids)

include hi

theorem res_cur (z : B16) :
    Host.reduceAdd (select (res_main_while0b_v254 V : M16) z (broadcastInDim S262144x16 ![] bcast_S_S262144x16 (id (constant S_ .f32 0x00000000#32))))
      (constant S_ .f32 0x00000000#32) reducesTo_S262144x16_S262144_d1 h_S_ = pick (V (Proc.devRef .tc main_v244_5)) z := by
  unfold res_main_while0b_v254
  rw [hi]
  rfl

theorem res_x : res_main_while0b_v256 V = pick (V (Proc.devRef .tc main_v244_5)) (V (Proc.devRef .tc main_v244_1)) := res_cur V hi _

theorem res_y : res_main_while0b_v258 V = pick (V (Proc.devRef .tc main_v244_5)) (V (Proc.devRef .tc main_v244_2)) := res_cur V hi _

theorem res_vx : res_main_while0b_v261 V = off (V (Proc.devRef .tc main_v244_5)) (V (Proc.devRef .tc main_v244_1)) := by
  unfold res_main_while0b_v261
  rw [res_x V hi]
  rfl

theorem res_vy : res_main_while0b_v264 V = off (V (Proc.devRef .tc main_v244_5)) (V (Proc.devRef .tc main_v244_2)) := by
  unfold res_main_while0b_v264
  rw [res_y V hi]
  rfl

theorem res_wind : res_main_while0b_call23_v2 V = wind (V (Proc.devRef .tc main_v244_1)) (V (Proc.devRef .tc main_v244_2))
    (V (Proc.devRef .tc main_v244_5)) (V (Proc.devRef .tc main_v244_6)) (V (Proc.devRef .tc main_v244_7)) := by
  unfold res_main_while0b_call23_v2
  rw [res_vx V hi, res_vy V hi]
  rfl

theorem res_angles : res_main_while0b_v284 V = angles (V (Proc.devRef .tc main_v244_1)) (V (Proc.devRef .tc main_v244_2))
    (V (Proc.devRef .tc main_v244_5)) (V (Proc.devRef .tc main_v244_6)) (V (Proc.devRef .tc main_v244_7)) := by
  unfold res_main_while0b_v284
  rw [res_vx V hi, res_vy V hi, res_wind V hi]
  rfl

theorem res_next : res_main_while0b_v290 V = next (V (Proc.devRef .tc main_v244_1)) (V (Proc.devRef .tc main_v244_2))
    (V (Proc.devRef .tc main_v244_5)) (V (Proc.devRef .tc main_v244_6)) (V (Proc.devRef .tc main_v244_7)) := by
  unfold res_main_while0b_v290
  rw [res_angles V hi, hi]
  rfl

theorem res_nx : res_main_while0b_v295 V = pick (next (V (Proc.devRef .tc main_v244_1)) (V (Proc.devRef .tc main_v244_2))
    (V (Proc.devRef .tc main_v244_5)) (V (Proc.devRef .tc main_v244_6)) (V (Proc.devRef .tc main_v244_7))) (V (Proc.devRef .tc main_v244_1)) := by
  unfold res_main_while0b_v295 res_main_while0b_v293
  rw [res_next V hi, hi]
  rfl

theorem res_ny : res_main_while0b_v297 V = pick (next (V (Proc.devRef .tc main_v244_1)) (V (Proc.devRef .tc main_v244_2))
    (V (Proc.devRef .tc main_v244_5)) (V (Proc.devRef .tc main_v244_6)) (V (Proc.devRef .tc main_v244_7))) (V (Proc.devRef .tc main_v244_2)) := by
  unfold res_main_while0b_v297 res_main_while0b_v293
  rw [res_next V hi, hi]
  rfl

theorem step_cur : STEP V (Proc.devRef .tc main_v244_5) = next (V (Proc.devRef .tc main_v244_1)) (V (Proc.devRef .tc main_v244_2))
    (V (Proc.devRef .tc main_v244_5)) (V (Proc.devRef .tc main_v244_6)) (V (Proc.devRef .tc main_v244_7)) := by
  rw [STEP_main_v244_5, step_main_v244_5, id_eq, res_next V hi]

theorem step_ux : STEP V (Proc.devRef .tc main_v244_6) =
    diff (pick (next (V (Proc.devRef .tc main_v244_1)) (V (Proc.devRef .tc main_v244_2)) (V (Proc.devRef .tc main_v244_5))
      (V (Proc.devRef .tc main_v244_6)) (V (Proc.devRef .tc main_v244_7))) (V (Proc.devRef .tc main_v244_1)))
      (pick (V (Proc.devRef .tc main_v244_5)) (V (Proc.devRef .tc main_v244_1))) := by
  rw [STEP_main_v244_6, step_main_v244_6, res_nx V hi, res_x V hi]
  rfl

theorem step_uy : STEP V (Proc.devRef .tc main_v244_7) =
    diff (pick (next (V (Proc.devRef .tc main_v244_1)) (V (Proc.devRef .tc main_v244_2)) (V (Proc.devRef .tc main_v244_5))
      (V (Proc.devRef .tc main_v244_6)) (V (Proc.devRef .tc main_v244_7))) (V (Proc.devRef .tc main_v244_2)))
      (pick (V (Proc.devRef .tc main_v244_5)) (V (Proc.devRef .tc main_v244_2))) := by
  rw [STEP_main_v244_7, step_main_v244_7, res_ny V hi, res_y V hi]
  rfl

theorem step_done : STEP V (Proc.devRef .tc main_v244_8) =
    closed (V (Proc.devRef .tc main_v244_8)) (next (V (Proc.devRef .tc main_v244_1)) (V (Proc.devRef .tc main_v244_2)) (V (Proc.devRef .tc main_v244_5))
      (V (Proc.devRef .tc main_v244_6)) (V (Proc.devRef .tc main_v244_7))) (V (Proc.devRef .tc main_v244_3)) := by
  rw [STEP_main_v244_8, step_main_v244_8, res_next V hi]
  rfl

theorem step_acc : STEP V (Proc.devRef .tc main_v244_9) =
    addTo (V (Proc.devRef .tc main_v244_9)) (V (Proc.devRef .tc main_v244_8)) (cross (V (Proc.devRef .tc main_v244_1)) (V (Proc.devRef .tc main_v244_2))
      (V (Proc.devRef .tc main_v244_5)) (V (Proc.devRef .tc main_v244_6)) (V (Proc.devRef .tc main_v244_7))) := by
  rw [STEP_main_v244_9, step_main_v244_9, res_nx V hi, res_ny V hi, res_x V hi, res_y V hi]
  rfl

end Read

end Ciou.Ref
-- ==== Proof.RefTrip.lean ====
/-
  The hull walk's trip in a row, over the reals: the least angle is attained, its first index is found, and the point
  with that index ends a hull edge.
-/
module

public import proofs.«01_k».proof.Proof.RefStep

@[expose] public section

noncomputable section

open scoped Classical

namespace Ciou.Ref

open Idealize.ShloMosaic Idealize.ShloMosaic.TcCoe
open Cert.ReferenceIdeal Cert.ReferenceIdeal.Gen
open Idealize.ShloMosaic.Pointwise

/-- The point with an index: the first polygon's vertices, then the second's. -/
def pointOf (j : Fin 16) : Bool × Fin 8 := if h : j.val < 8 then (false, ⟨j.val, h⟩) else (true, ⟨j.val - 8, by omega⟩)

theorem pointOf_bijective : Function.Bijective pointOf := by
  constructor
  · intro i j
    revert i j
    decide
  · intro p
    revert p
    decide

theorem words_eq : ∀ i j : Fin 16, IntOp.cmpi .eq (BitVec.ofNat 32 i) (BitVec.ofNat 32 j) = BitVec.ofBool (decide (i = j)) := by decide

theorem words_int : ∀ i : Fin 16, (BitVec.ofNat 32 i).toInt = i ∧ (BitVec.ofNat 32 i).toInt < 16 := by decide

theorem andi_zero : ∀ x : BitVec 1, IntOp.andi 0#1 x = 0#1 := by decide

theorem ofBits_top : Ideal.ofBits .f32 0x7F800000#32 = ⊤ := by
  simp [Ideal.ofBits, Ideal.ieee]

theorem ofBits_turn : Ideal.ofBits .f32 0x40C90FDB#32 = ((13176795 / 2097152 : ℝ) : EReal) := by
  simp [Ideal.ofBits, Ideal.ieee, -EReal.coe_mul]
  norm_num

theorem ofBits_near : (0 : EReal) < Ideal.ofBits .f32 0x24E69595#32 := by
  have : Ideal.ofBits .f32 0x24E69595#32 = ((15111573 / 151115727451828646838272 : ℝ) : EReal) := by
    simp [Ideal.ofBits, Ideal.ieee, -EReal.coe_mul]
    norm_num
  rw [this]
  exact_mod_cast (by norm_num : (0 : ℝ) < 15111573 / 151115727451828646838272)

/-- The remainder by twice pi leaves an angle of the upper half plane as it is. -/
theorem remf_turn {a : ℝ} (h0 : 0 ≤ a) (h1 : a ≤ Real.pi) : Ideal.remf (a : EReal) (Ideal.ofBits .f32 0x40C90FDB#32) = (a : EReal) := by
  rw [ofBits_turn]
  change (if (13176795 / 2097152 : ℝ) = 0 then (⊥ : EReal)
    else ((a - 13176795 / 2097152 * (Ideal.truncInt (a / (13176795 / 2097152)) : ℝ) : ℝ) : EReal)) = _
  have lt : a / (13176795 / 2097152) < 1 := by
    rw [div_lt_one (by norm_num)]
    have := Real.pi_le_four
    linarith
  have nn : 0 ≤ a / (13176795 / 2097152) := div_nonneg h0 (by norm_num)
  have z : Ideal.truncInt (a / (13176795 / 2097152)) = 0 := by
    rw [Ideal.truncInt, if_pos nn]
    exact Int.floor_eq_zero_iff.2 ⟨nn, lt⟩
  rw [if_neg (by norm_num), z]
  simp

/-- A least of sixteen is attained. -/
theorem min_attained (f : Fin 16 → EReal) :
    ∃ j, f j = Finset.univ.fold min (Ideal.ofBits .f32 0x7F800000#32) f ∧ ∀ k, f j ≤ f k := by
  rw [ofBits_top]
  obtain ⟨j, -, hj⟩ := Finset.exists_min_image Finset.univ f ⟨0, Finset.mem_univ _⟩
  refine ⟨j, le_antisymm ?_ ?_, fun k => hj k (Finset.mem_univ k)⟩
  · rw [Finset.le_fold_min]
    exact ⟨le_top, hj⟩
  · rw [Finset.fold_min_le]
    exact Or.inr ⟨j, Finset.mem_univ j, le_rfl⟩

theorem minsi_le (a b : BitVec 32) : (IntOp.minsi a b).toInt ≤ a.toInt ∧ (IntOp.minsi a b).toInt ≤ b.toInt ∧
    (IntOp.minsi a b = a ∨ IntOp.minsi a b = b) := by
  unfold IntOp.minsi
  by_cases h : a.slt b
  · rw [if_pos h]
    rw [BitVec.slt_iff_toInt_lt] at h
    exact ⟨le_rfl, h.le, Or.inl rfl⟩
  · rw [if_neg h]
    rw [BitVec.slt_iff_toInt_lt] at h
    exact ⟨not_lt.1 h, le_rfl, Or.inr rfl⟩

theorem minsi_fold (f : Fin 16 → BitVec 32) (b : BitVec 32) (S : Finset (Fin 16)) :
    (S.fold IntOp.minsi b f = b ∨ ∃ j ∈ S, S.fold IntOp.minsi b f = f j) ∧ ∀ j ∈ S, (S.fold IntOp.minsi b f).toInt ≤ (f j).toInt := by
  induction S using Finset.induction_on with
  | empty => simp
  | insert a S ha ih =>
    rw [Finset.fold_insert ha]
    have m := minsi_le (f a) (S.fold IntOp.minsi b f)
    constructor
    · rcases m.2.2 with e | e
      · exact Or.inr ⟨a, Finset.mem_insert_self a S, e⟩
      · rcases ih.1 with e' | ⟨j, hj, e'⟩
        · exact Or.inl (e.trans e')
        · exact Or.inr ⟨j, Finset.mem_insert_of_mem hj, e.trans e'⟩
    · intro j hj
      rcases Finset.mem_insert.1 hj with rfl | hj
      · exact m.1
      · exact m.2.1.trans (ih.2 j hj)

/-- The first index with a property, if some index has it. -/
theorem first_fold {P : Fin 16 → Prop} {f : Fin 16 → BitVec 32} (h1 : ∀ j, P j → f j = BitVec.ofNat 32 j) (h2 : ∀ j, ¬P j → f j = 16#32)
    (ex : ∃ j, P j) : ∃ q, P q ∧ Finset.univ.fold IntOp.minsi 2147483647#32 f = BitVec.ofNat 32 q := by
  obtain ⟨j, hj⟩ := ex
  have m := minsi_fold f 2147483647#32 Finset.univ
  have lt := m.2 j (Finset.mem_univ j)
  rw [h1 j hj] at lt
  have lt' := lt.trans_lt (words_int j).2
  rcases m.1 with e | ⟨q, -, e⟩
  · rw [e] at lt'
    exact absurd lt' (by decide)
  · by_cases hq : P q
    · exact ⟨q, hq, e.trans (h1 q hq)⟩
    · rw [e, h2 q hq] at lt'
      exact absurd lt' (by decide)

variable {β : Fin 262144}

/-- Row `β` holds the reals `f` of the points. -/
def Row16 (β : Fin 262144) (v : B16) (f : Bool × Fin 8 → ℝ) : Prop := ∀ j : Fin 16, v (ix2 β j) = ((f (pointOf j) : ℝ) : EReal)

theorem all_row {v w : B8} {Z : Bool → Fin 8 → ℝ} (hv : Row β v (Z false)) (hw : Row β w (Z true)) : Row16 β (all v w) (both Z) := by
  intro j
  pointwise [all]
  by_cases h : j.val < 8
  · refine (dif_pos h).trans ((hv _).trans ?_)
    rw [pointOf, dif_pos h]
    rfl
  · refine (dif_neg h).trans ((hw _).trans ?_)
    rw [pointOf, dif_neg h]
    rfl

theorem pick_at {cur : I0} {z : B16} {i : Fin 16} (hc : cur (ix1 β) = BitVec.ofNat 32 i) : pick cur z (ix1 β) = z (ix2 β i) := by
  pointwise [pick, hot, ids, lit16]
  rw [hc]
  have e (j : Fin 16) : Scalar.select (IntOp.cmpi CmpIPredicate.eq (BitVec.ofNat 32 j) (BitVec.ofNat 32 i)) (z (ix2 β j)) 0
      = if j = i then z (ix2 β j) else 0 := by
    rw [words_eq, mark_eq (q := j = i) Iff.rfl, select_mark]
    by_cases h : j = i
    · rw [if_pos h, if_pos h]
    · rw [if_neg h, if_neg h]
  rw [Finset.sum_congr rfl fun j _ => e j, Finset.sum_eq_single i (fun j _ hj => if_neg hj) (by simp), if_pos rfl]

/-- The start is a lowest point. -/
theorem start_at {x y : B16} {fx fy : Bool × Fin 8 → ℝ} (hx : Row16 β x fx) (hy : Row16 β y fy) :
    ∃ q : Fin 16, start x y (ix1 β) = BitVec.ofNat 32 q ∧ ∀ r, fy (pointOf q) ≤ fy r := by
  pointwise [start, first, low, lowx, least, ids, lit1]
  obtain ⟨j, ej, hj⟩ := min_attained (fun k => y (ix2 β k))
  obtain ⟨l, el, hl⟩ := min_attained (fun k => if y (ix2 β k) = Finset.univ.fold min (Ideal.ofBits .f32 0x7F800000#32) (fun k => y (ix2 β k))
    then x (ix2 β k) else Ideal.ofBits .f32 0x7F800000#32)
  obtain ⟨q, hq, e⟩ := first_fold (P := fun k => y (ix2 β k) = Finset.univ.fold min (Ideal.ofBits .f32 0x7F800000#32) (fun k => y (ix2 β k)) ∧
      (if y (ix2 β k) = Finset.univ.fold min (Ideal.ofBits .f32 0x7F800000#32) (fun k => y (ix2 β k)) then x (ix2 β k)
        else Ideal.ofBits .f32 0x7F800000#32) = Finset.univ.fold min (Ideal.ofBits .f32 0x7F800000#32) (fun k =>
          if y (ix2 β k) = Finset.univ.fold min (Ideal.ofBits .f32 0x7F800000#32) (fun k => y (ix2 β k)) then x (ix2 β k)
          else Ideal.ofBits .f32 0x7F800000#32))
    (f := fun k => Scalar.select (IntOp.andi
      (BitVec.ofBool (decide (y (ix2 β k) = Finset.univ.fold min (Ideal.ofBits .f32 0x7F800000#32) (fun k => y (ix2 β k)))))
      (BitVec.ofBool (decide ((if y (ix2 β k) = Finset.univ.fold min (Ideal.ofBits .f32 0x7F800000#32) (fun k => y (ix2 β k)) then x (ix2 β k)
        else Ideal.ofBits .f32 0x7F800000#32) = Finset.univ.fold min (Ideal.ofBits .f32 0x7F800000#32) (fun k =>
          if y (ix2 β k) = Finset.univ.fold min (Ideal.ofBits .f32 0x7F800000#32) (fun k => y (ix2 β k)) then x (ix2 β k)
          else Ideal.ofBits .f32 0x7F800000#32))))) (BitVec.ofNat 32 k) 16#32)
    (fun k hk => by
      rw [mark_eq Iff.rfl, mark_eq Iff.rfl, mark_and, select_mark]
      exact if_pos hk)
    (fun k hk => by
      rw [mark_eq Iff.rfl, mark_eq Iff.rfl, mark_and, select_mark]
      exact if_neg hk)
    ⟨l, by
      refine ⟨?_, el⟩
      by_contra hn
      have a := hl j
      rw [if_neg hn, if_pos ej, hx, ofBits_top, top_le_iff] at a
      exact EReal.coe_ne_top _ a⟩
  refine ⟨q, e, fun r => ?_⟩
  obtain ⟨k, rfl⟩ := pointOf_bijective.2 r
  have a := hj k
  rw [ej, ← hq.1, hy, hy] at a
  exact_mod_cast a

section Trip

variable {x y : B16} {X Y : Bool × Fin 8 → ℝ} (hx : Row16 β x X) (hy : Row16 β y Y)
  {cur : I0} {i : Fin 16} (hc : cur (ix1 β) = BitVec.ofNat 32 i)
  {ux uy : B0} {dx dy : ℝ} (hux : ux (ix1 β) = ((dx : ℝ) : EReal)) (huy : uy (ix1 β) = ((dy : ℝ) : EReal))
  (left : ∀ r, 0 ≤ dx * (Y r - Y (pointOf i)) - dy * (X r - X (pointOf i)))
  (apart : ∀ p q, p ≠ q → Ideal.ofBits .f32 0x24E69595#32 ≤ (((X q - X p) * (X q - X p) + (Y q - Y p) * (Y q - Y p) : ℝ) : EReal))

include hx hy hc

include hux huy left in
theorem wind_at (j : Fin 16) : wind x y cur ux uy (ix2 β j) =
    ((ang (dx * (Y (pointOf j) - Y (pointOf i)) - dy * (X (pointOf j) - X (pointOf i)))
      (dx * (X (pointOf j) - X (pointOf i)) + dy * (Y (pointOf j) - Y (pointOf i))) : ℝ) : EReal) := by
  pointwise [wind, wide, lit16, off]
  rw [pick_at hc, pick_at hc, hux, huy, hx, hy, hx, hy]
  simp only [← EReal.coe_sub, ← EReal.coe_mul, ← EReal.coe_add]
  rw [atan2_coe, remf_turn (ang_nonneg (left _)) (ang_le_pi _ _)]

include hux huy left apart in
theorem angles_at (j : Fin 16) : angles x y cur ux uy (ix2 β j) = if j = i then ⊤ else
    ((ang (dx * (Y (pointOf j) - Y (pointOf i)) - dy * (X (pointOf j) - X (pointOf i)))
      (dx * (X (pointOf j) - X (pointOf i)) + dy * (Y (pointOf j) - Y (pointOf i))) : ℝ) : EReal) := by
  pointwise [angles, wide, lit16, off, negTurn]
  rw [wind_at hx hy hc hux huy left]
  have d : (x (ix2 β j) - pick cur x (ix1 β)) * (x (ix2 β j) - pick cur x (ix1 β))
      + (y (ix2 β j) - pick cur y (ix1 β)) * (y (ix2 β j) - pick cur y (ix1 β))
      = (((X (pointOf j) - X (pointOf i)) * (X (pointOf j) - X (pointOf i))
        + (Y (pointOf j) - Y (pointOf i)) * (Y (pointOf j) - Y (pointOf i)) : ℝ) : EReal) := by
    rw [pick_at hc, pick_at hc, hx, hy, hx, hy]
    simp only [← EReal.coe_sub, ← EReal.coe_mul, ← EReal.coe_add]
  by_cases h : j = i
  · rw [if_pos h]
    refine (if_pos ?_).trans ofBits_top
    rw [d, h]
    simpa using ofBits_near
  · rw [if_neg h]
    refine (if_neg ?_).trans ?_
    · rw [d]
      exact not_lt.2 (apart _ _ fun e => h (pointOf_bijective.1 e).symm)
    · have n1 : ¬((ang (dx * (Y (pointOf j) - Y (pointOf i)) - dy * (X (pointOf j) - X (pointOf i)))
          (dx * (X (pointOf j) - X (pointOf i)) + dy * (Y (pointOf j) - Y (pointOf i))) : ℝ) : EReal) < 0 := by
        rw [not_lt]
        exact_mod_cast ang_nonneg (left _)
      have n2 : ¬Ideal.ofBits .f32 0x40C90FDB#32 < 0 := by
        rw [ofBits_turn, not_lt]
        exact_mod_cast (by norm_num : (0 : ℝ) ≤ 13176795 / 2097152)
      rw [decide_eq_false n1, decide_eq_false n2]
      exact (congrArg (fun m => Scalar.select m _ _) (andi_zero _)).trans (if_neg (by decide))

include hux huy left apart in
/-- The trip's next point ends a hull edge from the current point. -/
theorem next_at (g : Generic X Y) (hd : dx ≠ 0 ∨ dy ≠ 0) :
    ∃ q : Fin 16, next x y cur ux uy (ix1 β) = BitVec.ofNat 32 q ∧ HullEdge X Y (pointOf i) (pointOf q) := by
  have a := angles_at hx hy hc hux huy left apart
  pointwise [next, first, nearest, ids, least]
  obtain ⟨j, ej, hj⟩ := min_attained (fun k => angles x y cur ux uy (ix2 β k))
  obtain ⟨q, hq, e⟩ := first_fold (P := fun k => angles x y cur ux uy (ix2 β k) =
      Finset.univ.fold min (Ideal.ofBits .f32 0x7F800000#32) (fun k => angles x y cur ux uy (ix2 β k)))
    (f := fun k => if angles x y cur ux uy (ix2 β k) =
      Finset.univ.fold min (Ideal.ofBits .f32 0x7F800000#32) (fun k => angles x y cur ux uy (ix2 β k)) then BitVec.ofNat 32 k else 16#32)
    (fun k hk => if_pos hk) (fun k hk => if_neg hk) ⟨j, ej⟩
  have le (k : Fin 16) : angles x y cur ux uy (ix2 β q) ≤ angles x y cur ux uy (ix2 β k) := (hq.trans ej.symm).le.trans (hj k)
  have ne : q ≠ i := by
    intro h
    obtain ⟨r, hr, -⟩ := g.third (pointOf i) (pointOf i)
    obtain ⟨k, rfl⟩ := pointOf_bijective.2 r
    have := le k
    rw [a, a, if_pos h, if_neg fun e => hr (congrArg pointOf e), top_le_iff] at this
    exact EReal.coe_ne_top _ this
  refine ⟨q, e, g.wrap hd left (fun e => ne (pointOf_bijective.1 e)) fun r hr => ?_⟩
  obtain ⟨k, rfl⟩ := pointOf_bijective.2 r
  have := le k
  rw [a, a, if_neg ne, if_neg fun e => hr (congrArg pointOf e)] at this
  exact_mod_cast this

end Trip

end Ciou.Ref
-- ==== Proof.RefWalk.lean ====
/-
  The hull walk in a row: sixteen trips sum the cross products of the hull's edges once around.
-/
module

public import proofs.«01_k».proof.Proof.RefTrip

@[expose] public section

noncomputable section

open scoped Classical

namespace Ciou.Ref

open Idealize.ShloMosaic Idealize.ShloMosaic.TcCoe
open Cert.ReferenceIdeal Cert.ReferenceIdeal.Gen
open Idealize.ShloMosaic.Pointwise

theorem mark_or (p q : Prop) : IntOp.ori (mark p) (mark q) = mark (p ∨ q) := by
  by_cases h : p <;> by_cases h' : q <;> simp [mark, h, h', IntOp.ori]

theorem words_back : ∀ i : Fin 16, Fin.ofNat 16 (BitVec.ofNat 32 i).toNat = i := by decide

variable {β : Fin 262144} {x y : B16} {X Y : Bool × Fin 8 → ℝ}

/-- The loop's contents, trip by trip. -/
structure Trips (x y : B16) (cur : ℕ → I0) (ux uy acc : ℕ → B0) (done : ℕ → M0) : Prop where
  cur0 : cur 0 = start x y
  ux0 : ux 0 = lit0 0x3F800000#32
  uy0 : uy 0 = lit0 0x00000000#32
  done0 : done 0 = notYet
  acc0 : acc 0 = lit0 0x00000000#32
  cur1 : ∀ k, cur (k + 1) = next x y (cur k) (ux k) (uy k)
  ux1 : ∀ k, ux (k + 1) = diff (pick (cur (k + 1)) x) (pick (cur k) x)
  uy1 : ∀ k, uy (k + 1) = diff (pick (cur (k + 1)) y) (pick (cur k) y)
  done1 : ∀ k, done (k + 1) = closed (done k) (cur (k + 1)) (cur 0)
  acc1 : ∀ k, acc (k + 1) = addTo (acc k) (done k) (cross x y (cur k) (ux k) (uy k))

variable {cur : ℕ → I0} {ux uy acc : ℕ → B0} {done : ℕ → M0}

/-- The index the walk is at before a trip. -/
def at_ (β : Fin 262144) (cur : ℕ → I0) (k : ℕ) : Fin 16 := Fin.ofNat 16 (cur k (ix1 β)).toNat

/-- The walk is back at its start, not later than before trip `k`. -/
def Back (β : Fin 262144) (cur : ℕ → I0) (k : ℕ) : Prop := ∃ j, 1 ≤ j ∧ j ≤ k ∧ pointOf (at_ β cur j) = pointOf (at_ β cur 0)

theorem back_succ (k : ℕ) : Back β cur (k + 1) ↔ Back β cur k ∨ at_ β cur (k + 1) = at_ β cur 0 := by
  constructor
  · rintro ⟨j, h1, h2, e⟩
    rcases Nat.lt_or_ge k j with h | h
    · have : j = k + 1 := by omega
      subst this
      exact Or.inr (pointOf_bijective.1 e)
    · exact Or.inl ⟨j, h1, h, e⟩
  · rintro (⟨j, h1, h2, e⟩ | e)
    · exact ⟨j, h1, by omega, e⟩
    · exact ⟨k + 1, by omega, le_rfl, congrArg pointOf e⟩

/-- What a row's walk holds before a trip. -/
structure WalkAt (β : Fin 262144) (cur : ℕ → I0) (ux uy acc : ℕ → B0) (done : ℕ → M0) (X Y : Bool × Fin 8 → ℝ) (k : ℕ) : Prop where
  word : cur k (ix1 β) = BitVec.ofNat 32 (at_ β cur k)
  dir : ∃ dx dy : ℝ, ux k (ix1 β) = ((dx : ℝ) : EReal) ∧ uy k (ix1 β) = ((dy : ℝ) : EReal) ∧ (dx ≠ 0 ∨ dy ≠ 0)
    ∧ ∀ r, 0 ≤ dx * (Y r - Y (pointOf (at_ β cur k))) - dy * (X r - X (pointOf (at_ β cur k)))
  mark : done k (ix1 β) = mark (Back β cur k)
  sum : acc k (ix1 β) = ((∑ i ∈ Finset.range k, (if Back β cur i then 0
    else X (pointOf (at_ β cur i)) * Y (pointOf (at_ β cur (i + 1))) - Y (pointOf (at_ β cur i)) * X (pointOf (at_ β cur (i + 1)))) : ℝ) : EReal)

theorem at_of {k : ℕ} {q : Fin 16} (h : cur k (ix1 β) = BitVec.ofNat 32 q) : at_ β cur k = q := by
  rw [at_, h, words_back]

variable (hx : Row16 β x X) (hy : Row16 β y Y) (t : Trips x y cur ux uy acc done) (g : Generic X Y)
  (apart : ∀ p q, p ≠ q → Ideal.ofBits .f32 0x24E69595#32 ≤ (((X q - X p) * (X q - X p) + (Y q - Y p) * (Y q - Y p) : ℝ) : EReal))

include hx hy t

theorem walk_zero : WalkAt β cur ux uy acc done X Y 0 := by
  obtain ⟨q, hq, low⟩ := start_at hx hy
  have e : cur 0 (ix1 β) = BitVec.ofNat 32 q := (congrFun t.cur0 _).trans hq
  refine ⟨?_, ⟨1, 0, ?_, ?_, Or.inl one_ne_zero, fun r => ?_⟩, ?_, ?_⟩
  · rw [at_of e, e]
  · rw [t.ux0]
    pointwise [lit0]
    exact EReal.coe_one.symm
  · rw [t.uy0]
    pointwise [lit0]
    simp
  · have := low r
    rw [at_of e]
    linarith
  · rw [t.done0]
    pointwise [notYet]
    have : ¬Back β cur 0 := by
      rintro ⟨j, h1, h2, -⟩
      omega
    simp [Ref.mark, this]
  · rw [t.acc0]
    pointwise [lit0]
    simp

include g apart

theorem walk_edge {k : ℕ} (h : WalkAt β cur ux uy acc done X Y k) :
    cur (k + 1) (ix1 β) = BitVec.ofNat 32 (at_ β cur (k + 1)) ∧ HullEdge X Y (pointOf (at_ β cur k)) (pointOf (at_ β cur (k + 1))) := by
  obtain ⟨dx, dy, h1, h2, hd, left⟩ := h.dir
  obtain ⟨q, hq, edge⟩ := next_at hx hy h.word h1 h2 left apart g hd
  have e : cur (k + 1) (ix1 β) = BitVec.ofNat 32 q := (congrFun (t.cur1 k) _).trans hq
  rw [at_of e]
  exact ⟨e, edge⟩

theorem walk_succ {k : ℕ} (h : WalkAt β cur ux uy acc done X Y k) : WalkAt β cur ux uy acc done X Y (k + 1) := by
  obtain ⟨e, edge⟩ := walk_edge hx hy t g apart h
  have px0 := (pick_at (z := x) h.word).trans (hx _)
  have py0 := (pick_at (z := y) h.word).trans (hy _)
  have px1 := (pick_at (z := x) e).trans (hx _)
  have py1 := (pick_at (z := y) e).trans (hy _)
  have w0 : cur 0 (ix1 β) = BitVec.ofNat 32 (at_ β cur 0) := (walk_zero hx hy t).word
  refine ⟨e, ⟨X (pointOf (at_ β cur (k + 1))) - X (pointOf (at_ β cur k)), Y (pointOf (at_ β cur (k + 1))) - Y (pointOf (at_ β cur k)),
    ?_, ?_, edge.vec_ne g, fun r => edge.left r⟩, ?_, ?_⟩
  · rw [t.ux1]
    pointwise [diff]
    rw [px0, px1, ← EReal.coe_sub]
  · rw [t.uy1]
    pointwise [diff]
    rw [py0, py1, ← EReal.coe_sub]
  · rw [t.done1]
    change IntOp.ori (done k (ix1 β)) (IntOp.cmpi .eq (cur (k + 1) (ix1 β)) (cur 0 (ix1 β))) = _
    rw [h.mark, e, w0, words_eq, mark_eq (q := at_ β cur (k + 1) = at_ β cur 0) Iff.rfl, mark_or]
    exact congrArg Ref.mark (propext (back_succ k).symm)
  · rw [t.acc1]
    pointwise [addTo, cross, lit0]
    rw [h.sum, h.mark, select_mark, ← t.cur1, px0, py0, px1, py1, Finset.sum_range_succ, EReal.coe_add, ← coe_ite]
    simp only [← EReal.coe_sub, ← EReal.coe_mul]
    simp

/-- Sixteen trips sum the hull's edges. -/
theorem walk_row : acc 16 (ix1 β) = ((∑ p, ∑ q, (if HullEdge X Y p q then X p * Y q - Y p * X q else 0) : ℝ) : EReal) := by
  have all (k : ℕ) : WalkAt β cur ux uy acc done X Y k := by
    induction k with
    | zero => exact walk_zero hx hy t
    | succ k ih => exact walk_succ hx hy t g apart ih
  rw [(all 16).sum, ← g.walk (w := fun k => pointOf (at_ β cur k)) (N := 16) (by simp)
    (fun k _ => (walk_edge hx hy t g apart (all k)).2)]
  rfl

end Ciou.Ref
-- ==== Proof.Rotate.lean ====
/-
  Sorting a convex counterclockwise octagon's vertices by their angle about the centroid only renumbers them
  cyclically; and a pair of polygons so renumbered is in general position if it was before, with the same areas.
-/
module

public import proofs.«01_k».proof.Proof.Pair
public import proofs.«01_k».proof.Proof.KReal

@[expose] public section

noncomputable section

open scoped Classical

namespace Ciou

variable {X Y : Bool → Fin 8 → ℝ}

/-- The mean of eight numbers. -/
def mean8 (x : Fin 8 → ℝ) : ℝ := (∑ k, x k) / 8

theorem side_mean (s : Bool) (i : Fin 8) :
    side X Y s i (mean8 (X s)) (mean8 (Y s)) = (∑ k, side X Y s i (X s k) (Y s k)) / 8 := by
  simp only [side, mean8, Finset.sum_sub_distrib, ← Finset.mul_sum, Finset.sum_const, Finset.card_univ, Fintype.card_fin, nsmul_eq_mul]
  push_cast
  ring

theorem fin8_two_ne (i : Fin 8) : i + 2 ≠ i ∧ i + 2 ≠ i + 1 ∧ i + 1 ≠ i := by
  revert i
  decide

variable {s : Bool} (conv : ∀ i k, k ≠ i → k ≠ i + 1 → 0 < side X Y s i (X s k) (Y s k))

include conv

theorem conv_nonneg (i k : Fin 8) : 0 ≤ side X Y s i (X s k) (Y s k) := by
  by_cases h : k = i
  · rw [h, side_start]
  by_cases h' : k = i + 1
  · rw [h', side_stop]
  exact (conv i k h h').le

theorem side_mean_pos (i : Fin 8) : 0 < side X Y s i (mean8 (X s)) (mean8 (Y s)) := by
  rw [side_mean]
  refine div_pos (Finset.sum_pos' (fun k _ => conv_nonneg conv i k) ⟨i + 2, Finset.mem_univ _, ?_⟩) (by norm_num)
  exact conv i _ (fin8_two_ne i).1 (fin8_two_ne i).2.1

/-- The vertices around the centroid. -/
theorem vertices_around : Around Finset.univ (X s) (Y s) (mean8 (X s)) (mean8 (Y s)) (fun i => i + 1) where
  maps _ _ := Finset.mem_univ _
  turn v _ := by
    have := side_mean_pos conv v
    have e : area2 (mean8 (X s)) (mean8 (Y s)) (X s v) (Y s v) (X s (v + 1)) (Y s (v + 1)) = side X Y s v (mean8 (X s)) (mean8 (Y s)) := by
      unfold area2 side dx; ring
    rw [e]
    exact this
  empty v _ w _ hv hv' h1 h2 := by
    have o := side_mean_pos conv w
    have p := conv_nonneg conv w v
    have q := conv_nonneg conv w (v + 1)
    have g := conv v w hv hv'
    have e : side X Y s v (X s w) (Y s w) * side X Y s w (mean8 (X s)) (mean8 (Y s))
        + area2 (mean8 (X s)) (mean8 (Y s)) (X s w) (Y s w) (X s (v + 1)) (Y s (v + 1)) * side X Y s w (X s v) (Y s v)
        + area2 (mean8 (X s)) (mean8 (Y s)) (X s v) (Y s v) (X s w) (Y s w) * side X Y s w (X s (v + 1)) (Y s (v + 1)) = 0 := by
      unfold area2 side dx; ring
    have := mul_pos g o
    have := mul_nonneg h2 p
    have := mul_nonneg h1 q
    linarith

/-- The order by angle about the centroid is a cyclic renumbering. -/
theorem sorted_rotates {p : Fin 8 → Fin 8} (bij : Function.Bijective p)
    (mono : ∀ i j, i ≤ j → ang (Y s (p i) - mean8 (Y s)) (X s (p i) - mean8 (X s)) ≤ ang (Y s (p j) - mean8 (Y s)) (X s (p j) - mean8 (X s)))
    (i : Fin 8) : p i = i + p 0 := by
  have step (k : ℕ) (hk : k < 8) : p (Fin.ofNat 8 k) + 1 = p (Fin.ofNat 8 ((k + 1) % 8)) :=
    (vertices_around conv).next (n := 8) (c := fun k => p (Fin.ofNat 8 k)) (fun _ _ => Finset.mem_univ _)
      (fun j hj k hk e => by
        have := congrArg Fin.val (bij.1 e)
        simpa [Nat.mod_eq_of_lt hj, Nat.mod_eq_of_lt hk] using this)
      (fun v _ => by
        obtain ⟨k, e⟩ := bij.2 v
        exact ⟨k, k.2, by simpa using e⟩)
      (fun j k h hk => mono _ _ (by
        rw [Fin.le_def]
        simpa [Nat.mod_eq_of_lt hk, Nat.mod_eq_of_lt (lt_of_le_of_lt h hk)] using h)) k hk
  have all (k : ℕ) (hk : k < 8) : p (Fin.ofNat 8 k) = Fin.ofNat 8 k + p 0 := by
    induction k with
    | zero => simp
    | succ k ih =>
      have := step k (by omega)
      rw [Nat.mod_eq_of_lt hk, ih (by omega)] at this
      rw [← this]
      have : Fin.ofNat 8 (k + 1) = Fin.ofNat 8 k + 1 := by
        apply Fin.ext
        simp [Fin.val_add]
      rw [this]
      abel
  have := all i i.2
  simpa using this

end Ciou

namespace Ciou

variable {X Y : Bool → Fin 8 → ℝ}

/-- The vertices renumbered cyclically. -/
def turned (Z : Bool → Fin 8 → ℝ) (r : Bool → Fin 8) (s : Bool) (i : Fin 8) : ℝ := Z s (i + r s)

variable (r : Bool → Fin 8)

theorem dx_turned (Z : Bool → Fin 8 → ℝ) (s : Bool) (i : Fin 8) : dx (turned Z r) s i = dx Z s (i + r s) := by
  unfold dx turned
  rw [add_right_comm]

theorem side_turned (s : Bool) (i : Fin 8) (x y : ℝ) : side (turned X r) (turned Y r) s i x y = side X Y s (i + r s) x y := by
  unfold side
  rw [dx_turned, dx_turned]
  rfl

theorem c0_turned (s : Bool) (i j : Fin 8) : c0 (turned X r) (turned Y r) s i j = c0 X Y s (i + r s) (j + r (!s)) := by
  unfold c0
  rw [side_turned]
  rfl

theorem cd_turned (s : Bool) (i j : Fin 8) : cd (turned X r) (turned Y r) s i j = cd X Y s (i + r s) (j + r (!s)) := by
  unfold cd
  rw [dx_turned, dx_turned, dx_turned, dx_turned]

/-- General position does not depend on the numbering. -/
theorem Pair.turned (h : Pair X Y) : Pair (turned X r) (turned Y r) where
  conv s i k h1 h2 := by
    rw [side_turned]
    refine h.conv s _ _ (fun e => h1 (add_right_cancel e)) (fun e => h2 ?_)
    rw [add_right_comm] at e
    exact add_right_cancel e
  sep s i k := by
    rw [side_turned]
    exact h.sep s _ _
  par s i j := by
    rw [cd_turned]
    exact h.par s _ _

/-- A sum over the vertices does not depend on the numbering. -/
theorem sum_turned {M : Type} [AddCommMonoid M] (c : Fin 8) (f : Fin 8 → M) : ∑ i, f (i + c) = ∑ i, f i :=
  Equiv.sum_comp (Equiv.addRight c) f

end Ciou
-- ==== Proof.RefRow.lean ====
/-
  A row of the reference's polygons: sorted by angle they are the given polygons, renumbered cyclically; hence the
  reference's areas and its intersection are those of the given polygons.
-/
module

public import proofs.«01_k».proof.Proof.RefInter
public import proofs.«01_k».proof.Proof.Rotate

@[expose] public section

noncomputable section

open scoped Classical

namespace Ciou

variable (X Y : Bool → Fin 8 → ℝ) (r : Bool → Fin 8)

theorem T1_turned (s : Bool) (i : Fin 8) :
    T1 (c0 (turned X r) (turned Y r) s i) (cd (turned X r) (turned Y r) s i) = T1 (c0 X Y s (i + r s)) (cd X Y s (i + r s)) := by
  refine eq_of_forall_ge_iff fun z => ?_
  unfold T1
  simp only [Finset.sup'_le_iff, Finset.mem_univ, true_imp_iff, lo, c0_turned, cd_turned]
  constructor
  · intro h j
    have := h (j - r (!s))
    rwa [sub_add_cancel] at this
  · intro h j
    exact h _

theorem T2_turned (s : Bool) (i : Fin 8) :
    T2 (c0 (turned X r) (turned Y r) s i) (cd (turned X r) (turned Y r) s i) = T2 (c0 X Y s (i + r s)) (cd X Y s (i + r s)) := by
  refine eq_of_forall_le_iff fun z => ?_
  unfold T2
  simp only [Finset.le_inf'_iff, Finset.mem_univ, true_imp_iff, hi, c0_turned, cd_turned]
  constructor
  · intro h j
    have := h (j - r (!s))
    rwa [sub_add_cancel] at this
  · intro h j
    exact h _

theorem cr_turned (s : Bool) (i : Fin 8) : K.cr (turned X r) (turned Y r) s i = K.cr X Y s (i + r s) := by
  unfold K.cr
  rw [dx_turned, dx_turned]
  rfl

theorem clipR_turned (s : Bool) (i : Fin 8) : K.clipR (turned X r) (turned Y r) s i = K.clipR X Y s (i + r s) := by
  unfold K.clipR
  rw [T1_turned, T2_turned, cr_turned]

/-- The intersection's area does not depend on the numbering. -/
theorem interR_turned : K.interR (turned X r) (turned Y r) = K.interR X Y := by
  unfold K.interR
  simp only [Finset.sum_add_distrib, clipR_turned]
  rw [sum_turned (r false) (K.clipR X Y false), sum_turned (r true) (K.clipR X Y true)]

/-- Nor do the polygons' areas. -/
theorem areaR_turned : K.areaR (turned X r) (turned Y r) = K.areaR X Y := by
  unfold K.areaR
  simp only [Finset.sum_add_distrib, cr_turned]
  rw [sum_turned (r false) (K.cr X Y false), sum_turned (r true) (K.cr X Y true)]

end Ciou

namespace Ciou.Ref

open Idealize.ShloMosaic Idealize.ShloMosaic.TcCoe
open Cert.ReferenceIdeal Cert.ReferenceIdeal.Gen
open Idealize.ShloMosaic.Pointwise

variable {β : Fin 262144} {X Y : Bool → Fin 8 → ℝ}

theorem Clear.turned (r : Bool → Fin 8) (h : Clear X Y) : Clear (turned X r) (turned Y r) where
  toPair := Pair.turned r h.toPair
  band s i k := by
    rw [side_turned]
    exact h.band s _ _
  steep i j := by
    rw [cd_turned]
    exact h.steep _ _

theorem px_row (a : Poly) (i : Fin 8) : px a (ix2 β i) = a (ix3 β i 0) := by pointwise [px]

theorem py_row (a : Poly) (i : Fin 8) : py a (ix2 β i) = a (ix3 β i 1) := by pointwise [py]

theorem ofBits_eight : Ideal.ofBits .f32 0x41000000#32 = ((8 : ℝ) : EReal) := by
  simp [Ideal.ofBits, Ideal.ieee, -EReal.coe_mul]; norm_num

theorem centred_row {v : B8} {f : Fin 8 → ℝ} (h : Row β v f) (i : Fin 8) : centred v (ix2 β i) = ((f i - mean8 f : ℝ) : EReal) := by
  pointwise [centred]
  rw [Finset.sum_congr rfl fun j _ => h j, h i, coe_sum, ofBits_eight, coe_div (by norm_num), ← EReal.coe_sub]
  rfl

/-- The angles' order of a polygon's row. -/
def turn (β : Fin 262144) (a : Poly) (i : Fin 8) : Fin 8 :=
  order (fun k => Host.atan2 (F := Ideal) (centred (py a)) (centred (px a)) (ix2 β k)) i

theorem turn_bijective (a : Poly) : Function.Bijective (turn β a) := order_bijective _

theorem sx_row (a : Poly) (i : Fin 8) : sx a (ix2 β i) = px a (ix2 β (turn β a i)) := (sort3_at β _ _ _ i).1

theorem sy_row (a : Poly) (i : Fin 8) : sy a (ix2 β i) = py a (ix2 β (turn β a i)) := (sort3_at β _ _ _ i).2

theorem turn_rotates {a : Poly} {s : Bool} (hx : Row β (px a) (X s)) (hy : Row β (py a) (Y s))
    (conv : ∀ i k, k ≠ i → k ≠ i + 1 → 0 < side X Y s i (X s k) (Y s k)) (i : Fin 8) : turn β a i = i + turn β a 0 := by
  have key (k : Fin 8) : Host.atan2 (F := Ideal) (centred (py a)) (centred (px a)) (ix2 β k) =
      ((ang (Y s k - mean8 (Y s)) (X s k - mean8 (X s)) : ℝ) : EReal) := by
    pointwise
    rw [centred_row hx, centred_row hy, atan2_coe]
  refine sorted_rotates conv (turn_bijective a) (fun i j hij => ?_) i
  have := (key (turn β a i)).symm.le.trans
    ((order_mono (fun k => Host.atan2 (F := Ideal) (centred (py a)) (centred (px a)) (ix2 β k)) hij).trans (key (turn β a j)).le)
  exact_mod_cast this

/-- The rows of the two polygons. -/
structure Rows (β : Fin 262144) (a b : Poly) (X Y : Bool → Fin 8 → ℝ) : Prop where
  ax : Row β (px a) (X false)
  ay : Row β (py a) (Y false)
  bx : Row β (px b) (X true)
  by' : Row β (py b) (Y true)

variable {a b : Poly}

/-- How far the order turns either polygon. -/
def turnBy (β : Fin 262144) (a b : Poly) (s : Bool) : Fin 8 := if s then turn β b 0 else turn β a 0

section Sorted

variable (h : Rows β a b X Y) (hc : Clear X Y)

include h hc

theorem Rows.sxa : Row β (sx a) (turned X (turnBy β a b) false) := fun i => by
  rw [sx_row, turn_rotates h.ax h.ay (hc.conv false), h.ax]
  rfl

theorem Rows.sya : Row β (sy a) (turned Y (turnBy β a b) false) := fun i => by
  rw [sy_row, turn_rotates h.ax h.ay (hc.conv false), h.ay]
  rfl

theorem Rows.sxb : Row β (sx b) (turned X (turnBy β a b) true) := fun i => by
  rw [sx_row, turn_rotates h.bx h.by' (hc.conv true), h.bx]
  rfl

theorem Rows.syb : Row β (sy b) (turned Y (turnBy β a b) true) := fun i => by
  rw [sy_row, turn_rotates h.bx h.by' (hc.conv true), h.by']
  rfl

/-- The intersection's area. -/
theorem interOf_row : interOf a b (ix1 β) = ((K.interR X Y : ℝ) : EReal) := by
  rw [interOf, inter_at (hc.turned (turnBy β a b)) (h.sxa hc) (h.sya hc) (h.sxb hc) (h.syb hc), interR_turned]

omit h hc in
theorem shoe_row {s : Bool} {v w : B8} (hv : Row β v (X s)) (hw : Row β w (Y s)) :
    shoe v w (ix1 β) = ((1 / 2 * ∑ i, K.cr X Y s i : ℝ) : EReal) := by
  pointwise [shoe, lit0]
  rw [ofBits_half, EReal.coe_mul, ← coe_sum]
  congr 1
  refine Finset.sum_congr rfl fun k _ => ?_
  rw [nxt_at, nxt_at, hv, hv, hw, hw, ← EReal.coe_mul, ← EReal.coe_mul, ← EReal.coe_sub]
  congr 1
  unfold K.cr dx
  ring

/-- The union's area. -/
theorem unionOf_row : unionOf a b (ix1 β) = ((K.areaR X Y : ℝ) : EReal) - ((K.interR X Y : ℝ) : EReal) := by
  pointwise [unionOf]
  rw [interOf_row h hc, shoe_row (h.sxa hc) (h.sya hc), shoe_row (h.sxb hc) (h.syb hc), ← EReal.coe_add, ← areaR_turned X Y (turnBy β a b)]
  congr 2
  rw [K.areaR, Finset.sum_add_distrib, mul_add]

theorem ratio_row : ratio (interOf a b) (unionOf a b) (ix1 β) =
    Ideal.div ((K.interR X Y : ℝ) : EReal) (((K.areaR X Y : ℝ) : EReal) - ((K.interR X Y : ℝ) : EReal)) := by
  pointwise [ratio]
  rw [interOf_row h hc, unionOf_row h hc]

end Sorted

end Ciou.Ref
-- ==== Proof.RefStages.lean ====
/- The stretches of the reference before its loop, each from any contents of the buffers, as the array functions of RefBlock. -/
module

public import proofs.«01_k».proof.Proof.RefBlock

@[expose] public section

set_option maxRecDepth 20000

noncomputable section

namespace Ciou.Ref

open Idealize.ShloMosaic Idealize.ShloMosaic.TcCoe Idealize.ShloMosaic.StableHlo
open Cert.ReferenceIdeal Cert.ReferenceIdeal.Gen Cert.ReferenceIdeal.Value

/-- Contents of all buffers. -/
abbrev Val := Valuation τ sig (Elt Ideal)

/-! ## The stretches, from any contents -/

section Stretch

variable (V : Val)

theorem sort_a1 : after hostOps0 V (Proc.devRef .tc main_v17_1) = sx (V (Proc.devRef .tc main_arg0)) := by
  after_reads_simp; rfl

theorem sort_a2 : after hostOps0 V (Proc.devRef .tc main_v17_2) = sy (V (Proc.devRef .tc main_arg0)) := by
  after_reads_simp; rfl

theorem sort_b1 : after hostOps0 V (Proc.devRef .tc main_v35_1) = sx (V (Proc.devRef .tc main_arg1)) := by
  after_reads_simp; rfl

theorem sort_b2 : after hostOps0 V (Proc.devRef .tc main_v35_2) = sy (V (Proc.devRef .tc main_arg1)) := by
  after_reads_simp; rfl

/-- The tests of the polygons' points. -/
abbrev testOps : List (List (HloOp τ sig (Elt Ideal))) :=
  [hostOps0_1, hostOps0_2, hostOps0_3, hostOps0_4, hostOps0_5, hostOps0_6, hostOps0_7, hostOps0_8]

theorem test_a : afterL testOps V (Proc.devRef .tc main_v59) = inside (V (Proc.devRef .tc main_v17_1)) (V (Proc.devRef .tc main_v17_2))
    (V (Proc.devRef .tc main_v35_1)) (V (Proc.devRef .tc main_v35_2)) := by
  simp only [afterL_cons, afterL_nil]; after_reads_simp; rfl

theorem test_b : afterL testOps V (Proc.devRef .tc main_v83) = inside (V (Proc.devRef .tc main_v35_1)) (V (Proc.devRef .tc main_v35_2))
    (V (Proc.devRef .tc main_v17_1)) (V (Proc.devRef .tc main_v17_2)) := by
  simp only [afterL_cons, afterL_nil]; after_reads_simp; rfl

/-- The crossings of edges and the candidates. -/
abbrev crossOps : List (List (HloOp τ sig (Elt Ideal))) :=
  [hostOps0_9, hostOps0_10, hostOps0_11, hostOps0_12, hostOps0_13, hostOps0_14, hostOps0_15, hostOps0_16, hostOps0_17, hostOps0_18]

section

variable {a1 a2 b1 b2 : B8} (h1 : V (Proc.devRef .tc main_v17_1) = a1) (h2 : V (Proc.devRef .tc main_v17_2) = a2)
  (h3 : V (Proc.devRef .tc main_v35_1) = b1) (h4 : V (Proc.devRef .tc main_v35_2) = b2)

include h1 h2 h3 h4

theorem cross_x : afterL crossOps V (Proc.devRef .tc main_v157) = cand a1 a2 b1 b2 a1 b1 := by
  subst h1 h2 h3 h4
  simp only [afterL_cons, afterL_nil]; after_reads_simp; rfl

theorem cross_y : afterL crossOps V (Proc.devRef .tc main_v158) = cand a1 a2 b1 b2 a2 b2 := by
  subst h1 h2 h3 h4
  simp only [afterL_cons, afterL_nil]; after_reads_simp; rfl

variable {u v : IVec S262144x8 1} (h5 : V (Proc.devRef .tc main_v59) = u) (h6 : V (Proc.devRef .tc main_v83) = v)

include h5 h6

set_option maxHeartbeats 2000000 in
/-- The marks of the candidates, from those of the polygons' points. -/
theorem cross_marks (hu : u = inside a1 a2 b1 b2) (hv : v = inside b1 b2 a1 a2) :
    afterL crossOps V (Proc.devRef .tc main_v159) = good a1 a2 b1 b2 := by
  unfold good
  rw [← hu, ← hv]
  clear hu hv
  subst h1 h2 h3 h4 h5 h6
  simp only [afterL_cons, afterL_nil]; after_reads_simp; rfl

end

/-- The number of vertices, the keys and the sorting of the candidates. -/
theorem cross_count : afterL crossOps V (Proc.devRef .tc main_v161) = count (afterL crossOps V (Proc.devRef .tc main_v159)) := by
  simp only [afterL_cons, afterL_nil]
  generalize after hostOps0_17 _ = W
  after_reads_simp; rfl

theorem cross_angle : afterL crossOps V (Proc.devRef .tc main_v178) =
    angles80 (afterL crossOps V (Proc.devRef .tc main_v159)) (afterL crossOps V (Proc.devRef .tc main_v157))
      (afterL crossOps V (Proc.devRef .tc main_v158)) := by
  simp only [afterL_cons, afterL_nil]
  generalize after hostOps0_17 _ = W
  after_reads_simp; rfl

theorem cross_big : afterL crossOps V (Proc.devRef .tc main_cst_21) = lit1 0x4E6E6B28#32 := by
  simp only [afterL_cons, afterL_nil]
  generalize after hostOps0_17 _ = W
  after_reads_simp; rfl

/-- The sorting of the candidates. -/
abbrev sortOps : List (List (HloOp τ sig (Elt Ideal))) := [hostOps0_19, hostOps0_20, hostOps0_21, hostOps0_22, hostOps0_23]

section

variable {v : M80} {x y : B80} (h1 : V (Proc.devRef .tc main_v159) = v) (h2 : V (Proc.devRef .tc main_v157) = x) (h3 : V (Proc.devRef .tc main_v158) = y)
  (h4 : V (Proc.devRef .tc main_v178) = angles80 v x y) (h5 : V (Proc.devRef .tc main_cst_21) = lit1 0x4E6E6B28#32)

include h1 h2 h3 h4 h5

theorem sort_x : afterL sortOps V (Proc.devRef .tc main_v182) = masked (sorted80 v x y).2.2.2 (sorted80 v x y).2.1 := by
  unfold sorted80 keys
  rw [← h4, ← h5]
  clear h4 h5
  subst h1 h2 h3
  simp only [afterL_cons, afterL_nil]; after_reads_simp; rfl

theorem sort_y : afterL sortOps V (Proc.devRef .tc main_v184) = masked (sorted80 v x y).2.2.2 (sorted80 v x y).2.2.1 := by
  unfold sorted80 keys
  rw [← h4, ← h5]
  clear h4 h5
  subst h1 h2 h3
  simp only [afterL_cons, afterL_nil]; after_reads_simp; rfl

end

/-- The area of the intersection. -/
abbrev areaOps : List (List (HloOp τ sig (Elt Ideal))) := [hostOps0_24, hostOps0_25, hostOps0_26, hostOps0_27, hostOps0_28]

theorem area_inter {v : M80} {x y : B80} (h1 : V (Proc.devRef .tc main_v161) = count v)
    (h2 : V (Proc.devRef .tc main_v182) = masked (sorted80 v x y).2.2.2 (sorted80 v x y).2.1)
    (h3 : V (Proc.devRef .tc main_v184) = masked (sorted80 v x y).2.2.2 (sorted80 v x y).2.2.1) :
    afterL areaOps V (Proc.devRef .tc main_v197) = area80 v x y := by
  unfold area80
  rw [← h1, ← h2, ← h3]
  simp only [afterL_cons, afterL_nil]; after_reads_simp; rfl

/-- The areas of the polygons and the union, and the points of both. -/
abbrev unionOps : List (List (HloOp τ sig (Elt Ideal))) := [hostOps0_29, hostOps0_30, hostOps0_31, hostOps0_32, hostOps0_33, hostOps0_34]

theorem union_area : afterL unionOps V (Proc.devRef .tc main_v215) =
    subf (addf (shoe (V (Proc.devRef .tc main_v17_1)) (V (Proc.devRef .tc main_v17_2))) (shoe (V (Proc.devRef .tc main_v35_1)) (V (Proc.devRef .tc main_v35_2)))) (V (Proc.devRef .tc main_v197)) := by
  simp only [afterL_cons, afterL_nil]; after_reads_simp; rfl

theorem union_ratio : afterL unionOps V (Proc.devRef .tc main_v216) = ratio (V (Proc.devRef .tc main_v197)) (afterL unionOps V (Proc.devRef .tc main_v215)) := by
  simp only [afterL_cons, afterL_nil]; after_reads_simp; rfl

theorem union_px : afterL unionOps V (Proc.devRef .tc main_v221) = all (px (V (Proc.devRef .tc main_arg0))) (px (V (Proc.devRef .tc main_arg1))) := by
  simp only [afterL_cons, afterL_nil]; after_reads_simp; rfl

theorem union_py : afterL unionOps V (Proc.devRef .tc main_v226) = all (py (V (Proc.devRef .tc main_arg0))) (py (V (Proc.devRef .tc main_arg1))) := by
  simp only [afterL_cons, afterL_nil]; after_reads_simp; rfl

theorem union_low : afterL unionOps V (Proc.devRef .tc main_v231) = low (afterL unionOps V (Proc.devRef .tc main_v226)) := by
  simp only [afterL_cons, afterL_nil]; after_reads_simp; rfl

theorem union_ids : afterL unionOps V (Proc.devRef .tc main_v227) = ids := by
  simp only [afterL_cons, afterL_nil]; after_reads_simp; rfl

theorem union_inf : afterL unionOps V (Proc.devRef .tc main_cst_32) = lit1 0x7F800000#32 := by
  simp only [afterL_cons, afterL_nil]; after_reads_simp; rfl

/-- The hull's first vertex and the loop's first state. -/
abbrev startOps : List (List (HloOp τ sig (Elt Ideal))) := [hostOps0_35, hostOps0_36, hostOps0_37, hostOps0_38]

section

variable {x y : B16} (h1 : V (Proc.devRef .tc main_v221) = x) (h2 : V (Proc.devRef .tc main_v226) = y) (h3 : V (Proc.devRef .tc main_v231) = low y) (h4 : V (Proc.devRef .tc main_v227) = ids)
  (h5 : V (Proc.devRef .tc main_cst_32) = lit1 0x7F800000#32)

include h1 h2 h3 h4 h5

theorem start_first : afterL startOps V (Proc.devRef .tc main_v239) = start x y := by
  unfold start lowx first
  rw [← h3, ← h4, ← h5]
  clear h3 h4 h5
  subst h1 h2
  simp only [afterL_cons, afterL_nil]; after_reads_simp; rfl

end

end Stretch

end Ciou.Ref
-- ==== Proof.RefEntry.lean ====
/- What the reference leaves in its buffers before its loop, as the array functions of RefBlock. -/
module

public import proofs.«01_k».proof.Proof.RefStages

@[expose] public section

set_option maxRecDepth 20000

noncomputable section

namespace Ciou.Ref

open Idealize.ShloMosaic Idealize.ShloMosaic.TcCoe Idealize.ShloMosaic.StableHlo
open Cert.ReferenceIdeal Cert.ReferenceIdeal.Gen Cert.ReferenceIdeal.Value

section Stretch

variable (V : Val)

/-! ## What the stretches leave alone -/

theorem test_keeps : afterL testOps V (Proc.devRef .tc main_v17_1) = V (Proc.devRef .tc main_v17_1) ∧ afterL testOps V (Proc.devRef .tc main_v17_2) = V (Proc.devRef .tc main_v17_2)
    ∧ afterL testOps V (Proc.devRef .tc main_v35_1) = V (Proc.devRef .tc main_v35_1) ∧ afterL testOps V (Proc.devRef .tc main_v35_2) = V (Proc.devRef .tc main_v35_2) := by
  simp only [afterL_cons, afterL_nil]
  refine ⟨?_, ?_, ?_, ?_⟩ <;> after_reads_simp

theorem sort_keeps : afterL sortOps V (Proc.devRef .tc main_v161) = V (Proc.devRef .tc main_v161) := by
  simp only [afterL_cons, afterL_nil]
  after_reads_simp

/-- The contents before the union's areas. -/
def beforeUnion : Val := afterL areaOps (afterL sortOps (afterL crossOps (afterL testOps V)))

theorem union_keeps : beforeUnion V (Proc.devRef .tc main_v17_1) = V (Proc.devRef .tc main_v17_1) ∧ beforeUnion V (Proc.devRef .tc main_v17_2) = V (Proc.devRef .tc main_v17_2)
    ∧ beforeUnion V (Proc.devRef .tc main_v35_1) = V (Proc.devRef .tc main_v35_1) ∧ beforeUnion V (Proc.devRef .tc main_v35_2) = V (Proc.devRef .tc main_v35_2) := by
  simp only [beforeUnion, afterL_cons, afterL_nil]
  refine ⟨?_, ?_, ?_, ?_⟩ <;> after_reads_simp

theorem args_keeps : beforeUnion (after hostOps0 V) (Proc.devRef .tc main_arg0) = V (Proc.devRef .tc main_arg0) ∧ beforeUnion (after hostOps0 V) (Proc.devRef .tc main_arg1) = V (Proc.devRef .tc main_arg1) := by
  simp only [beforeUnion, afterL_cons, afterL_nil]
  refine ⟨?_, ?_⟩ <;> after_reads_simp

theorem start_keeps : afterL startOps V (Proc.devRef .tc main_v215) = V (Proc.devRef .tc main_v215) ∧ afterL startOps V (Proc.devRef .tc main_v216) = V (Proc.devRef .tc main_v216) := by
  simp only [afterL_cons, afterL_nil]
  refine ⟨?_, ?_⟩ <;> after_reads_simp

/-- The loop's buffers at its start. -/
theorem start_carry : afterL startOps V (Proc.devRef .tc main_v244_0) = V (Proc.devRef .tc main_v227) ∧ afterL startOps V (Proc.devRef .tc main_v244_1) = V (Proc.devRef .tc main_v221)
    ∧ afterL startOps V (Proc.devRef .tc main_v244_2) = V (Proc.devRef .tc main_v226) ∧ afterL startOps V (Proc.devRef .tc main_v244_3) = afterL startOps V (Proc.devRef .tc main_v239)
    ∧ afterL startOps V (Proc.devRef .tc main_v244_5) = afterL startOps V (Proc.devRef .tc main_v239) := by
  simp only [afterL_cons, afterL_nil]
  refine ⟨?_, ?_, ?_, ?_, ?_⟩ <;> after_reads_simp <;> simp only [id_eq]

theorem start_dx : afterL startOps V (Proc.devRef .tc main_v244_6) = lit0 0x3F800000#32 := by
  simp only [afterL_cons, afterL_nil]; after_reads_simp; rfl

theorem start_dy : afterL startOps V (Proc.devRef .tc main_v244_7) = lit0 0x00000000#32 := by
  simp only [afterL_cons, afterL_nil]; after_reads_simp; rfl

theorem start_done : afterL startOps V (Proc.devRef .tc main_v244_8) = notYet := by
  simp only [afterL_cons, afterL_nil]; after_reads_simp; rfl

theorem start_acc : afterL startOps V (Proc.devRef .tc main_v244_9) = lit0 0x00000000#32 := by
  simp only [afterL_cons, afterL_nil]; after_reads_simp; rfl

end Stretch

/-! ## The program's contents at its loop -/

section Entry

variable (V : Val)

theorem inter_area : beforeUnion (after hostOps0 V) (Proc.devRef .tc main_v197) = interOf (V (Proc.devRef .tc main_arg0)) (V (Proc.devRef .tc main_arg1)) := by
  have k := test_keeps (after hostOps0 V)
  have h1 := k.1.trans (sort_a1 V)
  have h2 := k.2.1.trans (sort_a2 V)
  have h3 := k.2.2.1.trans (sort_b1 V)
  have h4 := k.2.2.2.trans (sort_b2 V)
  have u : afterL testOps (after hostOps0 V) (Proc.devRef .tc main_v59) = inside (sx (V (Proc.devRef .tc main_arg0))) (sy (V (Proc.devRef .tc main_arg0))) (sx (V (Proc.devRef .tc main_arg1))) (sy (V (Proc.devRef .tc main_arg1))) := by
    rw [test_a, sort_a1, sort_a2, sort_b1, sort_b2]
  have v : afterL testOps (after hostOps0 V) (Proc.devRef .tc main_v83) = inside (sx (V (Proc.devRef .tc main_arg1))) (sy (V (Proc.devRef .tc main_arg1))) (sx (V (Proc.devRef .tc main_arg0))) (sy (V (Proc.devRef .tc main_arg0))) := by
    rw [test_b, sort_a1, sort_a2, sort_b1, sort_b2]
  have x := cross_x (afterL testOps (after hostOps0 V)) h1 h2 h3 h4
  have y := cross_y (afterL testOps (after hostOps0 V)) h1 h2 h3 h4
  have g := cross_marks (afterL testOps (after hostOps0 V)) h1 h2 h3 h4 u v rfl rfl
  have n := cross_count (afterL testOps (after hostOps0 V))
  have e := cross_angle (afterL testOps (after hostOps0 V))
  rw [g] at n
  rw [g, x, y] at e
  have b := cross_big (afterL testOps (after hostOps0 V))
  unfold beforeUnion interOf inter
  generalize afterL testOps (after hostOps0 V) = W at *
  have k1 := (sort_keeps (afterL crossOps W)).trans n
  have k2 := sort_x (afterL crossOps W) g x y e b
  have k3 := sort_y (afterL crossOps W) g x y e b
  generalize afterL sortOps (afterL crossOps W) = W' at *
  exact area_inter W' k1 k2 k3

theorem union_at : afterL unionOps (beforeUnion (after hostOps0 V)) (Proc.devRef .tc main_v215) = unionOf (V (Proc.devRef .tc main_arg0)) (V (Proc.devRef .tc main_arg1)) := by
  have k := union_keeps (after hostOps0 V)
  rw [union_area, k.1, k.2.1, k.2.2.1, k.2.2.2, sort_a1, sort_a2, sort_b1, sort_b2, inter_area]
  rfl

theorem ratio_at : afterL unionOps (beforeUnion (after hostOps0 V)) (Proc.devRef .tc main_v216) =
    ratio (interOf (V (Proc.devRef .tc main_arg0)) (V (Proc.devRef .tc main_arg1))) (unionOf (V (Proc.devRef .tc main_arg0)) (V (Proc.devRef .tc main_arg1))) := by
  rw [union_ratio, union_at, inter_area]

theorem px_at : afterL unionOps (beforeUnion (after hostOps0 V)) (Proc.devRef .tc main_v221) = all (px (V (Proc.devRef .tc main_arg0))) (px (V (Proc.devRef .tc main_arg1))) := by
  rw [union_px, (args_keeps V).1, (args_keeps V).2]

theorem py_at : afterL unionOps (beforeUnion (after hostOps0 V)) (Proc.devRef .tc main_v226) = all (py (V (Proc.devRef .tc main_arg0))) (py (V (Proc.devRef .tc main_arg1))) := by
  rw [union_py, (args_keeps V).1, (args_keeps V).2]

theorem first_at : afterL startOps (afterL unionOps (beforeUnion (after hostOps0 V))) (Proc.devRef .tc main_v239) =
    start (all (px (V (Proc.devRef .tc main_arg0))) (px (V (Proc.devRef .tc main_arg1)))) (all (py (V (Proc.devRef .tc main_arg0))) (py (V (Proc.devRef .tc main_arg1)))) :=
  start_first _ (px_at V) (py_at V) ((union_low _).trans (congrArg low (py_at V))) (union_ids _) (union_inf _)

end Entry

end Ciou.Ref
-- ==== Proof.RefMean.lean ====
/-
  The reference's result: the mean of the pairs' measures, for pairs in general position.
-/
module

public import proofs.«01_k».proof.Proof.RefWalk
public import proofs.«01_k».proof.Proof.RefRow
public import proofs.«01_k».proof.Proof.RefEntry

@[expose] public section

set_option maxRecDepth 20000

noncomputable section

open scoped Classical

namespace Ciou.Ref

open Idealize.ShloMosaic Idealize.ShloMosaic.TcCoe Idealize.ShloMosaic.StableHlo
open Cert.ReferenceIdeal Cert.ReferenceIdeal.Gen Cert.ReferenceIdeal.Value
open Idealize.ShloMosaic.Pointwise

variable (m : (ℓ : Loc nD τ sig) → Buf (Elt Ideal) ℓ) (c : Dev nD)

/-- The contents at the program's start. -/
def atStart : Val := fun b => m (c, b)

theorem entry_eq : entryContents preI m c = afterL startOps (afterL unionOps (beforeUnion (after hostOps0 (atStart m c)))) := rfl

/-- The carried buffers before trip `k`. -/
def trip (k : ℕ) : Val := STEP^[k] (entryContents preI m c)

theorem trip_succ (k : ℕ) : trip m c (k + 1) = STEP (trip m c k) := Function.iterate_succ_apply' _ _ _

/-- All points' first coordinates. -/
def allX : B16 := all (px (argA m c)) (px (argB m c))
/-- All points' second coordinates. -/
def allY : B16 := all (py (argA m c)) (py (argB m c))

theorem trip_ids : ∀ k, trip m c k (Proc.devRef .tc main_v244_0) = ids
  | 0 => (congrFun (entry_eq m c) _).trans ((start_carry _).1.trans (union_ids _))
  | k + 1 => by rw [trip_succ, STEP_main_v244_0]; exact trip_ids k

theorem trip_x : ∀ k, trip m c k (Proc.devRef .tc main_v244_1) = allX m c
  | 0 => (congrFun (entry_eq m c) _).trans ((start_carry _).2.1.trans (px_at _))
  | k + 1 => by rw [trip_succ, STEP_main_v244_1]; exact trip_x k

theorem trip_y : ∀ k, trip m c k (Proc.devRef .tc main_v244_2) = allY m c
  | 0 => (congrFun (entry_eq m c) _).trans ((start_carry _).2.2.1.trans (py_at _))
  | k + 1 => by rw [trip_succ, STEP_main_v244_2]; exact trip_y k

theorem trip_start : ∀ k, trip m c k (Proc.devRef .tc main_v244_3) = start (allX m c) (allY m c)
  | 0 => (congrFun (entry_eq m c) _).trans ((start_carry _).2.2.2.1.trans (first_at _))
  | k + 1 => by rw [trip_succ, STEP_main_v244_3]; exact trip_start k

theorem trip_cur0 : trip m c 0 (Proc.devRef .tc main_v244_5) = start (allX m c) (allY m c) :=
  (congrFun (entry_eq m c) _).trans ((start_carry _).2.2.2.2.trans (first_at _))

theorem trip_cur (k : ℕ) : trip m c (k + 1) (Proc.devRef .tc main_v244_5) = next (allX m c) (allY m c) (trip m c k (Proc.devRef .tc main_v244_5))
    (trip m c k (Proc.devRef .tc main_v244_6)) (trip m c k (Proc.devRef .tc main_v244_7)) := by
  rw [trip_succ, step_cur _ (trip_ids m c k), trip_x, trip_y]

/-- The loop's contents follow the walk. -/
theorem trips : Trips (allX m c) (allY m c) (fun k => trip m c k (Proc.devRef .tc main_v244_5)) (fun k => trip m c k (Proc.devRef .tc main_v244_6))
    (fun k => trip m c k (Proc.devRef .tc main_v244_7)) (fun k => trip m c k (Proc.devRef .tc main_v244_9))
    (fun k => trip m c k (Proc.devRef .tc main_v244_8)) where
  cur0 := trip_cur0 m c
  ux0 := (congrFun (entry_eq m c) _).trans (start_dx _)
  uy0 := (congrFun (entry_eq m c) _).trans (start_dy _)
  done0 := (congrFun (entry_eq m c) _).trans (start_done _)
  acc0 := (congrFun (entry_eq m c) _).trans (start_acc _)
  cur1 := trip_cur m c
  ux1 k := by
    rw [trip_cur, trip_succ, step_ux _ (trip_ids m c k), trip_x, trip_y]
  uy1 k := by
    rw [trip_cur, trip_succ, step_uy _ (trip_ids m c k), trip_x, trip_y]
  done1 k := by
    rw [trip_cur, trip_cur0, trip_succ, step_done _ (trip_ids m c k), trip_x, trip_y, trip_start]
  acc1 k := by
    rw [trip_succ, step_acc _ (trip_ids m c k), trip_x, trip_y]

/-- The last operations: the mean of the measures. -/
def meanOf (u r acc : B0) : FVec Ideal S_ .f32 :=
  Host.divf (Host.reduceAdd (subf r (Host.divf (subf (mulf (lit0 0x3F000000#32) acc) u) (mulf (lit0 0x3F000000#32) acc)))
    (constant S_ .f32 0x00000000#32) reducesTo_S262144_S_d0 h_S_) (constant S_ .f32 0x48800000#32)

/-- The mean of the measures, from the rows' areas. -/
theorem meanOf_scores {u r acc : B0} {area inter hull : Fin 262144 → EReal} (hr : ∀ β, r (ix1 β) = Ideal.div (inter β) (area β - inter β))
    (hu : ∀ β, u (ix1 β) = area β - inter β) (ha : ∀ β, Ideal.ofBits .f32 0x3F000000#32 * acc (ix1 β) = hull β) :
    meanOf u r acc = fun _ => Ideal.div (∑ β, score (area β) (inter β) (hull β)) (Ideal.ofBits .f32 0x48800000#32) := by
  funext i
  rw [show i = ix0 from funext fun d => d.elim0]
  pointwise [meanOf, lit0]
  have e (β : Fin 262144) : r (ix1 β) - Ideal.div (Ideal.ofBits .f32 0x3F000000#32 * acc (ix1 β) - u (ix1 β))
      (Ideal.ofBits .f32 0x3F000000#32 * acc (ix1 β)) = score (area β) (inter β) (hull β) := by
    rw [hr, hu, ha]
    rfl
  rw [Finset.sum_congr rfl fun β _ => e β]

theorem last_stretch (V : Val) : afterL postI V (Proc.devRef .tc main_v251) =
    meanOf (V (Proc.devRef .tc main_v215)) (V (Proc.devRef .tc main_v216)) (V (Proc.devRef .tc main_v244_9)) := by
  simp only [afterL_cons, afterL_nil]
  after_reads_simp
  rfl

theorem kept_215 : atK m 16 c (Proc.devRef .tc main_v215) = unionOf (argA m c) (argB m c) :=
  (trips_keep m c (r := main_v215) (fun V => by after_reads_simp) (fun V => by simp only [afterL_cons, afterL_nil]; after_reads_simp) 16).trans
    ((congrFun (entry_eq m c) _).trans ((start_keeps _).1.trans (union_at _)))

theorem kept_216 : atK m 16 c (Proc.devRef .tc main_v216) = ratio (interOf (argA m c) (argB m c)) (unionOf (argA m c) (argB m c)) :=
  (trips_keep m c (r := main_v216) (fun V => by after_reads_simp) (fun V => by simp only [afterL_cons, afterL_nil]; after_reads_simp) 16).trans
    ((congrFun (entry_eq m c) _).trans ((start_keeps _).2.trans (ratio_at _)))

theorem cond_215 (V : Val) : after condOps V (Proc.devRef .tc main_v215) = V (Proc.devRef .tc main_v215) := by after_reads_simp

theorem cond_216 (V : Val) : after condOps V (Proc.devRef .tc main_v216) = V (Proc.devRef .tc main_v216) := by after_reads_simp

theorem final_at : finalContents condOps preI bodyI postI 16 m c (Proc.devRef .tc main_v251) =
    meanOf (unionOf (argA m c) (argB m c)) (ratio (interOf (argA m c) (argB m c)) (unionOf (argA m c) (argB m c)))
      (trip m c 16 (Proc.devRef .tc main_v244_9)) := by
  have e := last_stretch (after condOps (atK m 16 c))
  rw [cond_keeps (atK m 16 c) main_v244_9 (by decide), cond_215, cond_216, kept_215, kept_216, atK_agree m c 16 main_v244_9 (by decide)] at e
  exact e

/-- What is asked of the pairs: the arguments' rows hold reals in general position, no two points nearly equal. -/
structure Given (a b : Poly) (X Y : Fin 262144 → Bool → Fin 8 → ℝ) : Prop where
  rows : ∀ β, Rows β a b (X β) (Y β)
  clear : ∀ β, Clear (X β) (Y β)
  apart : ∀ β p q, p ≠ q → Ideal.ofBits .f32 0x24E69595#32 ≤ (((both (X β) q - both (X β) p) * (both (X β) q - both (X β) p)
    + (both (Y β) q - both (Y β) p) * (both (Y β) q - both (Y β) p) : ℝ) : EReal)

variable {m c} {X Y : Fin 262144 → Bool → Fin 8 → ℝ} (h : Given (argA m c) (argB m c) X Y)

include h

/-- The loop's sum is twice the hull's area. -/
theorem hull_row (β : Fin 262144) :
    Ideal.ofBits .f32 0x3F000000#32 * trip m c 16 (Proc.devRef .tc main_v244_9) (ix1 β) = ((K.hullR (X β) (Y β) : ℝ) : EReal) := by
  have hp := (h.clear β).toPair
  have g : Generic (both (X β)) (both (Y β)) := hp.generic fun p q e1 e2 => by
    by_contra hn
    have a := h.apart β p q hn
    rw [e1, e2] at a
    simp only [sub_self, mul_zero, add_zero, EReal.coe_zero] at a
    exact absurd a (not_le.2 ofBits_near)
  have w := walk_row (all_row (h.rows β).ax (h.rows β).bx) (all_row (h.rows β).ay (h.rows β).by') (trips m c) g (h.apart β)
  beta_reduce at w
  rw [hp.hull_eq, EReal.coe_mul, ← ofBits_half]
  generalize trip m c 16 (Proc.devRef .tc main_v244_9) = A at w ⊢
  exact congrArg (HMul.hMul (Ideal.ofBits .f32 0x3F000000#32)) w

/-- The result is the mean of the pairs' measures. -/
theorem mean : finalContents condOps preI bodyI postI 16 m c (Proc.devRef .tc main_v251) =
    fun _ => Ideal.div (∑ β, score ((K.areaR (X β) (Y β) : ℝ) : EReal) ((K.interR (X β) (Y β) : ℝ) : EReal) ((K.hullR (X β) (Y β) : ℝ) : EReal))
      (Ideal.ofBits .f32 0x48800000#32) := by
  rw [final_at]
  exact meanOf_scores (fun β => ratio_row (h.rows β) (h.clear β)) (fun β => unionOf_row (h.rows β) (h.clear β)) (hull_row h)

end Ciou.Ref
-- ==== Proof.KBlock.lean ====
/- The kernel's block as array functions: edge vectors, the clip of a polygon's edges by the other polygon, the tests for
   hull edges, and the whole block; `block_eq` says that the program's text is these functions composed. -/
module

public import proofs.«01_k».proof.Proof.Gen.KernelIdeal.Frame
public import Idealize.ShloMosaic.PureOps.Ideal

@[expose] public section

set_option maxRecDepth 20000

noncomputable section

namespace Ciou.K

open Idealize.ShloMosaic Idealize.ShloMosaic.TcCoe
open Cert.KernelIdeal Cert.KernelIdeal.Gen

/-- A row per vertex, a lane per batch element. -/
abbrev A8 := FVec Ideal S8x8192 .f32
/-- One row. -/
abbrev A1 := FVec Ideal S1x8192 .f32

/-- The next row in cyclic order. -/
def nxt (v : A8) : A8 :=
  concatenate S8x8192 0 [⟨S7x8192, extractStridedSlice S7x8192 ![1, 0] v slices_S8x8192_o1_0_S7x8192⟩,
    ⟨S1x8192, extractStridedSlice S1x8192 ![0, 0] v slices_S8x8192_o0_0_S1x8192⟩] concatenates_S7x8192_S1x8192_S8x8192_d0

/-- The previous row in cyclic order. -/
def prv (v : A8) : A8 :=
  concatenate S8x8192 0 [⟨S1x8192, extractStridedSlice S1x8192 ![7, 0] v slices_S8x8192_o7_0_S1x8192⟩,
    ⟨S7x8192, extractStridedSlice S7x8192 ![0, 0] v slices_S8x8192_o0_0_S7x8192⟩] concatenates_S1x8192_S7x8192_S8x8192_d0

/-- Row `j` repeated in every row. -/
def row (v : A8) (j : ℕ) (h : S8x8192.Slices ![j, 0] S1x8192) : A8 :=
  broadcastTo S8x8192 (extractStridedSlice S1x8192 ![j, 0] v h) broadcasts_S1x8192_S8x8192

/-- The literal with word `w` everywhere. -/
def lit (w : BitVec 32) : A8 := broadcast S8x8192 (Scalar.ofBits (F := Ideal) .f32 w)

/-- The cross product of two arrays of vectors. -/
def crossA (ax ay bx by' : A8) : A8 := subf (mulf ax by') (mulf ay bx)

/-- The speed at which edge `j` of the other polygon is crossed. -/
def speedA (dx dy hdx hdy : A8) (j : ℕ) (h : S8x8192.Slices ![j, 0] S1x8192) : A8 :=
  subf (mulf (row hdx j h) dy) (mulf (row hdy j h) dx)

/-- The parameter at which the line of edge `j` of the other polygon is met. -/
def ratioA (sx sy dx dy hdx hdy chd : A8) (j : ℕ) (h : S8x8192.Slices ![j, 0] S1x8192) : A8 :=
  divf (subf (lit 0x00000000#32) (addf (subf (mulf (row hdx j h) sy) (mulf (row hdy j h) sx)) (row chd j h))) (speedA dx dy hdx hdy j h)

/-- The lower bound that edge `j` puts on the parameter. -/
def loA (sx sy dx dy hdx hdy chd : A8) (j : ℕ) (h : S8x8192.Slices ![j, 0] S1x8192) : A8 :=
  select (cmpf .ogt (speedA dx dy hdx hdy j h) (lit 0x00000000#32)) (ratioA sx sy dx dy hdx hdy chd j h) (lit 0x00000000#32)

/-- The upper bound that edge `j` puts on the parameter. -/
def hiA (sx sy dx dy hdx hdy chd : A8) (j : ℕ) (h : S8x8192.Slices ![j, 0] S1x8192) : A8 :=
  select (cmpf .olt (speedA dx dy hdx hdy j h) (lit 0x00000000#32)) (ratioA sx sy dx dy hdx hdy chd j h) (lit 0x3F800000#32)

/-- Eight arrays, one per row index, combined from the first on by `op`. -/
def fold8 (op : A8 → A8 → A8) (f : (j : ℕ) → S8x8192.Slices ![j, 0] S1x8192 → A8) : A8 :=
  op (op (op (op (op (op (op (f 0 slices_S8x8192_o0_0_S1x8192) (f 1 slices_S8x8192_o1_0_S1x8192)) (f 2 slices_S8x8192_o2_0_S1x8192))
    (f 3 slices_S8x8192_o3_0_S1x8192)) (f 4 slices_S8x8192_o4_0_S1x8192)) (f 5 slices_S8x8192_o5_0_S1x8192))
    (f 6 slices_S8x8192_o6_0_S1x8192)) (f 7 slices_S8x8192_o7_0_S1x8192)

/-- Each edge's share of twice the area of the intersection. -/
def clipA (sx sy dx dy csd hdx hdy chd : A8) : A8 :=
  let t1 := fold8 maximumf (loA sx sy dx dy hdx hdy chd)
  let t2 := fold8 minimumf (hiA sx sy dx dy hdx hdy chd)
  select (cmpf .ogt t2 t1) (mulf (subf t2 t1) csd) (lit 0x00000000#32)

/-- An edge's cross product where every vertex of the other polygon lies to its left. -/
def ownA (dx dy ox oy csd : A8) : A8 :=
  select (cmpf .oge (addf (fold8 minimumf fun k h => subf (mulf dx (row oy k h)) (mulf dy (row ox k h))) csd) (lit 0x00000000#32)) csd (lit 0x00000000#32)

/-- Row `i` of the first polygon joined to every vertex of the second: the cross product where both neighbours of either end
    lie to the left. -/
def bridgeA (ox oy dox doy pdox pdoy qx qy dqx dqy pdqx pdqy : A8) (i : ℕ) (h : S8x8192.Slices ![i, 0] S1x8192) : A8 :=
  let vx := subf qx (row ox i h)
  let vy := subf qy (row oy i h)
  select (cmpf .oge (minimumf
      (minimumf (subf (mulf vx (row doy i h)) (mulf vy (row dox i h))) (subf (mulf vy (row pdox i h)) (mulf vx (row pdoy i h))))
      (minimumf (subf (mulf vy pdqx) (mulf vx pdqy)) (subf (mulf vx dqy) (mulf vy dqx)))) (lit 0x00000000#32))
    (subf (mulf (row ox i h) qy) (mulf (row oy i h) qx)) (lit 0x00000000#32)

/-- Half the sum of the rows. -/
def halfSum (v : A8) : A1 :=
  mulf (broadcast S1x8192 (Scalar.ofBits (F := Ideal) .f32 0x3F000000#32))
    (shapeCast S1x8192 (multiReduction .add [0] S8192 v 0x00000000#32 reduces_S8x8192_S8192 (.inl rfl) rfl) shapeCasts_S8192_S1x8192)

/-- The area of the intersection. -/
def interA (ax ay bx by' dax day dbx dby ca cb : A8) : A1 :=
  halfSum (addf (clipA ax ay dax day ca dbx dby cb) (clipA bx by' dbx dby cb dax day ca))

/-- The area of the hull. -/
def hullA (ax ay bx by' dax day dbx dby pdax pday pdbx pdby ca cb : A8) : A1 :=
  halfSum (addf (addf (addf (ownA dax day bx by' ca) (ownA dbx dby ax ay cb))
    (fold8 addf (bridgeA ax ay dax day pdax pday bx by' dbx dby pdbx pdby)))
    (fold8 addf (bridgeA bx by' dbx dby pdbx pdby ax ay dax day pdax pday)))

/-- The measure from the two areas' sum, the intersection and the hull. -/
def scoreA (area inter hull : A1) : A1 :=
  subf (divf inter (subf area inter)) (divf (subf hull (subf area inter)) hull)

/-- The block's result from the four coordinate arrays. -/
def polysA (ax ay bx by' : A8) : A1 :=
  let dax := subf (nxt ax) ax
  let day := subf (nxt ay) ay
  let dbx := subf (nxt bx) bx
  let dby := subf (nxt by') by'
  let ca := crossA ax ay dax day
  let cb := crossA bx by' dbx dby
  scoreA (halfSum (addf ca cb)) (interA ax ay bx by' dax day dbx dby ca cb)
    (hullA ax ay bx by' dax day dbx dby (prv dax) (prv day) (prv dbx) (prv dby) ca cb)

/-- The first polygon's rows of a block. -/
def topA (x : Vec Ideal S16x8192 .f32) : A8 :=
  extractStridedSlice S8x8192 ![0, 0] (shapeCast S16x8192 x shapeCasts_S16x8192_S16x8192) slices_S16x8192_o0_0_S8x8192

/-- The second polygon's rows of a block. -/
def botA (x : Vec Ideal S16x8192 .f32) : A8 :=
  extractStridedSlice S8x8192 ![8, 0] (shapeCast S16x8192 x shapeCasts_S16x8192_S16x8192) slices_S16x8192_o8_0_S8x8192

/-- The program's block is `polysA` of the blocks' rows. -/
theorem block_eq (x0 x1 : Vec Ideal S16x8192 .f32) :
    out0_2 x0 x1 = View.canon [⟨r0_1, polysA (topA (View.ld x0 r0_0)) (topA (View.ld x1 r0_0)) (botA (View.ld x0 r0_0)) (botA (View.ld x1 r0_0))⟩] := by
  rfl

end Ciou.K
-- ==== Proof.KLane.lean ====
/-
  A lane of the kernel's block, over the reals: where the lane's coordinates are reals and no edge of one polygon is
  parallel to one of the other, the lane's result is the measure of the real areas of KReal.
-/
module

public import proofs.«01_k».proof.Proof.KBlock
public import proofs.«01_k».proof.Proof.KReal
public import proofs.«01_k».proof.Proof.Score
public import Idealize.ShloMosaic.Lib.Pointwise

@[expose] public section

noncomputable section

open scoped Classical

namespace Ciou.K

open Idealize.ShloMosaic Idealize.ShloMosaic.TcCoe
open Cert.KernelIdeal Cert.KernelIdeal.Gen
open Idealize.ShloMosaic.Pointwise

/-- Lane `l` of `v` holds the reals `f`. -/
def Lane (l : Fin 8192) (v : A8) (f : Fin 8 → ℝ) : Prop := ∀ i : Fin 8, v (ix2 i l) = ((f i : ℝ) : EReal)

variable {l : Fin 8192}

theorem nxt_at (v : A8) (i : Fin 8) : nxt v (ix2 i l) = v (ix2 (i + 1) l) := by
  pointwise [nxt]
  fin_cases i <;> rfl

theorem prv_at (v : A8) (i : Fin 8) : prv v (ix2 i l) = v (ix2 (i - 1) l) := by
  pointwise [prv]
  fin_cases i <;> rfl

theorem row_at (v : A8) {j : ℕ} (hj : j < 8) (h : S8x8192.Slices ![j, 0] S1x8192) (i : Fin 8) :
    row v j h (ix2 i l) = v (ix2 ⟨j, hj⟩ l) := by
  pointwise [row]

theorem half_at (v : A8) : halfSum v (ix2 0 l) = Ideal.ofBits .f32 0x3F000000#32 * ∑ i : Fin 8, v (ix2 i l) := by
  pointwise [halfSum]

theorem zero_at (i : Fin 8) : lit 0x00000000#32 (ix2 i l) = 0 := by
  pointwise [lit]

theorem one_at (i : Fin 8) : lit 0x3F800000#32 (ix2 i l) = 1 := by
  pointwise [lit]

theorem Lane.prv {v : A8} {f : Fin 8 → ℝ} (h : Lane l v f) : Lane l (prv v) (fun i => f (i - 1)) := fun i => by
  rw [prv_at, h]

/-- The edge vectors' coordinate. -/
theorem Lane.edge {v : A8} {X : Bool → Fin 8 → ℝ} {s : Bool} (h : Lane l v (X s)) : Lane l (subf (nxt v) v) (dx X s) := fun i => by
  pointwise
  rw [nxt_at, h, h, ← EReal.coe_sub]
  rfl

theorem Lane.cross {ax ay bx by' : A8} {f g f' g' : Fin 8 → ℝ} (h1 : Lane l ax f) (h2 : Lane l ay g) (h3 : Lane l bx f')
    (h4 : Lane l by' g') : Lane l (crossA ax ay bx by') (fun i => f i * g' i - g i * f' i) := fun i => by
  pointwise [crossA]
  rw [h1, h2, h3, h4, ← EReal.coe_mul, ← EReal.coe_mul, ← EReal.coe_sub]

/-- Half the sum of a lane's reals. -/
theorem Lane.half {v : A8} {f : Fin 8 → ℝ} (h : Lane l v f) : halfSum v (ix2 0 l) = ((1 / 2 * ∑ i, f i : ℝ) : EReal) := by
  rw [half_at, ofBits_half, Finset.sum_congr rfl fun i _ => h i, coe_sum, EReal.coe_mul]

theorem Lane.add {v w : A8} {f g : Fin 8 → ℝ} (h : Lane l v f) (h' : Lane l w g) : Lane l (addf v w) (fun i => f i + g i) := fun i => by
  pointwise
  rw [h, h', ← EReal.coe_add]

section Fold

variable {f : (j : ℕ) → S8x8192.Slices ![j, 0] S1x8192 → A8} {g : Fin 8 → Fin 8 → ℝ}
  (hf : ∀ (j : ℕ) (hj : j < 8) (h : S8x8192.Slices ![j, 0] S1x8192), Lane l (f j h) (g ⟨j, hj⟩))

include hf

theorem fold_max (i : Fin 8) :
    fold8 maximumf f (ix2 i l) = ((Finset.univ.sup' Finset.univ_nonempty fun j => g j i : ℝ) : EReal) := by
  rw [← max8]
  simp only [← coe_max]
  pointwise [fold8]
  rw [hf 0 (by norm_num), hf 1 (by norm_num), hf 2 (by norm_num), hf 3 (by norm_num), hf 4 (by norm_num), hf 5 (by norm_num),
    hf 6 (by norm_num), hf 7 (by norm_num)]
  rfl

theorem fold_min (i : Fin 8) :
    fold8 minimumf f (ix2 i l) = ((Finset.univ.inf' Finset.univ_nonempty fun j => g j i : ℝ) : EReal) := by
  rw [← min8]
  simp only [← coe_min]
  pointwise [fold8]
  rw [hf 0 (by norm_num), hf 1 (by norm_num), hf 2 (by norm_num), hf 3 (by norm_num), hf 4 (by norm_num), hf 5 (by norm_num),
    hf 6 (by norm_num), hf 7 (by norm_num)]
  rfl

theorem fold_add (i : Fin 8) : fold8 addf f (ix2 i l) = ((∑ j, g j i : ℝ) : EReal) := by
  rw [Fin.sum_univ_eight]
  simp only [EReal.coe_add]
  pointwise [fold8]
  rw [hf 0 (by norm_num), hf 1 (by norm_num), hf 2 (by norm_num), hf 3 (by norm_num), hf 4 (by norm_num), hf 5 (by norm_num),
    hf 6 (by norm_num), hf 7 (by norm_num)]
  rfl

end Fold

section Polys

variable {X Y : Bool → Fin 8 → ℝ} {s : Bool} {ox oy qx qy dox doy dqx dqy co cq : A8}
  (hox : Lane l ox (X s)) (hoy : Lane l oy (Y s)) (hqx : Lane l qx (X (!s))) (hqy : Lane l qy (Y (!s)))
  (hdox : Lane l dox (dx X s)) (hdoy : Lane l doy (dx Y s)) (hdqx : Lane l dqx (dx X (!s))) (hdqy : Lane l dqy (dx Y (!s)))
  (hco : Lane l co (cr X Y s)) (hcq : Lane l cq (cr X Y (!s)))

include hdox hdoy hdqx hdqy in
theorem lane_speed {j : ℕ} (hj : j < 8) (h : S8x8192.Slices ![j, 0] S1x8192) (i : Fin 8) :
    speedA dox doy dqx dqy j h (ix2 i l) = ((cd X Y s i ⟨j, hj⟩ : ℝ) : EReal) := by
  pointwise [speedA]
  rw [row_at _ hj, row_at _ hj, hdox, hdoy, hdqx, hdqy, ← EReal.coe_mul, ← EReal.coe_mul, ← EReal.coe_sub]
  rfl

include hox hoy hdox hdoy hdqx hdqy hcq in
theorem lane_ratio (hpar : ∀ i j, cd X Y s i j ≠ 0) {j : ℕ} (hj : j < 8) (h : S8x8192.Slices ![j, 0] S1x8192) (i : Fin 8) :
    ratioA ox oy dox doy dqx dqy cq j h (ix2 i l) = ((-c0 X Y s i ⟨j, hj⟩ / cd X Y s i ⟨j, hj⟩ : ℝ) : EReal) := by
  have e : c0 X Y s i ⟨j, hj⟩ = dx X (!s) ⟨j, hj⟩ * Y s i - dx Y (!s) ⟨j, hj⟩ * X s i + cr X Y (!s) ⟨j, hj⟩ := by
    unfold c0 side cr; ring
  pointwise [ratioA]
  rw [lane_speed hdox hdoy hdqx hdqy hj, row_at _ hj, row_at _ hj, row_at _ hj, hox, hoy, hdqx, hdqy, hcq, zero_at,
    ← EReal.coe_mul, ← EReal.coe_mul, ← EReal.coe_sub, ← EReal.coe_add, ← e, ← EReal.coe_zero, ← EReal.coe_sub,
    zero_sub, coe_div (hpar _ _)]

include hox hoy hdox hdoy hdqx hdqy hcq in
theorem lane_lo (hpar : ∀ i j, cd X Y s i j ≠ 0) (j : ℕ) (hj : j < 8) (h : S8x8192.Slices ![j, 0] S1x8192) :
    Lane l (loA ox oy dox doy dqx dqy cq j h) (fun i => lo (c0 X Y s i) (cd X Y s i) ⟨j, hj⟩) := fun i => by
  pointwise [loA]
  rw [lane_speed hdox hdoy hdqx hdqy hj, lane_ratio hox hoy hdox hdoy hdqx hdqy hcq hpar hj, zero_at, ← EReal.coe_zero,
    coe_ite]
  simp only [EReal.coe_lt_coe_iff]
  rfl

include hox hoy hdox hdoy hdqx hdqy hcq in
theorem lane_hi (hpar : ∀ i j, cd X Y s i j ≠ 0) (j : ℕ) (hj : j < 8) (h : S8x8192.Slices ![j, 0] S1x8192) :
    Lane l (hiA ox oy dox doy dqx dqy cq j h) (fun i => hi (c0 X Y s i) (cd X Y s i) ⟨j, hj⟩) := fun i => by
  pointwise [hiA]
  rw [lane_speed hdox hdoy hdqx hdqy hj, lane_ratio hox hoy hdox hdoy hdqx hdqy hcq hpar hj, zero_at, one_at, ← EReal.coe_zero,
    ← EReal.coe_one, coe_ite]
  simp only [EReal.coe_lt_coe_iff]
  rfl

include hox hoy hdox hdoy hdqx hdqy hco hcq in
theorem lane_clip (hpar : ∀ i j, cd X Y s i j ≠ 0) : Lane l (clipA ox oy dox doy co dqx dqy cq) (clipR X Y s) := fun i => by
  have e1 := fold_max (g := fun j i => lo (c0 X Y s i) (cd X Y s i) j) (lane_lo hox hoy hdox hdoy hdqx hdqy hcq hpar) i
  have e2 := fold_min (g := fun j i => hi (c0 X Y s i) (cd X Y s i) j) (lane_hi hox hoy hdox hdoy hdqx hdqy hcq hpar) i
  unfold clipA
  generalize fold8 maximumf (loA ox oy dox doy dqx dqy cq) = t1 at *
  generalize fold8 minimumf (hiA ox oy dox doy dqx dqy cq) = t2 at *
  pointwise
  rw [e1, e2, hco, zero_at, ← EReal.coe_sub, ← EReal.coe_mul, ← EReal.coe_zero, coe_ite]
  unfold clipR
  congr 1
  exact if_congr EReal.coe_lt_coe_iff rfl rfl

include hqx hqy hdox hdoy hco in
theorem lane_own : Lane l (ownA dox doy qx qy co) (ownR X Y s) := fun i => by
  have e := fold_min (f := fun k h => subf (mulf dox (row qy k h)) (mulf doy (row qx k h)))
    (g := fun k i => dx X s i * Y (!s) k - dx Y s i * X (!s) k) (l := l) (fun k hk h i => by
      pointwise
      rw [row_at _ hk, row_at _ hk, hdox, hdoy, hqx, hqy, ← EReal.coe_mul, ← EReal.coe_mul, ← EReal.coe_sub]) i
  unfold ownA
  generalize (fold8 minimumf fun k h => subf (mulf dox (row qy k h)) (mulf doy (row qx k h))) = m at *
  pointwise
  rw [e, hco, zero_at, ← EReal.coe_add, ← EReal.coe_zero, coe_ite]
  unfold ownR
  congr 1
  refine @if_congr _ _ _ _ _ _ _ _ _ ?_ rfl rfl
  rw [EReal.coe_le_coe_iff, ← neg_le_iff_add_nonneg, Finset.le_inf'_iff]
  simp only [Finset.mem_univ, true_imp_iff]
  refine forall_congr' fun k => ?_
  rw [neg_le_iff_add_nonneg]
  have : dx X s i * Y (!s) k - dx Y s i * X (!s) k + cr X Y s i = side X Y s i (X (!s) k) (Y (!s) k) := by
    unfold cr side; ring
  rw [this]

include hox hoy hqx hqy hdox hdoy hdqx hdqy in
theorem lane_bridge (i : ℕ) (hi : i < 8) (h : S8x8192.Slices ![i, 0] S1x8192) :
    Lane l (bridgeA ox oy dox doy (prv dox) (prv doy) qx qy dqx dqy (prv dqx) (prv dqy) i h)
      (bridgeR X Y s ⟨i, hi⟩) := fun r => by
  pointwise [bridgeA]
  simp only [row_at _ hi, prv_at, hox _, hoy _, hqx _, hqy _, hdox _, hdoy _, hdqx _, hdqy _, zero_at, ← EReal.coe_mul,
    ← EReal.coe_sub, coe_min]
  rw [← EReal.coe_zero, coe_ite]
  unfold bridgeR
  congr 1
  refine if_congr ?_ rfl rfl
  rw [EReal.coe_le_coe_iff, le_min_iff, le_min_iff, le_min_iff]
  rfl

end Polys

/-- A lane's result is the measure of its real areas. -/
theorem lane_polys {X Y : Bool → Fin 8 → ℝ} {ax ay bx by' : A8} (hax : Lane l ax (X false)) (hay : Lane l ay (Y false))
    (hbx : Lane l bx (X true)) (hby : Lane l by' (Y true)) (hpar : ∀ s i j, cd X Y s i j ≠ 0) :
    polysA ax ay bx by' (ix2 0 l) = score (areaR X Y) (interR X Y) (hullR X Y) := by
  have hdax := hax.edge
  have hday := hay.edge
  have hdbx := hbx.edge
  have hdby := hby.edge
  have hca : Lane l (crossA ax ay (subf (nxt ax) ax) (subf (nxt ay) ay)) (cr X Y false) := hax.cross hay hdax hday
  have hcb : Lane l (crossA bx by' (subf (nxt bx) bx) (subf (nxt by') by')) (cr X Y true) := hbx.cross hby hdbx hdby
  have e1 := (hca.add hcb).half
  have e2 := ((lane_clip (s := false) hax hay hdax hday hdbx hdby hca hcb (hpar _)).add
    (lane_clip (s := true) hbx hby hdbx hdby hdax hday hcb hca (hpar _))).half
  have b1 : Lane l _ _ := fun r => fold_add (lane_bridge (s := false) hax hay hbx hby hdax hday hdbx hdby) r
  have b2 : Lane l _ _ := fun r => fold_add (lane_bridge (s := true) hbx hby hax hay hdbx hdby hdax hday) r
  have e3 := ((((lane_own (s := false) hbx hby hdax hday hca).add (lane_own (s := true) hax hay hdbx hdby hcb)).add b1).add b2).half
  unfold polysA
  unfold scoreA interA hullA
  generalize halfSum (addf (crossA ax ay (subf (nxt ax) ax) (subf (nxt ay) ay)) (crossA bx by' (subf (nxt bx) bx) (subf (nxt by') by'))) = v1 at *
  generalize halfSum (addf (clipA ax ay _ _ _ _ _ _) _) = v2 at *
  generalize halfSum (addf (addf _ _) _) = v3 at *
  pointwise
  rw [e1, e2, e3]
  rfl

end Ciou.K
-- ==== Proof.KRun.lean ====
/-
  The kernel's run over the reals: where every coordinate is a real and no edge of one polygon of a pair is parallel to one
  of the other, the result is the mean over the pairs of the measure of KLane.
-/
module

public import proofs.«01_k».proof.Proof.KLane
public import Idealize.ShloMosaic.Lib.Pipeline.ValueKit
public import Idealize.ShloMosaic.Lib.StableHlo.RunRead

@[expose] public section

noncomputable section

namespace Ciou.K

open Idealize.ShloMosaic Idealize.ShloMosaic.TcCoe Idealize.SL.Sem
open Cert.KernelIdeal Cert.KernelIdeal.Gen
open Idealize.ShloMosaic.Pointwise
open Idealize.ShloMosaic.Pipeline (Dat)

/-- A polygon array. -/
abbrev Poly := FVec Ideal S262144x8x2 .f32

/-- A coordinate of both polygons' vertices, a row per vertex, a lane per pair. -/
def coordA (a b : Poly) (k : Fin 2) (h : S262144x16x2.Slices ![0, 0, k.val] S262144x16x1) : FVec Ideal S16x262144 .f32 :=
  transpose S16x262144 [1, 0]
    (shapeCast S262144x16 (extractStridedSlice S262144x16x1 ![0, 0, k.val]
      (concatenate S262144x16x2 1 [⟨S262144x8x2, a⟩, ⟨S262144x8x2, b⟩] concatenates_S262144x8x2_S262144x8x2_S262144x16x2_d1) h)
      shapeCasts_S262144x16x1_S262144x16) transposes_S262144x16_S16x262144_1_0

/-- The first eight rows are the first polygon's … -/
theorem coord_top (a b : Poly) (k : Fin 2) (h) (i : Fin 8) (β : Fin 262144) :
    coordA a b k h (ix2 ⟨i.val, by omega⟩ β) = a (ix3 β i k) := by
  have hi : i.val < 8 := i.isLt
  pointwise [coordA]

/-- … and the rest the second's. -/
theorem coord_bot (a b : Poly) (k : Fin 2) (h) (i : Fin 8) (β : Fin 262144) :
    coordA a b k h (ix2 ⟨8 + i.val, by omega⟩ β) = b (ix3 β i k) := by
  have hi : i.val < 8 := i.isLt
  pointwise [coordA]

variable (m : (ℓ : Loc nD τ sig) → Buf (Elt Ideal) ℓ) (c : Dev nD)

theorem idx0 : ∀ t : Fin cfg0.N, win0_0.index t = ![0, t.val] :=
  (by decide +kernel : ∀ t : Fin grid0.N, win0_0.index t = ![0, t.val])
theorem idx1 : ∀ t : Fin cfg0.N, win0_1.index t = ![0, t.val] :=
  (by decide +kernel : ∀ t : Fin grid0.N, win0_1.index t = ![0, t.val])
theorem idx2 : ∀ t : Fin cfg0.N, win0_2.index t = ![0, t.val] :=
  (by decide +kernel : ∀ t : Fin grid0.N, win0_2.index t = ![0, t.val])

theorem entry_x : V m c main_v3 = coordA (m (c, Proc.devRef .tc main_arg0)) (m (c, Proc.devRef .tc main_arg1)) 0 slices_S262144x16x2_S262144x16x1_0_0_0 := by
  unfold V V0
  simp only [List.flatten_cons, List.flatten_nil, List.append_nil]
  after_reads_simp
  rfl

theorem entry_y : V m c main_v6 = coordA (m (c, Proc.devRef .tc main_arg0)) (m (c, Proc.devRef .tc main_arg1)) 1 slices_S262144x16x2_S262144x16x1_0_0_1 := by
  unfold V V0
  simp only [List.flatten_cons, List.flatten_nil, List.append_nil]
  after_reads_simp
  rfl

/-- The pair a lane of a block holds. -/
def pair (t : Fin cfg0.N) (l : Fin 8192) : Fin 262144 :=
  ⟨t.val * 8192 + l.val, by have : t.val < 32 := lt_of_lt_of_eq t.isLt N_0; omega⟩

theorem iblk0 (t : Fin cfg0.N) (k : Fin 16) (l : Fin 8192) : iblk m c 0 t (ix2 k l) = V m c main_v3 (ix2 k (pair t l)) := by
  blk_simp [iblk]
  refine congrArg _ (funext fun a => Fin.ext ?_)
  match a with
  | ⟨0, _⟩ => show (((win0_0.blk t).view.emb (ix2 k l)) 0 : ℕ) = k.val; blk_simp [idx0]
  | ⟨1, _⟩ => show (((win0_0.blk t).view.emb (ix2 k l)) 1 : ℕ) = t.val * 8192 + l.val; blk_simp [idx0]

theorem iblk1 (t : Fin cfg0.N) (k : Fin 16) (l : Fin 8192) : iblk m c 1 t (ix2 k l) = V m c main_v6 (ix2 k (pair t l)) := by
  blk_simp [iblk]
  refine congrArg _ (funext fun a => Fin.ext ?_)
  match a with
  | ⟨0, _⟩ => show (((win0_1.blk t).view.emb (ix2 k l)) 0 : ℕ) = k.val; blk_simp [idx1]
  | ⟨1, _⟩ => show (((win0_1.blk t).view.emb (ix2 k l)) 1 : ℕ) = t.val * 8192 + l.val; blk_simp [idx1]

theorem top_at (x : Vec Ideal S16x8192 .f32) (i : Fin 8) (l : Fin 8192) : topA x (ix2 i l) = x (ix2 ⟨i.val, by omega⟩ l) := by
  pointwise [topA]

theorem bot_at (x : Vec Ideal S16x8192 .f32) (i : Fin 8) (l : Fin 8192) : botA x (ix2 i l) = x (ix2 ⟨8 + i.val, by omega⟩ l) := by
  pointwise [botA]

variable {m c} {X Y : Fin 262144 → Bool → Fin 8 → ℝ}

/-- The two polygon arrays hold the reals `X`, `Y`. -/
structure Holds (a b : Poly) (X Y : Fin 262144 → Bool → Fin 8 → ℝ) : Prop where
  ax : ∀ β i, a (ix3 β i 0) = ((X β false i : ℝ) : EReal)
  ay : ∀ β i, a (ix3 β i 1) = ((Y β false i : ℝ) : EReal)
  bx : ∀ β i, b (ix3 β i 0) = ((X β true i : ℝ) : EReal)
  by' : ∀ β i, b (ix3 β i 1) = ((Y β true i : ℝ) : EReal)

/-- The measure of a pair, by the kernel's areas. -/
def scoreK (X Y : Fin 262144 → Bool → Fin 8 → ℝ) (β : Fin 262144) : EReal :=
  score (areaR (X β) (Y β)) (interR (X β) (Y β)) (hullR (X β) (Y β))

variable (h : Holds (m (c, Proc.devRef .tc main_arg0)) (m (c, Proc.devRef .tc main_arg1)) X Y)
  (hpar : ∀ β s i j, cd (X β) (Y β) s i j ≠ 0)

include h hpar

theorem block_lane (t : Fin cfg0.N) (l : Fin 8192) : out0_2 (iblk m c 0 t) (iblk m c 1 t) (ix2 0 l) = scoreK X Y (pair t l) := by
  have hz : (![0, 0] : Fin 2 → ℕ) = fun _ => 0 := funext fun a => by fin_cases a <;> rfl
  rw [block_eq, View.canon_unit_zero hz, View.ld_unit_zero hz, View.ld_unit_zero hz]
  refine lane_polys (X := X (pair t l)) (Y := Y (pair t l)) (fun i => ?_) (fun i => ?_) (fun i => ?_) (fun i => ?_) (hpar _)
  · rw [top_at, iblk0, entry_x, coord_top]; exact h.ax _ _
  · rw [top_at, iblk1, entry_y, coord_top]; exact h.ay _ _
  · rw [bot_at, iblk0, entry_x, coord_bot]; exact h.bx _ _
  · rw [bot_at, iblk1, entry_y, coord_bot]; exact h.by' _ _

/-- The result array of the region. -/
theorem result : (dats m 0 c).arrAt 2 cfg0.N = fun i : S1x262144.Idx => scoreK X Y (i 1) := by
  refine (dats m 0 c).arrAt_eq_of_covers 2 _ (by decide +kernel) fun t hf y => ?_
  blk_simp
  rw [after0_2]
  have e : y = ix2 (0 : Fin 1) (y 1 : Fin 8192) := funext fun a => by
    match a with
    | ⟨0, _⟩ => exact Fin.ext (Nat.lt_one_iff.1 (y 0).isLt)
    | ⟨1, _⟩ => rfl
  refine (congrArg _ e).trans ((block_lane h hpar t (y 1)).trans (congrArg _ (Fin.ext ?_)))
  show t.val * 8192 + (y 1).val = (((win0_2.blk t).view.emb y) 1 : ℕ)
  blk_simp [idx2]

/-- The program's result: the mean of the pairs' measures. -/
theorem mean : Pipeline.afterTail₀ cfgs (dats m) 0 (V0 m) [hostOps1] c main_v9
    = fun _ => Ideal.div (∑ β, scoreK X Y β) (Ideal.ofBits .f32 0x48800000#32) := by
  have e := Pipeline.withArrays_arr (cfgs 0).spec launch0.win.arr_inj c (V0 m c) (fun w => (dats m 0 c).arrAt w (cfgs 0).N) 2
  rw [show (dats m 0 c).arrAt 2 (cfgs 0).N = _ from result h hpar] at e
  unfold Pipeline.afterTail₀
  generalize Pipeline.withArrays (cfgs 0).spec c (V0 m c) (fun w => (dats m 0 c).arrAt w (cfgs 0).N) = W at *
  simp only [List.flatten_cons, List.flatten_nil, List.append_nil]
  after_reads_simp
  have e' : W (Proc.devRef .tc main_v7) = fun i : S1x262144.Idx => scoreK X Y (i 1) := e
  rw [e']
  funext i
  pointwise
  simp only [Finset.univ_unique, Finset.sum_singleton]

end Ciou.K
-- ==== Proof.Given.lean ====
/-
  What the conditions of general position give: the polygon arrays hold reals, and the reals of every pair are two strictly
  convex counterclockwise polygons, clear of each other's tolerance bands, without nearly parallel edges or nearly equal points.
-/
module

public import proofs.«01_k».proof.Proof.PreShape
public import proofs.«01_k».proof.Proof.RefMean
public import proofs.«01_k».proof.Proof.KRun

@[expose] public section

noncomputable section

open scoped Classical

namespace Ciou.Pre

open Idealize.ShloMosaic Cert.Pre_general_position
open Idealize.ShloMosaic.Pointwise
open Ciou.Ref (coe_abs tol_nonpos ofBits_top pointOf pointOf_bijective)

variable [Facts]

/-- An extended real of absolute value below the infinity is a real. -/
theorem real_of {x : EReal} (h : FloatOps.absf (F := Ideal) (φ := .f32) x < Ideal.ofBits .f32 0x7F800000#32) : x = ((x.toReal : ℝ) : EReal) := by
  rw [ofBits_top] at h
  change max x (-x) < ⊤ at h
  refine (EReal.coe_toReal ?_ ?_).symm
  · rintro rfl
    exact absurd h (by simp)
  · rintro rfl
    exact absurd h (by simp)

/-- The real coordinates of the pairs: `false` the first polygon, `true` the second. -/
def reals (a b : P2) (d : Fin 2) (β : Fin 262144) (s : Bool) (i : Fin 8) : ℝ :=
  (if s then b (ix3 β i d) else a (ix3 β i d)).toReal

/-- The array of polygon `s`. -/
def poly (a b : P2) (s : Bool) : P2 := if s then b else a

section Read

variable {a b : P2} (ha : ∀ s, finiteOf (poly a b s) = fun _ => 1#1) (β : Fin 262144)

include ha

theorem real_at (s : Bool) (i : Fin 8) (d : Fin 2) : poly a b s (ix3 β i d) = ((reals a b d β s i : ℝ) : EReal) := by
  refine (real_of (finite_of β (ha s) i d)).trans ?_
  cases s <;> rfl

theorem xs_real (s : Bool) (i : Fin 8) : xs (poly a b s) (ix2 β i) = ((reals a b 0 β s i : ℝ) : EReal) := by
  rw [xs_at, real_at ha]

theorem ys_real (s : Bool) (i : Fin 8) : ys (poly a b s) (ix2 β i) = ((reals a b 1 β s i : ℝ) : EReal) := by
  rw [ys_at, real_at ha]

/-- Twice the signed area of an edge of polygon `s` with a point of polygon `r`. -/
theorem sides_real (s r : Bool) (i k : Fin 8) :
    sides (xs (poly a b s)) (ys (poly a b s)) (xs (poly a b r)) (ys (poly a b r)) (ix3 β i k) =
      ((side (reals a b 0 β) (reals a b 1 β) s i (reals a b 0 β r k) (reals a b 1 β r k) : ℝ) : EReal) := by
  rw [sides_at]
  simp only [xs_real ha, ys_real ha, ← EReal.coe_sub, ← EReal.coe_mul]
  rfl

theorem cat_real (v : Bool → P8) (f : Bool → Fin 8 → ℝ) (hv : ∀ s i, v s (ix2 β i) = ((f s i : ℝ) : EReal)) (p : Fin 16) :
    cat (v false) (v true) (ix2 β p) = ((both f (pointOf p) : ℝ) : EReal) := by
  rw [cat_at]
  by_cases h : p.val < 8
  · rw [dif_pos h, hv, pointOf, dif_pos h]
    rfl
  · rw [dif_neg h, hv, pointOf, dif_neg h]
    rfl

end Read

theorem steep_pos : 0 < Ideal.ofBits .f32 0x3089705F#32 := by
  simp [Ideal.ofBits, Ideal.ieee, -EReal.coe_mul]

/-- Parallel edges are excluded by the steepness. -/
theorem par_of {X Y : Bool → Fin 8 → ℝ} (h : ∀ i j, Ideal.ofBits .f32 0x3089705F#32 ≤ ((|cd X Y true j i| : ℝ) : EReal)) (s : Bool)
    (i j : Fin 8) : cd X Y s i j ≠ 0 := by
  have e (i j : Fin 8) : cd X Y true j i ≠ 0 := fun z => by
    have := steep_pos.trans_le (h i j)
    rw [z, abs_zero] at this
    exact lt_irrefl _ this
  cases s
  · intro z
    refine e i j ?_
    have := cd_swap (X := X) (Y := Y) false i j
    rw [z, neg_zero] at this
    exact this
  · exact e j i

/-- The conditions, polygon by polygon. -/
structure General (a b : P2) : Prop where
  finite : ∀ s, finiteOf (poly a b s) = fun _ => 1#1
  convex : ∀ s, convex (xs (poly a b s)) (ys (poly a b s)) = fun _ => 1#1
  clear : ∀ s, clearOf (xs (poly a b s)) (ys (poly a b s)) (xs (poly a b (!s))) (ys (poly a b (!s))) = fun _ => 1#1
  steep : steepOf (xs (poly a b false)) (ys (poly a b false)) (xs (poly a b true)) (ys (poly a b true)) = fun _ => 1#1
  apart : apartOf (cat (xs (poly a b false)) (xs (poly a b true))) (cat (ys (poly a b false)) (ys (poly a b true))) = fun _ => 1#1

/-- The conditions' eight results, all true. -/
theorem general_of {a b : P2} (h : (fn (F := Ideal) a b).1 = (fun _ => 1#1) ∧ (fn (F := Ideal) a b).2.1 = (fun _ => 1#1)
    ∧ (fn (F := Ideal) a b).2.2.1 = (fun _ => 1#1) ∧ (fn (F := Ideal) a b).2.2.2.1 = (fun _ => 1#1)
    ∧ (fn (F := Ideal) a b).2.2.2.2.1 = (fun _ => 1#1) ∧ (fn (F := Ideal) a b).2.2.2.2.2.1 = (fun _ => 1#1)
    ∧ (fn (F := Ideal) a b).2.2.2.2.2.2.1 = (fun _ => 1#1) ∧ (fn (F := Ideal) a b).2.2.2.2.2.2.2 = fun _ => 1#1) : General a b := by
  rw [fn_eq] at h
  obtain ⟨f1, f2, c1, c2, k1, k2, st, ap⟩ := h
  exact ⟨Bool.rec f1 f2, Bool.rec c1 c2, Bool.rec k1 k2, st, ap⟩

section General

variable {a b : P2} (h : General a b) (β : Fin 262144)

include h

theorem General.band (s : Bool) (i k : Fin 8) :
    0 < side (reals a b 0 β) (reals a b 1 β) s i (reals a b 0 β (!s) k) (reals a b 1 β (!s) k) ∨
      ((side (reals a b 0 β) (reals a b 1 β) s i (reals a b 0 β (!s) k) (reals a b 1 β (!s) k) : ℝ) : EReal) < Ideal.ofBits .f32 0xB58637BD#32 := by
  have := clear_of β (h.clear s) i k
  rw [sides_real h.finite β s (!s)] at this
  exact this.imp_left fun e => EReal.coe_pos.1 e

theorem General.far (i j : Fin 8) :
    Ideal.ofBits .f32 0x3089705F#32 ≤ ((|cd (reals a b 0 β) (reals a b 1 β) true j i| : ℝ) : EReal) := by
  have := steep_of β h.steep i j
  simp only [xs_real h.finite, ys_real h.finite, ← EReal.coe_sub, ← EReal.coe_mul] at this
  rw [coe_abs] at this
  exact this

theorem General.row_clear : Ref.Clear (reals a b 0 β) (reals a b 1 β) where
  conv s i k h0 h1 := by
    have := convex_of β (h.convex s) h0 h1
    rw [sides_real h.finite β s s] at this
    exact EReal.coe_pos.1 this
  sep s i k e := by
    rcases h.band β s i k with g | g
    · exact absurd e (ne_of_gt g)
    · rw [e] at g
      exact absurd (g.trans_le tol_nonpos) (lt_irrefl _)
  par := par_of (h.far β)
  band := h.band β
  steep := h.far β

theorem General.row_apart (p q : Bool × Fin 8) (hpq : p ≠ q) : Ideal.ofBits .f32 0x24E69595#32 ≤
    (((both (reals a b 0 β) q - both (reals a b 0 β) p) * (both (reals a b 0 β) q - both (reals a b 0 β) p)
      + (both (reals a b 1 β) q - both (reals a b 1 β) p) * (both (reals a b 1 β) q - both (reals a b 1 β) p) : ℝ) : EReal) := by
  obtain ⟨p, rfl⟩ := pointOf_bijective.2 p
  obtain ⟨q, rfl⟩ := pointOf_bijective.2 q
  have := apart_of β h.apart (p := p) (q := q) fun e => hpq (congrArg _ e)
  rw [cat_real h.finite β (fun s => xs (poly a b s)) (reals a b 0 β) (xs_real h.finite β),
    cat_real h.finite β (fun s => xs (poly a b s)) (reals a b 0 β) (xs_real h.finite β),
    cat_real h.finite β (fun s => ys (poly a b s)) (reals a b 1 β) (ys_real h.finite β),
    cat_real h.finite β (fun s => ys (poly a b s)) (reals a b 1 β) (ys_real h.finite β)] at this
  rw [← EReal.coe_sub, ← EReal.coe_sub, ← EReal.coe_mul, ← EReal.coe_mul, ← EReal.coe_add] at this
  exact this

/-- The kernel's arrays hold the reals. -/
theorem General.holds : K.Holds a b (fun β => reals a b 0 β) (fun β => reals a b 1 β) where
  ax β i := real_at h.finite β false i 0
  ay β i := real_at h.finite β false i 1
  bx β i := real_at h.finite β true i 0
  by' β i := real_at h.finite β true i 1

/-- The reference's rows hold the reals, and the reals are in general position. -/
theorem General.given : Ref.Given a b (fun β => reals a b 0 β) (fun β => reals a b 1 β) where
  rows β := ⟨fun i => (Ref.px_row a i).trans (h.holds.ax β i), fun i => (Ref.py_row a i).trans (h.holds.ay β i),
    fun i => (Ref.px_row b i).trans (h.holds.bx β i), fun i => (Ref.py_row b i).trans (h.holds.by' β i)⟩
  clear := h.row_clear
  apart := h.row_apart

end General

end Ciou.Pre
-- ==== Proof.lean ====
/-
  The proof of `Cert.Claim`: the frames of the kernel, at the machine's floats and over the reals, and of the reference; and
  that the kernel's mean and the reference's are the same over the reals, of polygons in general position.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_general_position
public import proofs.«01_k».proof.Proof.RefRun
public import proofs.«01_k».proof.Proof.Given

public import Idealize.ShloMosaic.Adequacy
public import Idealize.ShloMosaic.Init
public import Idealize.ShloMosaic.Lib.Quiescent

@[expose] public section

noncomputable section

namespace Cert.Proof

open Idealize.ShloMosaic Idealize.SL.Sem

/-- Any run of the reference ends, its arguments as they were and its counters zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => ⟨(h c Cert.ReferenceIdeal.main_arg0 rfl).trans (Ciou.Ref.args_kept m c).1,
        (h c Cert.ReferenceIdeal.main_arg1 rfl).trans (Ciou.Ref.args_kept m c).2⟩,
      Idealize.ShloMosaic.sem_eq_zero_of_no_sems (by decide) r.2⟩)
    (Cert.ReferenceIdeal.Value.run_fold (F := Ideal) m g)

section Equal

variable (m : (ℓ : Loc Cert.KernelIdeal.nD Cert.KernelIdeal.τ Cert.KernelIdeal.sig) → Buf (Elt Ideal) ℓ)

/-- The first argument of a device. -/
abbrev first (c : Dev Cert.KernelIdeal.nD) : Ciou.K.Poly := m ((c.tc : Thread Cert.KernelIdeal.nD Cert.KernelIdeal.τ).loc Cert.KernelIdeal.main_arg0)

/-- The second argument of a device. -/
abbrev second (c : Dev Cert.KernelIdeal.nD) : Ciou.K.Poly := m ((c.tc : Thread Cert.KernelIdeal.nD Cert.KernelIdeal.τ).loc Cert.KernelIdeal.main_arg1)

/-- The mean over the pairs of a device, of the measure by their areas, their intersections' and their hulls'. -/
def value (c : Dev Cert.KernelIdeal.nD) : Buf (Elt Ideal) ((c.tc : Thread Cert.KernelIdeal.nD Cert.KernelIdeal.τ).loc Cert.KernelIdeal.main_v9) :=
  fun _ => Ideal.div (∑ β, Ciou.K.scoreK (fun β => Ciou.Pre.reals (first m c) (second m c) 0 β) (fun β => Ciou.Pre.reals (first m c) (second m c) 1 β) β)
    (Ideal.ofBits .f32 0x48800000#32)

variable {m} (general : ∀ c, Ciou.Pre.General (first m c) (second m c))

include general

/-- The kernel ends with that mean. -/
theorem kernel_value (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v9) = value m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono
    (fun r h c => ⟨((h c).2 Cert.KernelIdeal.main_v9 (Pipeline.mem_restRefs_of Cert.KernelIdeal.main_v9 (by decide) (by decide))).trans
        (Ciou.K.mean (general c).holds fun β => ((general c).row_clear β).par),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c)⟩)
    (Cert.KernelIdeal.Gen.run_main m g)

/-- The reference, of the same arguments, ends with the same mean. -/
theorem reference_value (m' : (ℓ : Loc Cert.ReferenceIdeal.nD Cert.ReferenceIdeal.τ Cert.ReferenceIdeal.sig) → Buf (Elt Ideal) ℓ)
    (g' : Dev Cert.ReferenceIdeal.nD → PrngReg)
    (same : ∀ c : Dev Cert.KernelIdeal.nD,
      m' ((c.tc : Thread Cert.ReferenceIdeal.nD Cert.ReferenceIdeal.τ).loc Cert.ReferenceIdeal.main_arg0) = first m c
      ∧ m' ((c.tc : Thread Cert.ReferenceIdeal.nD Cert.ReferenceIdeal.τ).loc Cert.ReferenceIdeal.main_arg1) = second m c) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v251) = value m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  have given (c : Dev Cert.ReferenceIdeal.nD) : Ciou.Ref.Given (Ciou.Ref.argA m' c) (Ciou.Ref.argB m' c)
      (fun β => Ciou.Pre.reals (first m c) (second m c) 0 β) (fun β => Ciou.Pre.reals (first m c) (second m c) 1 β) := by
    have ea : Ciou.Ref.argA m' c = first m c := (same c).1
    have eb : Ciou.Ref.argB m' c = second m c := (same c).2
    rw [ea, eb]
    exact (general c).given
  exact (θ_run Cert.ReferenceIdeal.defs _ _).mono
    (fun r h c => ⟨(h c Cert.ReferenceIdeal.main_v251 rfl).trans (Ciou.Ref.mean (given c)),
      (h c Cert.ReferenceIdeal.main_arg0 rfl).trans (Ciou.Ref.args_kept m' c).1,
      (h c Cert.ReferenceIdeal.main_arg1 rfl).trans (Ciou.Ref.args_kept m' c).2⟩)
    (Cert.ReferenceIdeal.Value.run_fold (F := Ideal) m' g')

end Equal

/-- Everything claimed. -/
theorem claim : Cert.Claim := ⟨Cert.Kernel.Gen.facts, Cert.KernelIdeal.Gen.facts, Cert.ReferenceIdeal.Gen.facts, Cert.Pre_general_position.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  trivial,
  fun m g m' g' pre same =>
    have general : ∀ c, Ciou.Pre.General (first m c) (second m c) := fun c => Ciou.Pre.general_of (pre c)
    ⟨value m, kernel_value general g, reference_value general m' g' same⟩⟩

end Cert.Proof

end
